-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MobaProj (m : (ℓ : Loc Cert.MobaProj.nD Cert.MobaProj.τ Cert.MobaProj.sig) → Buf (Elt Bits) ℓ) : Prop :=
  True

def Pre_MobaProjIdeal (m : (ℓ : Loc Cert.MobaProjIdeal.nD Cert.MobaProjIdeal.τ Cert.MobaProjIdeal.sig) → Buf (Elt Ideal) ℓ) : Prop :=
  True

def Pre_MobaProjRefIdeal (m : (ℓ : Loc Cert.MobaProjRefIdeal.nD Cert.MobaProjRefIdeal.τ Cert.MobaProjRefIdeal.sig) → Buf (Elt Ideal) ℓ) : Prop :=
  True

def Pre_SwaProj (m : (ℓ : Loc Cert.SwaProj.nD Cert.SwaProj.τ Cert.SwaProj.sig) → Buf (Elt Bits) ℓ) : Prop :=
  True

def Pre_SwaProjIdeal (m : (ℓ : Loc Cert.SwaProjIdeal.nD Cert.SwaProjIdeal.τ Cert.SwaProjIdeal.sig) → Buf (Elt Ideal) ℓ) : Prop :=
  True

def Pre_SwaProjRefIdeal (m : (ℓ : Loc Cert.SwaProjRefIdeal.nD Cert.SwaProjRefIdeal.τ Cert.SwaProjRefIdeal.sig) → Buf (Elt Ideal) ℓ) : Prop :=
  True

def Pre_NsaProj (m : (ℓ : Loc Cert.NsaProj.nD Cert.NsaProj.τ Cert.NsaProj.sig) → Buf (Elt Bits) ℓ) : Prop :=
  True

def Pre_NsaProjIdeal (m : (ℓ : Loc Cert.NsaProjIdeal.nD Cert.NsaProjIdeal.τ Cert.NsaProjIdeal.sig) → Buf (Elt Ideal) ℓ) : Prop :=
  True

def Pre_NsaProjRefIdeal (m : (ℓ : Loc Cert.NsaProjRefIdeal.nD Cert.NsaProjRefIdeal.τ Cert.NsaProjRefIdeal.sig) → Buf (Elt Ideal) ℓ) : Prop :=
  True

def Pre_MlaDown (m : (ℓ : Loc Cert.MlaDown.nD Cert.MlaDown.τ Cert.MlaDown.sig) → Buf (Elt Bits) ℓ) : Prop :=
  True

def Pre_MlaDownIdeal (m : (ℓ : Loc Cert.MlaDownIdeal.nD Cert.MlaDownIdeal.τ Cert.MlaDownIdeal.sig) → Buf (Elt Ideal) ℓ) : Prop :=
  True

def Pre_MlaDownRefIdeal (m : (ℓ : Loc Cert.MlaDownRefIdeal.nD Cert.MlaDownRefIdeal.τ Cert.MlaDownRefIdeal.sig) → Buf (Elt Ideal) ℓ) : Prop :=
  True

def Pre_MlaQuery (m : (ℓ : Loc Cert.MlaQuery.nD Cert.MlaQuery.τ Cert.MlaQuery.sig) → Buf (Elt Bits) ℓ) : Prop :=
  True

def Pre_MlaQueryIdeal (m : (ℓ : Loc Cert.MlaQueryIdeal.nD Cert.MlaQueryIdeal.τ Cert.MlaQueryIdeal.sig) → Buf (Elt Ideal) ℓ) : Prop :=
  True

def Pre_MlaQueryRefIdeal (m : (ℓ : Loc Cert.MlaQueryRefIdeal.nD Cert.MlaQueryRefIdeal.τ Cert.MlaQueryRefIdeal.sig) → Buf (Elt Ideal) ℓ) : Prop :=
  True

def Pre_MlaPairs (m : (ℓ : Loc Cert.MlaPairs.nD Cert.MlaPairs.τ Cert.MlaPairs.sig) → Buf (Elt Bits) ℓ) : Prop :=
  True

def Pre_MlaPairsIdeal (m : (ℓ : Loc Cert.MlaPairsIdeal.nD Cert.MlaPairsIdeal.τ Cert.MlaPairsIdeal.sig) → Buf (Elt Ideal) ℓ) : Prop :=
  True

def Pre_MlaPairsRefIdeal (m : (ℓ : Loc Cert.MlaPairsRefIdeal.nD Cert.MlaPairsRefIdeal.τ Cert.MlaPairsRefIdeal.sig) → Buf (Elt Ideal) ℓ) : Prop :=
  True

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepRefIdeal (m : (ℓ : Loc Cert.MlaPrepRefIdeal.nD Cert.MlaPrepRefIdeal.τ Cert.MlaPrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_MobaProj [hMobaProj : Cert.MobaProj.Facts] : Prop :=
  ∀ (m : (ℓ : Loc Cert.MobaProj.nD Cert.MobaProj.τ Cert.MobaProj.sig) → Buf (Elt Bits) ℓ) (g : Dev Cert.MobaProj.nD → PrngReg), Pre_MobaProj m →
    θ_run (Cert.MobaProj.defs (F := Bits)) (onTc (τ := Cert.MobaProj.τ) (Cert.MobaProj.main (F := Bits))) ⟨m, fun _ => 0, g⟩ (fun r => (∀ c : Dev Cert.MobaProj.nD,
      r.2.mem ((c.tc : Thread Cert.MobaProj.nD Cert.MobaProj.τ).loc Cert.MobaProj.main_arg0) = m ((c.tc : Thread Cert.MobaProj.nD Cert.MobaProj.τ).loc Cert.MobaProj.main_arg0)
      ∧ r.2.mem ((c.tc : Thread Cert.MobaProj.nD Cert.MobaProj.τ).loc Cert.MobaProj.main_arg1) = m ((c.tc : Thread Cert.MobaProj.nD Cert.MobaProj.τ).loc Cert.MobaProj.main_arg1))
      ∧ r.2.sem = fun _ => 0)

def quiescent_MobaProjIdeal [hMobaProjIdeal : Cert.MobaProjIdeal.Facts] : Prop :=
  ∀ (m : (ℓ : Loc Cert.MobaProjIdeal.nD Cert.MobaProjIdeal.τ Cert.MobaProjIdeal.sig) → Buf (Elt Ideal) ℓ) (g : Dev Cert.MobaProjIdeal.nD → PrngReg), Pre_MobaProjIdeal m →
    θ_run (Cert.MobaProjIdeal.defs (F := Ideal)) (onTc (τ := Cert.MobaProjIdeal.τ) (Cert.MobaProjIdeal.main (F := Ideal))) ⟨m, fun _ => 0, g⟩ (fun r => (∀ c : Dev Cert.MobaProjIdeal.nD,
      r.2.mem ((c.tc : Thread Cert.MobaProjIdeal.nD Cert.MobaProjIdeal.τ).loc Cert.MobaProjIdeal.main_arg0) = m ((c.tc : Thread Cert.MobaProjIdeal.nD Cert.MobaProjIdeal.τ).loc Cert.MobaProjIdeal.main_arg0)
      ∧ r.2.mem ((c.tc : Thread Cert.MobaProjIdeal.nD Cert.MobaProjIdeal.τ).loc Cert.MobaProjIdeal.main_arg1) = m ((c.tc : Thread Cert.MobaProjIdeal.nD Cert.MobaProjIdeal.τ).loc Cert.MobaProjIdeal.main_arg1))
      ∧ r.2.sem = fun _ => 0)

def quiescent_MobaProjRefIdeal [hMobaProjRefIdeal : Cert.MobaProjRefIdeal.Facts] : Prop :=
  ∀ (m : (ℓ : Loc Cert.MobaProjRefIdeal.nD Cert.MobaProjRefIdeal.τ Cert.MobaProjRefIdeal.sig) → Buf (Elt Ideal) ℓ) (g : Dev Cert.MobaProjRefIdeal.nD → PrngReg), Pre_MobaProjRefIdeal m →
    θ_run (Cert.MobaProjRefIdeal.defs (F := Ideal)) (onTc (τ := Cert.MobaProjRefIdeal.τ) (Cert.MobaProjRefIdeal.main (F := Ideal))) ⟨m, fun _ => 0, g⟩ (fun r => (∀ c : Dev Cert.MobaProjRefIdeal.nD,
      r.2.mem ((c.tc : Thread Cert.MobaProjRefIdeal.nD Cert.MobaProjRefIdeal.τ).loc Cert.MobaProjRefIdeal.main_arg0) = m ((c.tc : Thread Cert.MobaProjRefIdeal.nD Cert.MobaProjRefIdeal.τ).loc Cert.MobaProjRefIdeal.main_arg0)
      ∧ r.2.mem ((c.tc : Thread Cert.MobaProjRefIdeal.nD Cert.MobaProjRefIdeal.τ).loc Cert.MobaProjRefIdeal.main_arg1) = m ((c.tc : Thread Cert.MobaProjRefIdeal.nD Cert.MobaProjRefIdeal.τ).loc Cert.MobaProjRefIdeal.main_arg1))
      ∧ r.2.sem = fun _ => 0)

def quiescent_SwaProj [hSwaProj : Cert.SwaProj.Facts] : Prop :=
  ∀ (m : (ℓ : Loc Cert.SwaProj.nD Cert.SwaProj.τ Cert.SwaProj.sig) → Buf (Elt Bits) ℓ) (g : Dev Cert.SwaProj.nD → PrngReg), Pre_SwaProj m →
    θ_run (Cert.SwaProj.defs (F := Bits)) (onTc (τ := Cert.SwaProj.τ) (Cert.SwaProj.main (F := Bits))) ⟨m, fun _ => 0, g⟩ (fun r => (∀ c : Dev Cert.SwaProj.nD,
      r.2.mem ((c.tc : Thread Cert.SwaProj.nD Cert.SwaProj.τ).loc Cert.SwaProj.main_arg0) = m ((c.tc : Thread Cert.SwaProj.nD Cert.SwaProj.τ).loc Cert.SwaProj.main_arg0)
      ∧ r.2.mem ((c.tc : Thread Cert.SwaProj.nD Cert.SwaProj.τ).loc Cert.SwaProj.main_arg1) = m ((c.tc : Thread Cert.SwaProj.nD Cert.SwaProj.τ).loc Cert.SwaProj.main_arg1))
      ∧ r.2.sem = fun _ => 0)

def quiescent_SwaProjIdeal [hSwaProjIdeal : Cert.SwaProjIdeal.Facts] : Prop :=
  ∀ (m : (ℓ : Loc Cert.SwaProjIdeal.nD Cert.SwaProjIdeal.τ Cert.SwaProjIdeal.sig) → Buf (Elt Ideal) ℓ) (g : Dev Cert.SwaProjIdeal.nD → PrngReg), Pre_SwaProjIdeal m →
    θ_run (Cert.SwaProjIdeal.defs (F := Ideal)) (onTc (τ := Cert.SwaProjIdeal.τ) (Cert.SwaProjIdeal.main (F := Ideal))) ⟨m, fun _ => 0, g⟩ (fun r => (∀ c : Dev Cert.SwaProjIdeal.nD,
      r.2.mem ((c.tc : Thread Cert.SwaProjIdeal.nD Cert.SwaProjIdeal.τ).loc Cert.SwaProjIdeal.main_arg0) = m ((c.tc : Thread Cert.SwaProjIdeal.nD Cert.SwaProjIdeal.τ).loc Cert.SwaProjIdeal.main_arg0)
      ∧ r.2.mem ((c.tc : Thread Cert.SwaProjIdeal.nD Cert.SwaProjIdeal.τ).loc Cert.SwaProjIdeal.main_arg1) = m ((c.tc : Thread Cert.SwaProjIdeal.nD Cert.SwaProjIdeal.τ).loc Cert.SwaProjIdeal.main_arg1))
      ∧ r.2.sem = fun _ => 0)

def quiescent_SwaProjRefIdeal [hSwaProjRefIdeal : Cert.SwaProjRefIdeal.Facts] : Prop :=
  ∀ (m : (ℓ : Loc Cert.SwaProjRefIdeal.nD Cert.SwaProjRefIdeal.τ Cert.SwaProjRefIdeal.sig) → Buf (Elt Ideal) ℓ) (g : Dev Cert.SwaProjRefIdeal.nD → PrngReg), Pre_SwaProjRefIdeal m →
    θ_run (Cert.SwaProjRefIdeal.defs (F := Ideal)) (onTc (τ := Cert.SwaProjRefIdeal.τ) (Cert.SwaProjRefIdeal.main (F := Ideal))) ⟨m, fun _ => 0, g⟩ (fun r => (∀ c : Dev Cert.SwaProjRefIdeal.nD,
      r.2.mem ((c.tc : Thread Cert.SwaProjRefIdeal.nD Cert.SwaProjRefIdeal.τ).loc Cert.SwaProjRefIdeal.main_arg0) = m ((c.tc : Thread Cert.SwaProjRefIdeal.nD Cert.SwaProjRefIdeal.τ).loc Cert.SwaProjRefIdeal.main_arg0)
      ∧ r.2.mem ((c.tc : Thread Cert.SwaProjRefIdeal.nD Cert.SwaProjRefIdeal.τ).loc Cert.SwaProjRefIdeal.main_arg1) = m ((c.tc : Thread Cert.SwaProjRefIdeal.nD Cert.SwaProjRefIdeal.τ).loc Cert.SwaProjRefIdeal.main_arg1))
      ∧ r.2.sem = fun _ => 0)

def quiescent_NsaProj [hNsaProj : Cert.NsaProj.Facts] : Prop :=
  ∀ (m : (ℓ : Loc Cert.NsaProj.nD Cert.NsaProj.τ Cert.NsaProj.sig) → Buf (Elt Bits) ℓ) (g : Dev Cert.NsaProj.nD → PrngReg), Pre_NsaProj m →
    θ_run (Cert.NsaProj.defs (F := Bits)) (onTc (τ := Cert.NsaProj.τ) (Cert.NsaProj.main (F := Bits))) ⟨m, fun _ => 0, g⟩ (fun r => (∀ c : Dev Cert.NsaProj.nD,
      r.2.mem ((c.tc : Thread Cert.NsaProj.nD Cert.NsaProj.τ).loc Cert.NsaProj.main_arg0) = m ((c.tc : Thread Cert.NsaProj.nD Cert.NsaProj.τ).loc Cert.NsaProj.main_arg0)
      ∧ r.2.mem ((c.tc : Thread Cert.NsaProj.nD Cert.NsaProj.τ).loc Cert.NsaProj.main_arg1) = m ((c.tc : Thread Cert.NsaProj.nD Cert.NsaProj.τ).loc Cert.NsaProj.main_arg1))
      ∧ r.2.sem = fun _ => 0)

def quiescent_NsaProjIdeal [hNsaProjIdeal : Cert.NsaProjIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg), Pre_NsaProjIdeal m →
    θ_run (Cert.NsaProjIdeal.defs (F := Ideal)) (onTc (τ := Cert.NsaProjIdeal.τ) (Cert.NsaProjIdeal.main (F := Ideal))) ⟨m, fun _ => 0, g⟩ (fun r => (∀ c : Dev Cert.NsaProjIdeal.nD,
      r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
      ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1))
      ∧ r.2.sem = fun _ => 0)

def quiescent_NsaProjRefIdeal [hNsaProjRefIdeal : Cert.NsaProjRefIdeal.Facts] : Prop :=
  ∀ (m : (ℓ : Loc Cert.NsaProjRefIdeal.nD Cert.NsaProjRefIdeal.τ Cert.NsaProjRefIdeal.sig) → Buf (Elt Ideal) ℓ) (g : Dev Cert.NsaProjRefIdeal.nD → PrngReg), Pre_NsaProjRefIdeal m →
    θ_run (Cert.NsaProjRefIdeal.defs (F := Ideal)) (onTc (τ := Cert.NsaProjRefIdeal.τ) (Cert.NsaProjRefIdeal.main (F := Ideal))) ⟨m, fun _ => 0, g⟩ (fun r => (∀ c : Dev Cert.NsaProjRefIdeal.nD,
      r.2.mem ((c.tc : Thread Cert.NsaProjRefIdeal.nD Cert.NsaProjRefIdeal.τ).loc Cert.NsaProjRefIdeal.main_arg0) = m ((c.tc : Thread Cert.NsaProjRefIdeal.nD Cert.NsaProjRefIdeal.τ).loc Cert.NsaProjRefIdeal.main_arg0)
      ∧ r.2.mem ((c.tc : Thread Cert.NsaProjRefIdeal.nD Cert.NsaProjRefIdeal.τ).loc Cert.NsaProjRefIdeal.main_arg1) = m ((c.tc : Thread Cert.NsaProjRefIdeal.nD Cert.NsaProjRefIdeal.τ).loc Cert.NsaProjRefIdeal.main_arg1))
      ∧ r.2.sem = fun _ => 0)

def quiescent_MlaDown [hMlaDown : Cert.MlaDown.Facts] : Prop :=
  ∀ (m : (ℓ : Loc Cert.MlaDown.nD Cert.MlaDown.τ Cert.MlaDown.sig) → Buf (Elt Bits) ℓ) (g : Dev Cert.MlaDown.nD → PrngReg), Pre_MlaDown m →
    θ_run (Cert.MlaDown.defs (F := Bits)) (onTc (τ := Cert.MlaDown.τ) (Cert.MlaDown.main (F := Bits))) ⟨m, fun _ => 0, g⟩ (fun r => (∀ c : Dev Cert.MlaDown.nD,
      r.2.mem ((c.tc : Thread Cert.MlaDown.nD Cert.MlaDown.τ).loc Cert.MlaDown.main_arg0) = m ((c.tc : Thread Cert.MlaDown.nD Cert.MlaDown.τ).loc Cert.MlaDown.main_arg0)
      ∧ r.2.mem ((c.tc : Thread Cert.MlaDown.nD Cert.MlaDown.τ).loc Cert.MlaDown.main_arg1) = m ((c.tc : Thread Cert.MlaDown.nD Cert.MlaDown.τ).loc Cert.MlaDown.main_arg1))
      ∧ r.2.sem = fun _ => 0)

def quiescent_MlaDownIdeal [hMlaDownIdeal : Cert.MlaDownIdeal.Facts] : Prop :=
  ∀ (m : (ℓ : Loc Cert.MlaDownIdeal.nD Cert.MlaDownIdeal.τ Cert.MlaDownIdeal.sig) → Buf (Elt Ideal) ℓ) (g : Dev Cert.MlaDownIdeal.nD → PrngReg), Pre_MlaDownIdeal m →
    θ_run (Cert.MlaDownIdeal.defs (F := Ideal)) (onTc (τ := Cert.MlaDownIdeal.τ) (Cert.MlaDownIdeal.main (F := Ideal))) ⟨m, fun _ => 0, g⟩ (fun r => (∀ c : Dev Cert.MlaDownIdeal.nD,
      r.2.mem ((c.tc : Thread Cert.MlaDownIdeal.nD Cert.MlaDownIdeal.τ).loc Cert.MlaDownIdeal.main_arg0) = m ((c.tc : Thread Cert.MlaDownIdeal.nD Cert.MlaDownIdeal.τ).loc Cert.MlaDownIdeal.main_arg0)
      ∧ r.2.mem ((c.tc : Thread Cert.MlaDownIdeal.nD Cert.MlaDownIdeal.τ).loc Cert.MlaDownIdeal.main_arg1) = m ((c.tc : Thread Cert.MlaDownIdeal.nD Cert.MlaDownIdeal.τ).loc Cert.MlaDownIdeal.main_arg1))
      ∧ r.2.sem = fun _ => 0)

def quiescent_MlaDownRefIdeal [hMlaDownRefIdeal : Cert.MlaDownRefIdeal.Facts] : Prop :=
  ∀ (m : (ℓ : Loc Cert.MlaDownRefIdeal.nD Cert.MlaDownRefIdeal.τ Cert.MlaDownRefIdeal.sig) → Buf (Elt Ideal) ℓ) (g : Dev Cert.MlaDownRefIdeal.nD → PrngReg), Pre_MlaDownRefIdeal m →
    θ_run (Cert.MlaDownRefIdeal.defs (F := Ideal)) (onTc (τ := Cert.MlaDownRefIdeal.τ) (Cert.MlaDownRefIdeal.main (F := Ideal))) ⟨m, fun _ => 0, g⟩ (fun r => (∀ c : Dev Cert.MlaDownRefIdeal.nD,
      r.2.mem ((c.tc : Thread Cert.MlaDownRefIdeal.nD Cert.MlaDownRefIdeal.τ).loc Cert.MlaDownRefIdeal.main_arg0) = m ((c.tc : Thread Cert.MlaDownRefIdeal.nD Cert.MlaDownRefIdeal.τ).loc Cert.MlaDownRefIdeal.main_arg0)
      ∧ r.2.mem ((c.tc : Thread Cert.MlaDownRefIdeal.nD Cert.MlaDownRefIdeal.τ).loc Cert.MlaDownRefIdeal.main_arg1) = m ((c.tc : Thread Cert.MlaDownRefIdeal.nD Cert.MlaDownRefIdeal.τ).loc Cert.MlaDownRefIdeal.main_arg1))
      ∧ r.2.sem = fun _ => 0)

def quiescent_MlaQuery [hMlaQuery : Cert.MlaQuery.Facts] : Prop :=
  ∀ (m : (ℓ : Loc Cert.MlaQuery.nD Cert.MlaQuery.τ Cert.MlaQuery.sig) → Buf (Elt Bits) ℓ) (g : Dev Cert.MlaQuery.nD → PrngReg), Pre_MlaQuery m →
    θ_run (Cert.MlaQuery.defs (F := Bits)) (onTc (τ := Cert.MlaQuery.τ) (Cert.MlaQuery.main (F := Bits))) ⟨m, fun _ => 0, g⟩ (fun r => (∀ c : Dev Cert.MlaQuery.nD,
      r.2.mem ((c.tc : Thread Cert.MlaQuery.nD Cert.MlaQuery.τ).loc Cert.MlaQuery.main_arg0) = m ((c.tc : Thread Cert.MlaQuery.nD Cert.MlaQuery.τ).loc Cert.MlaQuery.main_arg0)
      ∧ r.2.mem ((c.tc : Thread Cert.MlaQuery.nD Cert.MlaQuery.τ).loc Cert.MlaQuery.main_arg1) = m ((c.tc : Thread Cert.MlaQuery.nD Cert.MlaQuery.τ).loc Cert.MlaQuery.main_arg1))
      ∧ r.2.sem = fun _ => 0)

def quiescent_MlaQueryIdeal [hMlaQueryIdeal : Cert.MlaQueryIdeal.Facts] : Prop :=
  ∀ (m : (ℓ : Loc Cert.MlaQueryIdeal.nD Cert.MlaQueryIdeal.τ Cert.MlaQueryIdeal.sig) → Buf (Elt Ideal) ℓ) (g : Dev Cert.MlaQueryIdeal.nD → PrngReg), Pre_MlaQueryIdeal m →
    θ_run (Cert.MlaQueryIdeal.defs (F := Ideal)) (onTc (τ := Cert.MlaQueryIdeal.τ) (Cert.MlaQueryIdeal.main (F := Ideal))) ⟨m, fun _ => 0, g⟩ (fun r => (∀ c : Dev Cert.MlaQueryIdeal.nD,
      r.2.mem ((c.tc : Thread Cert.MlaQueryIdeal.nD Cert.MlaQueryIdeal.τ).loc Cert.MlaQueryIdeal.main_arg0) = m ((c.tc : Thread Cert.MlaQueryIdeal.nD Cert.MlaQueryIdeal.τ).loc Cert.MlaQueryIdeal.main_arg0)
      ∧ r.2.mem ((c.tc : Thread Cert.MlaQueryIdeal.nD Cert.MlaQueryIdeal.τ).loc Cert.MlaQueryIdeal.main_arg1) = m ((c.tc : Thread Cert.MlaQueryIdeal.nD Cert.MlaQueryIdeal.τ).loc Cert.MlaQueryIdeal.main_arg1))
      ∧ r.2.sem = fun _ => 0)

def quiescent_MlaQueryRefIdeal [hMlaQueryRefIdeal : Cert.MlaQueryRefIdeal.Facts] : Prop :=
  ∀ (m : (ℓ : Loc Cert.MlaQueryRefIdeal.nD Cert.MlaQueryRefIdeal.τ Cert.MlaQueryRefIdeal.sig) → Buf (Elt Ideal) ℓ) (g : Dev Cert.MlaQueryRefIdeal.nD → PrngReg), Pre_MlaQueryRefIdeal m →
    θ_run (Cert.MlaQueryRefIdeal.defs (F := Ideal)) (onTc (τ := Cert.MlaQueryRefIdeal.τ) (Cert.MlaQueryRefIdeal.main (F := Ideal))) ⟨m, fun _ => 0, g⟩ (fun r => (∀ c : Dev Cert.MlaQueryRefIdeal.nD,
      r.2.mem ((c.tc : Thread Cert.MlaQueryRefIdeal.nD Cert.MlaQueryRefIdeal.τ).loc Cert.MlaQueryRefIdeal.main_arg0) = m ((c.tc : Thread Cert.MlaQueryRefIdeal.nD Cert.MlaQueryRefIdeal.τ).loc Cert.MlaQueryRefIdeal.main_arg0)
      ∧ r.2.mem ((c.tc : Thread Cert.MlaQueryRefIdeal.nD Cert.MlaQueryRefIdeal.τ).loc Cert.MlaQueryRefIdeal.main_arg1) = m ((c.tc : Thread Cert.MlaQueryRefIdeal.nD Cert.MlaQueryRefIdeal.τ).loc Cert.MlaQueryRefIdeal.main_arg1))
      ∧ r.2.sem = fun _ => 0)

def quiescent_MlaPairs [hMlaPairs : Cert.MlaPairs.Facts] : Prop :=
  ∀ (m : (ℓ : Loc Cert.MlaPairs.nD Cert.MlaPairs.τ Cert.MlaPairs.sig) → Buf (Elt Bits) ℓ) (g : Dev Cert.MlaPairs.nD → PrngReg), Pre_MlaPairs m →
    θ_run (Cert.MlaPairs.defs (F := Bits)) (onTc (τ := Cert.MlaPairs.τ) (Cert.MlaPairs.main (F := Bits))) ⟨m, fun _ => 0, g⟩ (fun r => (∀ c : Dev Cert.MlaPairs.nD,
      r.2.mem ((c.tc : Thread Cert.MlaPairs.nD Cert.MlaPairs.τ).loc Cert.MlaPairs.main_arg0) = m ((c.tc : Thread Cert.MlaPairs.nD Cert.MlaPairs.τ).loc Cert.MlaPairs.main_arg0)
      ∧ r.2.mem ((c.tc : Thread Cert.MlaPairs.nD Cert.MlaPairs.τ).loc Cert.MlaPairs.main_arg1) = m ((c.tc : Thread Cert.MlaPairs.nD Cert.MlaPairs.τ).loc Cert.MlaPairs.main_arg1))
      ∧ r.2.sem = fun _ => 0)

def quiescent_MlaPairsIdeal [hMlaPairsIdeal : Cert.MlaPairsIdeal.Facts] : Prop :=
  ∀ (m : (ℓ : Loc Cert.MlaPairsIdeal.nD Cert.MlaPairsIdeal.τ Cert.MlaPairsIdeal.sig) → Buf (Elt Ideal) ℓ) (g : Dev Cert.MlaPairsIdeal.nD → PrngReg), Pre_MlaPairsIdeal m →
    θ_run (Cert.MlaPairsIdeal.defs (F := Ideal)) (onTc (τ := Cert.MlaPairsIdeal.τ) (Cert.MlaPairsIdeal.main (F := Ideal))) ⟨m, fun _ => 0, g⟩ (fun r => (∀ c : Dev Cert.MlaPairsIdeal.nD,
      r.2.mem ((c.tc : Thread Cert.MlaPairsIdeal.nD Cert.MlaPairsIdeal.τ).loc Cert.MlaPairsIdeal.main_arg0) = m ((c.tc : Thread Cert.MlaPairsIdeal.nD Cert.MlaPairsIdeal.τ).loc Cert.MlaPairsIdeal.main_arg0)
      ∧ r.2.mem ((c.tc : Thread Cert.MlaPairsIdeal.nD Cert.MlaPairsIdeal.τ).loc Cert.MlaPairsIdeal.main_arg1) = m ((c.tc : Thread Cert.MlaPairsIdeal.nD Cert.MlaPairsIdeal.τ).loc Cert.MlaPairsIdeal.main_arg1))
      ∧ r.2.sem = fun _ => 0)

def quiescent_MlaPairsRefIdeal [hMlaPairsRefIdeal : Cert.MlaPairsRefIdeal.Facts] : Prop :=
  ∀ (m : (ℓ : Loc Cert.MlaPairsRefIdeal.nD Cert.MlaPairsRefIdeal.τ Cert.MlaPairsRefIdeal.sig) → Buf (Elt Ideal) ℓ) (g : Dev Cert.MlaPairsRefIdeal.nD → PrngReg), Pre_MlaPairsRefIdeal m →
    θ_run (Cert.MlaPairsRefIdeal.defs (F := Ideal)) (onTc (τ := Cert.MlaPairsRefIdeal.τ) (Cert.MlaPairsRefIdeal.main (F := Ideal))) ⟨m, fun _ => 0, g⟩ (fun r => (∀ c : Dev Cert.MlaPairsRefIdeal.nD,
      r.2.mem ((c.tc : Thread Cert.MlaPairsRefIdeal.nD Cert.MlaPairsRefIdeal.τ).loc Cert.MlaPairsRefIdeal.main_arg0) = m ((c.tc : Thread Cert.MlaPairsRefIdeal.nD Cert.MlaPairsRefIdeal.τ).loc Cert.MlaPairsRefIdeal.main_arg0)
      ∧ r.2.mem ((c.tc : Thread Cert.MlaPairsRefIdeal.nD Cert.MlaPairsRefIdeal.τ).loc Cert.MlaPairsRefIdeal.main_arg1) = m ((c.tc : Thread Cert.MlaPairsRefIdeal.nD Cert.MlaPairsRefIdeal.τ).loc Cert.MlaPairsRefIdeal.main_arg1))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2))
      ∧ r.2.sem = fun _ => 0)

def quiescent_MlaPrepRefIdeal [hMlaPrepRefIdeal : Cert.MlaPrepRefIdeal.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v7_0)) (v1 : (c : Dev Cert.FfnDownIdeal.nD) → Buf (Elt Ideal) ((c.tc : Thread Cert.FfnDownIdeal.nD Cert.FfnDownIdeal.τ).loc Cert.FfnDownIdeal.main_v7_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v7_0) = v0 c
          ∧ r.2.mem ((c.tc : Thread Cert.FfnDownIdeal.nD Cert.FfnDownIdeal.τ).loc Cert.FfnDownIdeal.main_v7_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v34) = v0 c
          ∧ r.2.mem ((c.tc : Thread Cert.FfnDownRefIdeal.nD Cert.FfnDownRefIdeal.τ).loc Cert.FfnDownRefIdeal.main_v35) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v7_0)) (v1 : (c : Dev Cert.OutProjIdeal.nD) → Buf (Elt Ideal) ((c.tc : Thread Cert.OutProjIdeal.nD Cert.OutProjIdeal.τ).loc Cert.OutProjIdeal.main_v7_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v7_0) = v0 c
          ∧ r.2.mem ((c.tc : Thread Cert.OutProjIdeal.nD Cert.OutProjIdeal.τ).loc Cert.OutProjIdeal.main_v7_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v33) = v0 c
          ∧ r.2.mem ((c.tc : Thread Cert.OutProjRefIdeal.nD Cert.OutProjRefIdeal.τ).loc Cert.OutProjRefIdeal.main_v34) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_MobaProj_MobaProjIdeal : Prop :=
  True

def algebraic_MobaProjIdeal_MobaProjRefIdeal [hMobaProjIdeal : Cert.MobaProjIdeal.Facts] [hMobaProjRefIdeal : Cert.MobaProjRefIdeal.Facts] : Prop :=
  ∀ (m : (ℓ : Loc Cert.MobaProjIdeal.nD Cert.MobaProjIdeal.τ Cert.MobaProjIdeal.sig) → Buf (Elt Ideal) ℓ) (g : Dev Cert.MobaProjIdeal.nD → PrngReg)
    (m' : (ℓ : Loc Cert.MobaProjRefIdeal.nD Cert.MobaProjRefIdeal.τ Cert.MobaProjRefIdeal.sig) → Buf (Elt Ideal) ℓ) (g' : Dev Cert.MobaProjRefIdeal.nD → PrngReg), Pre_MobaProjIdeal m →
    (∀ c : Dev Cert.MobaProjIdeal.nD,
      m' ((c.tc : Thread Cert.MobaProjRefIdeal.nD Cert.MobaProjRefIdeal.τ).loc Cert.MobaProjRefIdeal.main_arg0) = m ((c.tc : Thread Cert.MobaProjIdeal.nD Cert.MobaProjIdeal.τ).loc Cert.MobaProjIdeal.main_arg0)
      ∧ m' ((c.tc : Thread Cert.MobaProjRefIdeal.nD Cert.MobaProjRefIdeal.τ).loc Cert.MobaProjRefIdeal.main_arg1) = m ((c.tc : Thread Cert.MobaProjIdeal.nD Cert.MobaProjIdeal.τ).loc Cert.MobaProjIdeal.main_arg1)) →
    ∃ (v0 : (c : Dev Cert.MobaProjIdeal.nD) → Buf (Elt Ideal) ((c.tc : Thread Cert.MobaProjIdeal.nD Cert.MobaProjIdeal.τ).loc Cert.MobaProjIdeal.main_v1)),
      θ_run (Cert.MobaProjIdeal.defs (F := Ideal)) (onTc (τ := Cert.MobaProjIdeal.τ) (Cert.MobaProjIdeal.main (F := Ideal))) ⟨m, fun _ => 0, g⟩ (fun r => ∀ c : Dev Cert.MobaProjIdeal.nD,
          r.2.mem ((c.tc : Thread Cert.MobaProjIdeal.nD Cert.MobaProjIdeal.τ).loc Cert.MobaProjIdeal.main_v1) = v0 c
          ∧ r.2.mem ((c.tc : Thread Cert.MobaProjIdeal.nD Cert.MobaProjIdeal.τ).loc Cert.MobaProjIdeal.main_arg0) = m ((c.tc : Thread Cert.MobaProjIdeal.nD Cert.MobaProjIdeal.τ).loc Cert.MobaProjIdeal.main_arg0)
          ∧ r.2.mem ((c.tc : Thread Cert.MobaProjIdeal.nD Cert.MobaProjIdeal.τ).loc Cert.MobaProjIdeal.main_arg1) = m ((c.tc : Thread Cert.MobaProjIdeal.nD Cert.MobaProjIdeal.τ).loc Cert.MobaProjIdeal.main_arg1))
      ∧ θ_run (Cert.MobaProjRefIdeal.defs (F := Ideal)) (onTc (τ := Cert.MobaProjRefIdeal.τ) (Cert.MobaProjRefIdeal.main (F := Ideal))) ⟨m', fun _ => 0, g'⟩ (fun r => ∀ c : Dev Cert.MobaProjRefIdeal.nD,
          r.2.mem ((c.tc : Thread Cert.MobaProjRefIdeal.nD Cert.MobaProjRefIdeal.τ).loc Cert.MobaProjRefIdeal.main_v8) = v0 c
          ∧ r.2.mem ((c.tc : Thread Cert.MobaProjRefIdeal.nD Cert.MobaProjRefIdeal.τ).loc Cert.MobaProjRefIdeal.main_arg0) = m' ((c.tc : Thread Cert.MobaProjRefIdeal.nD Cert.MobaProjRefIdeal.τ).loc Cert.MobaProjRefIdeal.main_arg0)
          ∧ r.2.mem ((c.tc : Thread Cert.MobaProjRefIdeal.nD Cert.MobaProjRefIdeal.τ).loc Cert.MobaProjRefIdeal.main_arg1) = m' ((c.tc : Thread Cert.MobaProjRefIdeal.nD Cert.MobaProjRefIdeal.τ).loc Cert.MobaProjRefIdeal.main_arg1))

def preserves_SwaProj_SwaProjIdeal : Prop :=
  True

def algebraic_SwaProjIdeal_SwaProjRefIdeal [hSwaProjIdeal : Cert.SwaProjIdeal.Facts] [hSwaProjRefIdeal : Cert.SwaProjRefIdeal.Facts] : Prop :=
  ∀ (m : (ℓ : Loc Cert.SwaProjIdeal.nD Cert.SwaProjIdeal.τ Cert.SwaProjIdeal.sig) → Buf (Elt Ideal) ℓ) (g : Dev Cert.SwaProjIdeal.nD → PrngReg)
    (m' : (ℓ : Loc Cert.SwaProjRefIdeal.nD Cert.SwaProjRefIdeal.τ Cert.SwaProjRefIdeal.sig) → Buf (Elt Ideal) ℓ) (g' : Dev Cert.SwaProjRefIdeal.nD → PrngReg), Pre_SwaProjIdeal m →
    (∀ c : Dev Cert.SwaProjIdeal.nD,
      m' ((c.tc : Thread Cert.SwaProjRefIdeal.nD Cert.SwaProjRefIdeal.τ).loc Cert.SwaProjRefIdeal.main_arg0) = m ((c.tc : Thread Cert.SwaProjIdeal.nD Cert.SwaProjIdeal.τ).loc Cert.SwaProjIdeal.main_arg0)
      ∧ m' ((c.tc : Thread Cert.SwaProjRefIdeal.nD Cert.SwaProjRefIdeal.τ).loc Cert.SwaProjRefIdeal.main_arg1) = m ((c.tc : Thread Cert.SwaProjIdeal.nD Cert.SwaProjIdeal.τ).loc Cert.SwaProjIdeal.main_arg1)) →
    ∃ (v0 : (c : Dev Cert.SwaProjIdeal.nD) → Buf (Elt Ideal) ((c.tc : Thread Cert.SwaProjIdeal.nD Cert.SwaProjIdeal.τ).loc Cert.SwaProjIdeal.main_v1)),
      θ_run (Cert.SwaProjIdeal.defs (F := Ideal)) (onTc (τ := Cert.SwaProjIdeal.τ) (Cert.SwaProjIdeal.main (F := Ideal))) ⟨m, fun _ => 0, g⟩ (fun r => ∀ c : Dev Cert.SwaProjIdeal.nD,
          r.2.mem ((c.tc : Thread Cert.SwaProjIdeal.nD Cert.SwaProjIdeal.τ).loc Cert.SwaProjIdeal.main_v1) = v0 c
          ∧ r.2.mem ((c.tc : Thread Cert.SwaProjIdeal.nD Cert.SwaProjIdeal.τ).loc Cert.SwaProjIdeal.main_arg0) = m ((c.tc : Thread Cert.SwaProjIdeal.nD Cert.SwaProjIdeal.τ).loc Cert.SwaProjIdeal.main_arg0)
          ∧ r.2.mem ((c.tc : Thread Cert.SwaProjIdeal.nD Cert.SwaProjIdeal.τ).loc Cert.SwaProjIdeal.main_arg1) = m ((c.tc : Thread Cert.SwaProjIdeal.nD Cert.SwaProjIdeal.τ).loc Cert.SwaProjIdeal.main_arg1))
      ∧ θ_run (Cert.SwaProjRefIdeal.defs (F := Ideal)) (onTc (τ := Cert.SwaProjRefIdeal.τ) (Cert.SwaProjRefIdeal.main (F := Ideal))) ⟨m', fun _ => 0, g'⟩ (fun r => ∀ c : Dev Cert.SwaProjRefIdeal.nD,
          r.2.mem ((c.tc : Thread Cert.SwaProjRefIdeal.nD Cert.SwaProjRefIdeal.τ).loc Cert.SwaProjRefIdeal.main_v8) = v0 c
          ∧ r.2.mem ((c.tc : Thread Cert.SwaProjRefIdeal.nD Cert.SwaProjRefIdeal.τ).loc Cert.SwaProjRefIdeal.main_arg0) = m' ((c.tc : Thread Cert.SwaProjRefIdeal.nD Cert.SwaProjRefIdeal.τ).loc Cert.SwaProjRefIdeal.main_arg0)
          ∧ r.2.mem ((c.tc : Thread Cert.SwaProjRefIdeal.nD Cert.SwaProjRefIdeal.τ).loc Cert.SwaProjRefIdeal.main_arg1) = m' ((c.tc : Thread Cert.SwaProjRefIdeal.nD Cert.SwaProjRefIdeal.τ).loc Cert.SwaProjRefIdeal.main_arg1))

def preserves_NsaProj_NsaProjIdeal : Prop :=
  True

def algebraic_NsaProjIdeal_NsaProjRefIdeal [hNsaProjIdeal : Cert.NsaProjIdeal.Facts] [hNsaProjRefIdeal : Cert.NsaProjRefIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg)
    (m' : (ℓ : Loc Cert.NsaProjRefIdeal.nD Cert.NsaProjRefIdeal.τ Cert.NsaProjRefIdeal.sig) → Buf (Elt Ideal) ℓ) (g' : Dev Cert.NsaProjRefIdeal.nD → PrngReg), Pre_NsaProjIdeal m →
    (∀ c : Dev Cert.NsaProjIdeal.nD,
      m' ((c.tc : Thread Cert.NsaProjRefIdeal.nD Cert.NsaProjRefIdeal.τ).loc Cert.NsaProjRefIdeal.main_arg0) = m ((c.tc : Thread Cert.NsaProjIdeal.nD Cert.NsaProjIdeal.τ).loc Cert.NsaProjIdeal.main_arg0)
      ∧ m' ((c.tc : Thread Cert.NsaProjRefIdeal.nD Cert.NsaProjRefIdeal.τ).loc Cert.NsaProjRefIdeal.main_arg1) = m ((c.tc : Thread Cert.NsaProjIdeal.nD Cert.NsaProjIdeal.τ).loc Cert.NsaProjIdeal.main_arg1)) →
    ∃ (v0 : (c : Dev Cert.NsaProjIdeal.nD) → Buf (Elt Ideal) ((c.tc : Thread Cert.NsaProjIdeal.nD Cert.NsaProjIdeal.τ).loc Cert.NsaProjIdeal.main_v1)),
      θ_run (Cert.NsaProjIdeal.defs (F := Ideal)) (onTc (τ := Cert.NsaProjIdeal.τ) (Cert.NsaProjIdeal.main (F := Ideal))) ⟨m, fun _ => 0, g⟩ (fun r => ∀ c : Dev Cert.NsaProjIdeal.nD,
          r.2.mem ((c.tc : Thread Cert.NsaProjIdeal.nD Cert.NsaProjIdeal.τ).loc Cert.NsaProjIdeal.main_v1) = v0 c
          ∧ r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
          ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1))
      ∧ θ_run (Cert.NsaProjRefIdeal.defs (F := Ideal)) (onTc (τ := Cert.NsaProjRefIdeal.τ) (Cert.NsaProjRefIdeal.main (F := Ideal))) ⟨m', fun _ => 0, g'⟩ (fun r => ∀ c : Dev Cert.NsaProjRefIdeal.nD,
          r.2.mem ((c.tc : Thread Cert.NsaProjRefIdeal.nD Cert.NsaProjRefIdeal.τ).loc Cert.NsaProjRefIdeal.main_v8) = v0 c
          ∧ r.2.mem ((c.tc : Thread Cert.NsaProjRefIdeal.nD Cert.NsaProjRefIdeal.τ).loc Cert.NsaProjRefIdeal.main_arg0) = m' ((c.tc : Thread Cert.NsaProjRefIdeal.nD Cert.NsaProjRefIdeal.τ).loc Cert.NsaProjRefIdeal.main_arg0)
          ∧ r.2.mem ((c.tc : Thread Cert.NsaProjRefIdeal.nD Cert.NsaProjRefIdeal.τ).loc Cert.NsaProjRefIdeal.main_arg1) = m' ((c.tc : Thread Cert.NsaProjRefIdeal.nD Cert.NsaProjRefIdeal.τ).loc Cert.NsaProjRefIdeal.main_arg1))

def preserves_MlaDown_MlaDownIdeal : Prop :=
  True

def algebraic_MlaDownIdeal_MlaDownRefIdeal [hMlaDownIdeal : Cert.MlaDownIdeal.Facts] [hMlaDownRefIdeal : Cert.MlaDownRefIdeal.Facts] : Prop :=
  ∀ (m : (ℓ : Loc Cert.MlaDownIdeal.nD Cert.MlaDownIdeal.τ Cert.MlaDownIdeal.sig) → Buf (Elt Ideal) ℓ) (g : Dev Cert.MlaDownIdeal.nD → PrngReg)
    (m' : (ℓ : Loc Cert.MlaDownRefIdeal.nD Cert.MlaDownRefIdeal.τ Cert.MlaDownRefIdeal.sig) → Buf (Elt Ideal) ℓ) (g' : Dev Cert.MlaDownRefIdeal.nD → PrngReg), Pre_MlaDownIdeal m →
    (∀ c : Dev Cert.MlaDownIdeal.nD,
      m' ((c.tc : Thread Cert.MlaDownRefIdeal.nD Cert.MlaDownRefIdeal.τ).loc Cert.MlaDownRefIdeal.main_arg0) = m ((c.tc : Thread Cert.MlaDownIdeal.nD Cert.MlaDownIdeal.τ).loc Cert.MlaDownIdeal.main_arg0)
      ∧ m' ((c.tc : Thread Cert.MlaDownRefIdeal.nD Cert.MlaDownRefIdeal.τ).loc Cert.MlaDownRefIdeal.main_arg1) = m ((c.tc : Thread Cert.MlaDownIdeal.nD Cert.MlaDownIdeal.τ).loc Cert.MlaDownIdeal.main_arg1)) →
    ∃ (v0 : (c : Dev Cert.MlaDownIdeal.nD) → Buf (Elt Ideal) ((c.tc : Thread Cert.MlaDownIdeal.nD Cert.MlaDownIdeal.τ).loc Cert.MlaDownIdeal.main_v8)),
      θ_run (Cert.MlaDownIdeal.defs (F := Ideal)) (onTc (τ := Cert.MlaDownIdeal.τ) (Cert.MlaDownIdeal.main (F := Ideal))) ⟨m, fun _ => 0, g⟩ (fun r => ∀ c : Dev Cert.MlaDownIdeal.nD,
          r.2.mem ((c.tc : Thread Cert.MlaDownIdeal.nD Cert.MlaDownIdeal.τ).loc Cert.MlaDownIdeal.main_v8) = v0 c
          ∧ r.2.mem ((c.tc : Thread Cert.MlaDownIdeal.nD Cert.MlaDownIdeal.τ).loc Cert.MlaDownIdeal.main_arg0) = m ((c.tc : Thread Cert.MlaDownIdeal.nD Cert.MlaDownIdeal.τ).loc Cert.MlaDownIdeal.main_arg0)
          ∧ r.2.mem ((c.tc : Thread Cert.MlaDownIdeal.nD Cert.MlaDownIdeal.τ).loc Cert.MlaDownIdeal.main_arg1) = m ((c.tc : Thread Cert.MlaDownIdeal.nD Cert.MlaDownIdeal.τ).loc Cert.MlaDownIdeal.main_arg1))
      ∧ θ_run (Cert.MlaDownRefIdeal.defs (F := Ideal)) (onTc (τ := Cert.MlaDownRefIdeal.τ) (Cert.MlaDownRefIdeal.main (F := Ideal))) ⟨m', fun _ => 0, g'⟩ (fun r => ∀ c : Dev Cert.MlaDownRefIdeal.nD,
          r.2.mem ((c.tc : Thread Cert.MlaDownRefIdeal.nD Cert.MlaDownRefIdeal.τ).loc Cert.MlaDownRefIdeal.main_v7) = v0 c
          ∧ r.2.mem ((c.tc : Thread Cert.MlaDownRefIdeal.nD Cert.MlaDownRefIdeal.τ).loc Cert.MlaDownRefIdeal.main_arg0) = m' ((c.tc : Thread Cert.MlaDownRefIdeal.nD Cert.MlaDownRefIdeal.τ).loc Cert.MlaDownRefIdeal.main_arg0)
          ∧ r.2.mem ((c.tc : Thread Cert.MlaDownRefIdeal.nD Cert.MlaDownRefIdeal.τ).loc Cert.MlaDownRefIdeal.main_arg1) = m' ((c.tc : Thread Cert.MlaDownRefIdeal.nD Cert.MlaDownRefIdeal.τ).loc Cert.MlaDownRefIdeal.main_arg1))

def preserves_MlaQuery_MlaQueryIdeal : Prop :=
  True

def algebraic_MlaQueryIdeal_MlaQueryRefIdeal [hMlaQueryIdeal : Cert.MlaQueryIdeal.Facts] [hMlaQueryRefIdeal : Cert.MlaQueryRefIdeal.Facts] : Prop :=
  ∀ (m : (ℓ : Loc Cert.MlaQueryIdeal.nD Cert.MlaQueryIdeal.τ Cert.MlaQueryIdeal.sig) → Buf (Elt Ideal) ℓ) (g : Dev Cert.MlaQueryIdeal.nD → PrngReg)
    (m' : (ℓ : Loc Cert.MlaQueryRefIdeal.nD Cert.MlaQueryRefIdeal.τ Cert.MlaQueryRefIdeal.sig) → Buf (Elt Ideal) ℓ) (g' : Dev Cert.MlaQueryRefIdeal.nD → PrngReg), Pre_MlaQueryIdeal m →
    (∀ c : Dev Cert.MlaQueryIdeal.nD,
      m' ((c.tc : Thread Cert.MlaQueryRefIdeal.nD Cert.MlaQueryRefIdeal.τ).loc Cert.MlaQueryRefIdeal.main_arg0) = m ((c.tc : Thread Cert.MlaQueryIdeal.nD Cert.MlaQueryIdeal.τ).loc Cert.MlaQueryIdeal.main_arg0)
      ∧ m' ((c.tc : Thread Cert.MlaQueryRefIdeal.nD Cert.MlaQueryRefIdeal.τ).loc Cert.MlaQueryRefIdeal.main_arg1) = m ((c.tc : Thread Cert.MlaQueryIdeal.nD Cert.MlaQueryIdeal.τ).loc Cert.MlaQueryIdeal.main_arg1)) →
    ∃ (v0 : (c : Dev Cert.MlaQueryIdeal.nD) → Buf (Elt Ideal) ((c.tc : Thread Cert.MlaQueryIdeal.nD Cert.MlaQueryIdeal.τ).loc Cert.MlaQueryIdeal.main_v12)),
      θ_run (Cert.MlaQueryIdeal.defs (F := Ideal)) (onTc (τ := Cert.MlaQueryIdeal.τ) (Cert.MlaQueryIdeal.main (F := Ideal))) ⟨m, fun _ => 0, g⟩ (fun r => ∀ c : Dev Cert.MlaQueryIdeal.nD,
          r.2.mem ((c.tc : Thread Cert.MlaQueryIdeal.nD Cert.MlaQueryIdeal.τ).loc Cert.MlaQueryIdeal.main_v12) = v0 c
          ∧ r.2.mem ((c.tc : Thread Cert.MlaQueryIdeal.nD Cert.MlaQueryIdeal.τ).loc Cert.MlaQueryIdeal.main_arg0) = m ((c.tc : Thread Cert.MlaQueryIdeal.nD Cert.MlaQueryIdeal.τ).loc Cert.MlaQueryIdeal.main_arg0)
          ∧ r.2.mem ((c.tc : Thread Cert.MlaQueryIdeal.nD Cert.MlaQueryIdeal.τ).loc Cert.MlaQueryIdeal.main_arg1) = m ((c.tc : Thread Cert.MlaQueryIdeal.nD Cert.MlaQueryIdeal.τ).loc Cert.MlaQueryIdeal.main_arg1))
      ∧ θ_run (Cert.MlaQueryRefIdeal.defs (F := Ideal)) (onTc (τ := Cert.MlaQueryRefIdeal.τ) (Cert.MlaQueryRefIdeal.main (F := Ideal))) ⟨m', fun _ => 0, g'⟩ (fun r => ∀ c : Dev Cert.MlaQueryRefIdeal.nD,
          r.2.mem ((c.tc : Thread Cert.MlaQueryRefIdeal.nD Cert.MlaQueryRefIdeal.τ).loc Cert.MlaQueryRefIdeal.main_v15) = v0 c
          ∧ r.2.mem ((c.tc : Thread Cert.MlaQueryRefIdeal.nD Cert.MlaQueryRefIdeal.τ).loc Cert.MlaQueryRefIdeal.main_arg0) = m' ((c.tc : Thread Cert.MlaQueryRefIdeal.nD Cert.MlaQueryRefIdeal.τ).loc Cert.MlaQueryRefIdeal.main_arg0)
          ∧ r.2.mem ((c.tc : Thread Cert.MlaQueryRefIdeal.nD Cert.MlaQueryRefIdeal.τ).loc Cert.MlaQueryRefIdeal.main_arg1) = m' ((c.tc : Thread Cert.MlaQueryRefIdeal.nD Cert.MlaQueryRefIdeal.τ).loc Cert.MlaQueryRefIdeal.main_arg1))

def preserves_MlaPairs_MlaPairsIdeal : Prop :=
  True

def algebraic_MlaPairsIdeal_MlaPairsRefIdeal [hMlaPairsIdeal : Cert.MlaPairsIdeal.Facts] [hMlaPairsRefIdeal : Cert.MlaPairsRefIdeal.Facts] : Prop :=
  ∀ (m : (ℓ : Loc Cert.MlaPairsIdeal.nD Cert.MlaPairsIdeal.τ Cert.MlaPairsIdeal.sig) → Buf (Elt Ideal) ℓ) (g : Dev Cert.MlaPairsIdeal.nD → PrngReg)
    (m' : (ℓ : Loc Cert.MlaPairsRefIdeal.nD Cert.MlaPairsRefIdeal.τ Cert.MlaPairsRefIdeal.sig) → Buf (Elt Ideal) ℓ) (g' : Dev Cert.MlaPairsRefIdeal.nD → PrngReg), Pre_MlaPairsIdeal m →
    (∀ c : Dev Cert.MlaPairsIdeal.nD,
      m' ((c.tc : Thread Cert.MlaPairsRefIdeal.nD Cert.MlaPairsRefIdeal.τ).loc Cert.MlaPairsRefIdeal.main_arg0) = m ((c.tc : Thread Cert.MlaPairsIdeal.nD Cert.MlaPairsIdeal.τ).loc Cert.MlaPairsIdeal.main_arg0)
      ∧ m' ((c.tc : Thread Cert.MlaPairsRefIdeal.nD Cert.MlaPairsRefIdeal.τ).loc Cert.MlaPairsRefIdeal.main_arg1) = m ((c.tc : Thread Cert.MlaPairsIdeal.nD Cert.MlaPairsIdeal.τ).loc Cert.MlaPairsIdeal.main_arg1)) →
    ∃ (v0 : (c : Dev Cert.MlaPairsIdeal.nD) → Buf (Elt Ideal) ((c.tc : Thread Cert.MlaPairsIdeal.nD Cert.MlaPairsIdeal.τ).loc Cert.MlaPairsIdeal.main_v8)),
      θ_run (Cert.MlaPairsIdeal.defs (F := Ideal)) (onTc (τ := Cert.MlaPairsIdeal.τ) (Cert.MlaPairsIdeal.main (F := Ideal))) ⟨m, fun _ => 0, g⟩ (fun r => ∀ c : Dev Cert.MlaPairsIdeal.nD,
          r.2.mem ((c.tc : Thread Cert.MlaPairsIdeal.nD Cert.MlaPairsIdeal.τ).loc Cert.MlaPairsIdeal.main_v8) = v0 c
          ∧ r.2.mem ((c.tc : Thread Cert.MlaPairsIdeal.nD Cert.MlaPairsIdeal.τ).loc Cert.MlaPairsIdeal.main_arg0) = m ((c.tc : Thread Cert.MlaPairsIdeal.nD Cert.MlaPairsIdeal.τ).loc Cert.MlaPairsIdeal.main_arg0)
          ∧ r.2.mem ((c.tc : Thread Cert.MlaPairsIdeal.nD Cert.MlaPairsIdeal.τ).loc Cert.MlaPairsIdeal.main_arg1) = m ((c.tc : Thread Cert.MlaPairsIdeal.nD Cert.MlaPairsIdeal.τ).loc Cert.MlaPairsIdeal.main_arg1))
      ∧ θ_run (Cert.MlaPairsRefIdeal.defs (F := Ideal)) (onTc (τ := Cert.MlaPairsRefIdeal.τ) (Cert.MlaPairsRefIdeal.main (F := Ideal))) ⟨m', fun _ => 0, g'⟩ (fun r => ∀ c : Dev Cert.MlaPairsRefIdeal.nD,
          r.2.mem ((c.tc : Thread Cert.MlaPairsRefIdeal.nD Cert.MlaPairsRefIdeal.τ).loc Cert.MlaPairsRefIdeal.main_v9) = v0 c
          ∧ r.2.mem ((c.tc : Thread Cert.MlaPairsRefIdeal.nD Cert.MlaPairsRefIdeal.τ).loc Cert.MlaPairsRefIdeal.main_arg0) = m' ((c.tc : Thread Cert.MlaPairsRefIdeal.nD Cert.MlaPairsRefIdeal.τ).loc Cert.MlaPairsRefIdeal.main_arg0)
          ∧ r.2.mem ((c.tc : Thread Cert.MlaPairsRefIdeal.nD Cert.MlaPairsRefIdeal.τ).loc Cert.MlaPairsRefIdeal.main_arg1) = m' ((c.tc : Thread Cert.MlaPairsRefIdeal.nD Cert.MlaPairsRefIdeal.τ).loc Cert.MlaPairsRefIdeal.main_arg1))

def preserves_MlaPrep_MlaPrepIdeal : Prop :=
  True

def algebraic_MlaPrepIdeal_MlaPrepRefIdeal [hMlaPrepIdeal : Cert.MlaPrepIdeal.Facts] [hMlaPrepRefIdeal : Cert.MlaPrepRefIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepRefIdeal.nD Cert.MlaPrepRefIdeal.τ Cert.MlaPrepRefIdeal.sig) → Buf (Elt Ideal) ℓ) (g' : Dev Cert.MlaPrepRefIdeal.nD → PrngReg), Pre_MlaPrepIdeal m →
    (∀ c : Dev Cert.MlaPrepIdeal.nD,
      m' ((c.tc : Thread Cert.MlaPrepRefIdeal.nD Cert.MlaPrepRefIdeal.τ).loc Cert.MlaPrepRefIdeal.main_arg0) = m ((c.tc : Thread Cert.MlaPrepIdeal.nD Cert.MlaPrepIdeal.τ).loc Cert.MlaPrepIdeal.main_arg0)
      ∧ m' ((c.tc : Thread Cert.MlaPrepRefIdeal.nD Cert.MlaPrepRefIdeal.τ).loc Cert.MlaPrepRefIdeal.main_arg1) = m ((c.tc : Thread Cert.MlaPrepIdeal.nD Cert.MlaPrepIdeal.τ).loc Cert.MlaPrepIdeal.main_arg1)
      ∧ m' ((c.tc : Thread Cert.MlaPrepRefIdeal.nD Cert.MlaPrepRefIdeal.τ).loc Cert.MlaPrepRefIdeal.main_arg2) = m ((c.tc : Thread Cert.MlaPrepIdeal.nD Cert.MlaPrepIdeal.τ).loc Cert.MlaPrepIdeal.main_arg2)) →
    ∃ (v0 : (c : Dev Cert.MlaPrepIdeal.nD) → Buf (Elt Ideal) ((c.tc : Thread Cert.MlaPrepIdeal.nD Cert.MlaPrepIdeal.τ).loc Cert.MlaPrepIdeal.main_v29_0)) (v1 : (c : Dev Cert.MlaPrepIdeal.nD) → Buf (Elt Ideal) ((c.tc : Thread Cert.MlaPrepIdeal.nD Cert.MlaPrepIdeal.τ).loc Cert.MlaPrepIdeal.main_v29_1)) (v2 : (c : Dev Cert.MlaPrepIdeal.nD) → Buf (Elt Ideal) ((c.tc : Thread Cert.MlaPrepIdeal.nD Cert.MlaPrepIdeal.τ).loc Cert.MlaPrepIdeal.main_v29_2)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v29_0) = v0 c
          ∧ r.2.mem ((c.tc : Thread Cert.MlaPrepIdeal.nD Cert.MlaPrepIdeal.τ).loc Cert.MlaPrepIdeal.main_v29_1) = v1 c
          ∧ r.2.mem ((c.tc : Thread Cert.MlaPrepIdeal.nD Cert.MlaPrepIdeal.τ).loc Cert.MlaPrepIdeal.main_v29_2) = v2 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2))
      ∧ θ_run (Cert.MlaPrepRefIdeal.defs (F := Ideal)) (onTc (τ := Cert.MlaPrepRefIdeal.τ) (Cert.MlaPrepRefIdeal.main (F := Ideal))) ⟨m', fun _ => 0, g'⟩ (fun r => ∀ c : Dev Cert.MlaPrepRefIdeal.nD,
          r.2.mem ((c.tc : Thread Cert.MlaPrepRefIdeal.nD Cert.MlaPrepRefIdeal.τ).loc Cert.MlaPrepRefIdeal.main_v60) = v0 c
          ∧ r.2.mem ((c.tc : Thread Cert.MlaPrepRefIdeal.nD Cert.MlaPrepRefIdeal.τ).loc Cert.MlaPrepRefIdeal.main_v75) = v1 c
          ∧ r.2.mem ((c.tc : Thread Cert.MlaPrepRefIdeal.nD Cert.MlaPrepRefIdeal.τ).loc Cert.MlaPrepRefIdeal.main_v76) = v2 c
          ∧ r.2.mem ((c.tc : Thread Cert.MlaPrepRefIdeal.nD Cert.MlaPrepRefIdeal.τ).loc Cert.MlaPrepRefIdeal.main_arg0) = m' ((c.tc : Thread Cert.MlaPrepRefIdeal.nD Cert.MlaPrepRefIdeal.τ).loc Cert.MlaPrepRefIdeal.main_arg0)
          ∧ r.2.mem ((c.tc : Thread Cert.MlaPrepRefIdeal.nD Cert.MlaPrepRefIdeal.τ).loc Cert.MlaPrepRefIdeal.main_arg1) = m' ((c.tc : Thread Cert.MlaPrepRefIdeal.nD Cert.MlaPrepRefIdeal.τ).loc Cert.MlaPrepRefIdeal.main_arg1)
          ∧ r.2.mem ((c.tc : Thread Cert.MlaPrepRefIdeal.nD Cert.MlaPrepRefIdeal.τ).loc Cert.MlaPrepRefIdeal.main_arg2) = m' ((c.tc : Thread Cert.MlaPrepRefIdeal.nD Cert.MlaPrepRefIdeal.τ).loc Cert.MlaPrepRefIdeal.main_arg2))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hMobaProj : Cert.MobaProj.Facts) (hMobaProjIdeal : Cert.MobaProjIdeal.Facts) (hMobaProjRefIdeal : Cert.MobaProjRefIdeal.Facts) (hSwaProj : Cert.SwaProj.Facts) (hSwaProjIdeal : Cert.SwaProjIdeal.Facts) (hSwaProjRefIdeal : Cert.SwaProjRefIdeal.Facts) (hNsaProj : Cert.NsaProj.Facts) (hNsaProjIdeal : Cert.NsaProjIdeal.Facts) (hNsaProjRefIdeal : Cert.NsaProjRefIdeal.Facts) (hMlaDown : Cert.MlaDown.Facts) (hMlaDownIdeal : Cert.MlaDownIdeal.Facts) (hMlaDownRefIdeal : Cert.MlaDownRefIdeal.Facts) (hMlaQuery : Cert.MlaQuery.Facts) (hMlaQueryIdeal : Cert.MlaQueryIdeal.Facts) (hMlaQueryRefIdeal : Cert.MlaQueryRefIdeal.Facts) (hMlaPairs : Cert.MlaPairs.Facts) (hMlaPairsIdeal : Cert.MlaPairsIdeal.Facts) (hMlaPairsRefIdeal : Cert.MlaPairsRefIdeal.Facts) (hMlaPrep : Cert.MlaPrep.Facts) (hMlaPrepIdeal : Cert.MlaPrepIdeal.Facts) (hMlaPrepRefIdeal : Cert.MlaPrepRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MobaProj (hMobaProj := hMobaProj)
    ∧ quiescent_MobaProjIdeal (hMobaProjIdeal := hMobaProjIdeal)
    ∧ quiescent_MobaProjRefIdeal (hMobaProjRefIdeal := hMobaProjRefIdeal)
    ∧ quiescent_SwaProj (hSwaProj := hSwaProj)
    ∧ quiescent_SwaProjIdeal (hSwaProjIdeal := hSwaProjIdeal)
    ∧ quiescent_SwaProjRefIdeal (hSwaProjRefIdeal := hSwaProjRefIdeal)
    ∧ quiescent_NsaProj (hNsaProj := hNsaProj)
    ∧ quiescent_NsaProjIdeal (hNsaProjIdeal := hNsaProjIdeal)
    ∧ quiescent_NsaProjRefIdeal (hNsaProjRefIdeal := hNsaProjRefIdeal)
    ∧ quiescent_MlaDown (hMlaDown := hMlaDown)
    ∧ quiescent_MlaDownIdeal (hMlaDownIdeal := hMlaDownIdeal)
    ∧ quiescent_MlaDownRefIdeal (hMlaDownRefIdeal := hMlaDownRefIdeal)
    ∧ quiescent_MlaQuery (hMlaQuery := hMlaQuery)
    ∧ quiescent_MlaQueryIdeal (hMlaQueryIdeal := hMlaQueryIdeal)
    ∧ quiescent_MlaQueryRefIdeal (hMlaQueryRefIdeal := hMlaQueryRefIdeal)
    ∧ quiescent_MlaPairs (hMlaPairs := hMlaPairs)
    ∧ quiescent_MlaPairsIdeal (hMlaPairsIdeal := hMlaPairsIdeal)
    ∧ quiescent_MlaPairsRefIdeal (hMlaPairsRefIdeal := hMlaPairsRefIdeal)
    ∧ quiescent_MlaPrep (hMlaPrep := hMlaPrep)
    ∧ quiescent_MlaPrepIdeal (hMlaPrepIdeal := hMlaPrepIdeal)
    ∧ quiescent_MlaPrepRefIdeal (hMlaPrepRefIdeal := hMlaPrepRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_MobaProj_MobaProjIdeal
    ∧ algebraic_MobaProjIdeal_MobaProjRefIdeal (hMobaProjIdeal := hMobaProjIdeal) (hMobaProjRefIdeal := hMobaProjRefIdeal)
    ∧ preserves_SwaProj_SwaProjIdeal
    ∧ algebraic_SwaProjIdeal_SwaProjRefIdeal (hSwaProjIdeal := hSwaProjIdeal) (hSwaProjRefIdeal := hSwaProjRefIdeal)
    ∧ preserves_NsaProj_NsaProjIdeal
    ∧ algebraic_NsaProjIdeal_NsaProjRefIdeal (hNsaProjIdeal := hNsaProjIdeal) (hNsaProjRefIdeal := hNsaProjRefIdeal)
    ∧ preserves_MlaDown_MlaDownIdeal
    ∧ algebraic_MlaDownIdeal_MlaDownRefIdeal (hMlaDownIdeal := hMlaDownIdeal) (hMlaDownRefIdeal := hMlaDownRefIdeal)
    ∧ preserves_MlaQuery_MlaQueryIdeal
    ∧ algebraic_MlaQueryIdeal_MlaQueryRefIdeal (hMlaQueryIdeal := hMlaQueryIdeal) (hMlaQueryRefIdeal := hMlaQueryRefIdeal)
    ∧ preserves_MlaPairs_MlaPairsIdeal
    ∧ algebraic_MlaPairsIdeal_MlaPairsRefIdeal (hMlaPairsIdeal := hMlaPairsIdeal) (hMlaPairsRefIdeal := hMlaPairsRefIdeal)
    ∧ preserves_MlaPrep_MlaPrepIdeal
    ∧ algebraic_MlaPrepIdeal_MlaPrepRefIdeal (hMlaPrepIdeal := hMlaPrepIdeal) (hMlaPrepRefIdeal := hMlaPrepRefIdeal)
-- ==== Pre_finite.lean ====
abbrev S8192x3072 : Shape := ⟨2, ![8192, 3072]⟩
abbrev S8192x4096 : Shape := ⟨2, ![8192, 4096]⟩
abbrev S8192x64 : Shape := ⟨2, ![8192, 64]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x3072 .bf16) (main_arg1 : FVec F S8192x4096 .bf16) (main_arg2 : FVec F S8192x64 .bf16) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8192x4096 .f32 := (extf .f32 · bitsLt_bf16_f32) main_arg1
  let main_v6 : FVec F S8192x4096 .f32 := Host.absf main_v5
  let main_cst_0 : FVec F S_ .f32 := constant S_ .f32 0x7F800000#32
  let main_v7 : FVec F S8192x4096 .f32 := broadcastInDim S8192x4096 ![] bcast_S_S8192x4096 main_cst_0
  let main_v8 : IVec S8192x4096 1 := cmpf .olt main_v6 main_v7
  let main_c_1 : IVec S_ 1 := constantI S_ 1 1#1
  let main_v9 : IVec S_ 1 := (fun x v => Host.reduce IntOp.andi x v reducesTo_S8192x4096_S_d0_1 h_S_) main_v8 main_c_1
  let main_v10 : IVec S_ 1 := andi main_v4 main_v9
  let main_v11 : FVec F S8192x64 .f32 := (extf .f32 · bitsLt_bf16_f32) main_arg2
  let main_v12 : FVec F S8192x64 .f32 := Host.absf main_v11
  let main_cst_2 : FVec F S_ .f32 := constant S_ .f32 0x7F800000#32
  let main_v13 : FVec F S8192x64 .f32 := broadcastInDim S8192x64 ![] bcast_S_S8192x64 main_cst_2
  let main_v14 : IVec S8192x64 1 := cmpf .olt main_v12 main_v13
  let main_c_3 : IVec S_ 1 := constantI S_ 1 1#1
  let main_v15 : IVec S_ 1 := (fun x v => Host.reduce IntOp.andi x v reducesTo_S8192x64_S_d0_1 h_S_) main_v14 main_c_3
  let main_v16 : IVec S_ 1 := andi main_v10 main_v15
  main_v16
-- ==== Kernel.lean ====
abbrev S8192x3072 : Shape := ⟨2, ![8192, 3072]⟩
abbrev S8192x4096 : Shape := ⟨2, ![8192, 4096]⟩
abbrev S8192x64 : Shape := ⟨2, ![8192, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S8192x16x192 : Shape := ⟨3, ![8192, 16, 192]⟩
abbrev S8192x16x64 : Shape := ⟨3, ![8192, 16, 64]⟩
abbrev S8192x16x128 : Shape := ⟨3, ![8192, 16, 128]⟩
abbrev S8192x2048 : Shape := ⟨2, ![8192, 2048]⟩
abbrev S8192x1024 : Shape := ⟨2, ![8192, 1024]⟩
abbrev S8192x16x32 : Shape := ⟨3, ![8192, 16, 32]⟩
abbrev S8192x16x256 : Shape := ⟨3, ![8192, 16, 256]⟩
abbrev S8192x128 : Shape := ⟨2, ![8192, 128]⟩
abbrev S1x8192x128 : Shape := ⟨3, ![1, 8192, 128]⟩
abbrev S2x8192x128 : Shape := ⟨3, ![2, 8192, 128]⟩
abbrev S512x128 : Shape := ⟨2, ![512, 128]⟩
abbrev S1x2048x128 : Shape := ⟨3, ![1, 2048, 128]⟩
abbrev S2048x256 : Shape := ⟨2, ![2048, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 53
  | .vmem => 22
  | .smem => 0
  | _ => 0

abbrev bufTy : (tb : Table) → Fin (tcTables nBuf tb) → BufTy
  | .hbm, ⟨0, _⟩ => ⟨S8192x3072, .bf16⟩
  | .hbm, ⟨1, _⟩ => ⟨S8192x4096, .bf16⟩
  | .hbm, ⟨2, _⟩ => ⟨S8192x64, .bf16⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x128, .f32⟩
  | .hbm, ⟨26, _⟩ => ⟨S2048x32, .f32⟩
  | .hbm, ⟨27, _⟩ => ⟨S2048x32, .f32⟩
  | .hbm, ⟨28, _⟩ => ⟨S2048x128, .f32⟩
  | .hbm, ⟨29, _⟩ => ⟨S8192x16x192, .bf16⟩
  | .hbm, ⟨30, _⟩ => ⟨S8192x16x64, .bf16⟩
  | .hbm, ⟨31, _⟩ => ⟨S8192x16x128, .bf16⟩
  | .hbm, ⟨32, _⟩ => ⟨S8192x2048, .bf16⟩
  | .hbm, ⟨33, _⟩ => ⟨S8192x1024, .bf16⟩
  | .hbm, ⟨34, _⟩ => ⟨S8192x16x32, .bf16⟩
  | .hbm, ⟨35, _⟩ => ⟨S8192x16x32, .bf16⟩
  | .hbm, ⟨36, _⟩ => ⟨S8192x16x64, .bf16⟩
  | .hbm, ⟨37, _⟩ => ⟨S8192x1024, .bf16⟩
  | .hbm, ⟨38, _⟩ => ⟨S8192x4096, .bf16⟩
  | .hbm, ⟨39, _⟩ => ⟨S8192x16x256, .bf16⟩
  | .hbm, ⟨40, _⟩ => ⟨S8192x16x128, .bf16⟩
  | .hbm, ⟨41, _⟩ => ⟨S8192x2048, .bf16⟩
  | .hbm, ⟨42, _⟩ => ⟨S8192x16x128, .bf16⟩
  | .hbm, ⟨43, _⟩ => ⟨S8192x2048, .bf16⟩
  | .hbm, ⟨44, _⟩ => ⟨S8192x4096, .bf16⟩
  | .hbm, ⟨45, _⟩ => ⟨S_, .bf16⟩
  | .hbm, ⟨46, _⟩ => ⟨S8192x64, .bf16⟩
  | .hbm, ⟨47, _⟩ => ⟨S8192x128, .bf16⟩
  | .hbm, ⟨48, _⟩ => ⟨S8192x128, .bf16⟩
  | .hbm, ⟨49, _⟩ => ⟨S1x8192x128, .bf16⟩
  | .hbm, ⟨50, _⟩ => ⟨S1x8192x128, .bf16⟩
  | .hbm, ⟨51, _⟩ => ⟨S2x8192x128, .bf16⟩
  | .hbm, ⟨52, _⟩ => ⟨S8192x2048, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S2048x128, .bf16⟩
  | .local _ .vmem, ⟨11, _⟩ => ⟨S2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S2048x128, .bf16⟩
  | .local _ .vmem, ⟨15, _⟩ => ⟨S2048x128, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S2048x256, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c2_i32 : BitVec 32 := 2#32
  let v2 : BitVec 32 := Scalar.divsi arg1 c2_i32
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi arg1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32 : BitVec 32 := 16#32
  let v19 : BitVec 32 := Scalar.addi c16_i32 v18
  let c0_i32_4 : BitVec 32 := 0#32
  ![v1.toNat, v19.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c2_i32 : BitVec 32 := 2#32
  let v2 : BitVec 32 := Scalar.divsi arg1 c2_i32
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi arg1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c24_i32 : BitVec 32 := 24#32
  let v19 : BitVec 32 := Scalar.addi c24_i32 v18
  let c0_i32_4 : BitVec 32 := 0#32
  ![v1.toNat, v19.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, arg0.toNat, c0_i32_3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x3072 : Shape := ⟨2, ![8192, 3072]⟩
abbrev S8192x4096 : Shape := ⟨2, ![8192, 4096]⟩
abbrev S8192x64 : Shape := ⟨2, ![8192, 64]⟩
abbrev S4x2048x16x192 : Shape := ⟨4, ![4, 2048, 16, 192]⟩
abbrev S4x16x2048x192 : Shape := ⟨4, ![4, 16, 2048, 192]⟩
abbrev S4x2048x16x256 : Shape := ⟨4, ![4, 2048, 16, 256]⟩
abbrev S4x16x2048x256 : Shape := ⟨4, ![4, 16, 2048, 256]⟩
abbrev S4x2048x64 : Shape := ⟨3, ![4, 2048, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S4x16x2048x128 : Shape := ⟨4, ![4, 16, 2048, 128]⟩
abbrev S4x16x2048x64 : Shape := ⟨4, ![4, 16, 2048, 64]⟩
abbrev S4x16x2048x32 : Shape := ⟨4, ![4, 16, 2048, 32]⟩
abbrev S1x1x2048x32 : Shape := ⟨4, ![1, 1, 2048, 32]⟩
abbrev S4x16x2048x2048 : Shape := ⟨4, ![4, 16, 2048, 2048]⟩
abbrev S1x2048 : Shape := ⟨2, ![1, 2048]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x2048x16x128 : Shape := ⟨4, ![4, 2048, 16, 128]⟩
abbrev S8192x2048 : Shape := ⟨2, ![8192, 2048]⟩

abbrev nBuf : Space → Nat
  | .hbm => 94
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x4096, .bf16⟩
  | .hbm, ⟨2, _⟩ => ⟨S8192x64, .bf16⟩
  | .hbm, ⟨3, _⟩ => ⟨S8192x3072, .f32⟩
  | .hbm, ⟨4, _⟩ => ⟨S4x2048x16x192, .f32⟩
  | .hbm, ⟨5, _⟩ => ⟨S4x16x2048x192, .f32⟩
  | .hbm, ⟨6, _⟩ => ⟨S8192x4096, .f32⟩
  | .hbm, ⟨7, _⟩ => ⟨S4x2048x16x256, .f32⟩
  | .hbm, ⟨8, _⟩ => ⟨S4x16x2048x256, .f32⟩
  | .hbm, ⟨9, _⟩ => ⟨S8192x64, .f32⟩
  | .hbm, ⟨10, _⟩ => ⟨S4x2048x64, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S2048, .f32⟩
  | .hbm, ⟨26, _⟩ => ⟨S2048x1, .f32⟩
  | .hbm, ⟨27, _⟩ => ⟨S1x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S4x16x2048x128, .f32⟩
  | .hbm, ⟨34, _⟩ => ⟨S4x16x2048x64, .f32⟩
  | .hbm, ⟨35, _⟩ => ⟨S4x16x2048x32, .f32⟩
  | .hbm, ⟨36, _⟩ => ⟨S4x16x2048x32, .f32⟩
  | .hbm, ⟨37, _⟩ => ⟨S1x1x2048x32, .f32⟩
  | .hbm, ⟨38, _⟩ => ⟨S4x16x2048x32, .f32⟩
  | .hbm, ⟨39, _⟩ => ⟨S4x16x2048x32, .f32⟩
  | .hbm, ⟨40, _⟩ => ⟨S1x1x2048x32, .f32⟩
  | .hbm, ⟨41, _⟩ => ⟨S4x16x2048x32, .f32⟩
  | .hbm, ⟨42, _⟩ => ⟨S4x16x2048x32, .f32⟩
  | .hbm, ⟨43, _⟩ => ⟨S4x16x2048x32, .f32⟩
  | .hbm, ⟨44, _⟩ => ⟨S1x1x2048x32, .f32⟩
  | .hbm, ⟨45, _⟩ => ⟨S4x16x2048x32, .f32⟩
  | .hbm, ⟨46, _⟩ => ⟨S4x16x2048x32, .f32⟩
  | .hbm, ⟨47, _⟩ => ⟨S1x1x2048x32, .f32⟩
  | .hbm, ⟨48, _⟩ => ⟨S4x16x2048x32, .f32⟩
  | .hbm, ⟨49, _⟩ => ⟨S4x16x2048x32, .f32⟩
  | .hbm, ⟨50, _⟩ => ⟨S4x16x2048x32, .f32⟩
  | .hbm, ⟨51, _⟩ => ⟨S4x16x2048x64, .f32⟩
  | .hbm, ⟨52, _⟩ => ⟨S4x16x2048x128, .f32⟩
  | .hbm, ⟨53, _⟩ => ⟨S4x16x2048x128, .f32⟩
  | .hbm, ⟨54, _⟩ => ⟨S2048, .i32⟩
  | .hbm, ⟨55, _⟩ => ⟨S4x16x2048x2048, .f32⟩
  | .hbm, ⟨56, _⟩ => ⟨S4x16x2048x2048, .f32⟩
  | .hbm, ⟨57, _⟩ => ⟨S4x16x2048x2048, .f32⟩
  | .hbm, ⟨58, _⟩ => ⟨S1x2048, .i32⟩
  | .hbm, ⟨59, _⟩ => ⟨S2048x1, .i32⟩
  | .hbm, ⟨60, _⟩ => ⟨S2048x2048, .i32⟩
  | .hbm, ⟨61, _⟩ => ⟨S2048x2048, .i32⟩
  | .hbm, ⟨62, _⟩ => ⟨S2048x2048, .i1⟩
  | .hbm, ⟨63, _⟩ => ⟨S_, .f32⟩
  | .hbm, ⟨64, _⟩ => ⟨S_, .f32⟩
  | .hbm, ⟨65, _⟩ => ⟨S4x16x2048x2048, .i1⟩
  | .hbm, ⟨66, _⟩ => ⟨S4x16x2048x2048, .f32⟩
  | .hbm, ⟨67, _⟩ => ⟨S4x16x2048x2048, .f32⟩
  | .hbm, ⟨68, _⟩ => ⟨S_, .f32⟩
  | .hbm, ⟨69, _⟩ => ⟨S4x16x2048, .f32⟩
  | .hbm, ⟨70, _⟩ => ⟨S4x16x2048x1, .f32⟩
  | .hbm, ⟨71, _⟩ => ⟨S4x16x2048x1, .f32⟩
  | .hbm, ⟨72, _⟩ => ⟨S_, .f32⟩
  | .hbm, ⟨73, _⟩ => ⟨S4x16x2048x1, .f32⟩
  | .hbm, ⟨74, _⟩ => ⟨S4x16x2048x1, .i1⟩
  | .hbm, ⟨75, _⟩ => ⟨S_, .f32⟩
  | .hbm, ⟨76, _⟩ => ⟨S_, .f32⟩
  | .hbm, ⟨77, _⟩ => ⟨S4x16x2048x1, .f32⟩
  | .hbm, ⟨78, _⟩ => ⟨S4x16x2048x1, .f32⟩
  | .hbm, ⟨79, _⟩ => ⟨S4x16x2048x2048, .f32⟩
  | .hbm, ⟨80, _⟩ => ⟨S4x16x2048x2048, .f32⟩
  | .hbm, ⟨81, _⟩ => ⟨S4x16x2048x2048, .f32⟩
  | .hbm, ⟨82, _⟩ => ⟨S_, .f32⟩
  | .hbm, ⟨83, _⟩ => ⟨S4x16x2048, .f32⟩
  | .hbm, ⟨84, _⟩ => ⟨S4x16x2048x1, .f32⟩
  | .hbm, ⟨85, _⟩ => ⟨S_, .f32⟩
  | .hbm, ⟨86, _⟩ => ⟨S4x16x2048x1, .f32⟩
  | .hbm, ⟨87, _⟩ => ⟨S4x16x2048x1, .f32⟩
  | .hbm, ⟨88, _⟩ => ⟨S4x16x2048x2048, .f32⟩
  | .hbm, ⟨89, _⟩ => ⟨S4x16x2048x2048, .f32⟩
  | .hbm, ⟨90, _⟩ => ⟨S4x16x2048x128, .f32⟩
  | .hbm, ⟨91, _⟩ => ⟨S4x2048x16x128, .f32⟩
  | .hbm, ⟨92, _⟩ => ⟨S8192x2048, .f32⟩
  | .hbm, ⟨93, _⟩ => ⟨S8192x2048, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_3 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v56 : Ref sig .tc := ⟨.hbm, 67, rfl⟩
abbrev main_cst_4 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_5 : Ref sig .tc := ⟨.hbm, 72, rfl⟩
abbrev main_v60 : Ref sig .tc := ⟨.hbm, 73, rfl⟩
abbrev main_v61 : Ref sig .tc := ⟨.hbm, 74, rfl⟩
abbrev main_cst_6 : Ref sig .tc := ⟨.hbm, 75, rfl⟩
abbrev main_call1_v0 : Ref sig .tc := ⟨.hbm, 76, rfl⟩
abbrev main_call1_v1 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== FfnUp.lean ====
abbrev S8192x2048 : Shape := ⟨2, ![8192, 2048]⟩
abbrev S4x2048x5632 : Shape := ⟨3, ![4, 2048, 5632]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x2048x5632, .f32⟩
  | .hbm, ⟨2, _⟩ => ⟨S4x2048x5632, .f32⟩
  | .hbm, ⟨3, _⟩ => ⟨S8192x2048, .bf16⟩
  | .hbm, ⟨4, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S8192x2048 : Shape := ⟨2, ![8192, 2048]⟩
abbrev S4x2048x5632 : Shape := ⟨3, ![4, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048x5632, .f32⟩
  | .hbm, ⟨2, _⟩ => ⟨S4x2048x5632, .f32⟩
  | .hbm, ⟨3, _⟩ => ⟨S1x2048x5632, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S1x2048x5632, .f32⟩
  | .hbm, ⟨16, _⟩ => ⟨S2048x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== FfnDown.lean ====
abbrev S8192x5632 : Shape := ⟨2, ![8192, 5632]⟩
abbrev S8192x2048 : Shape := ⟨2, ![8192, 2048]⟩
abbrev S4x5632x2048 : Shape := ⟨3, ![4, 5632, 2048]⟩
abbrev S4x2048 : Shape := ⟨2, ![4, 2048]⟩
abbrev S1x2048 : Shape := ⟨2, ![1, 2048]⟩
abbrev S2048 : Shape := ⟨1, ![2048]⟩
abbrev S512x2816 : Shape := ⟨2, ![512, 2816]⟩
abbrev S1x2816x2048 : Shape := ⟨3, ![1, 2816, 2048]⟩
abbrev S512x2048 : Shape := ⟨2, ![512, 2048]⟩
abbrev S2816x2048 : Shape := ⟨2, ![2816, 2048]⟩
abbrev S128x2048 : Shape := ⟨2, ![128, 2048]⟩
abbrev S128x2816 : Shape := ⟨2, ![128, 2816]⟩
abbrev S128 : Shape := ⟨1, ![128]⟩
abbrev S128x1 : Shape := ⟨2, ![128, 1]⟩

abbrev nBuf : Space → Nat
  | .hbm => 14
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S4x5632x2048, .f32⟩
  | .hbm, ⟨3, _⟩ => ⟨S4x2048, .f32⟩
  | .hbm, ⟨4, _⟩ => ⟨S4x2048, .f32⟩
  | .hbm, ⟨5, _⟩ => ⟨S4x5632x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .bf16⟩
  | .local _ .vmem, ⟨0, _⟩ => ⟨S512x2816, .bf16⟩
  | .local _ .vmem, ⟨1, _⟩ => ⟨S512x2816, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .eq arg1 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnDownRefIdeal.lean ====
abbrev S8192x5632 : Shape := ⟨2, ![8192, 5632]⟩
abbrev S8192x2048 : Shape := ⟨2, ![8192, 2048]⟩
abbrev S4x5632x2048 : Shape := ⟨3, ![4, 5632, 2048]⟩
abbrev S4x2048 : Shape := ⟨2, ![4, 2048]⟩
abbrev S_ : Shape := ⟨0, ![]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S4x5632x2048, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x5632, .f32⟩
  | .hbm, ⟨9, _⟩ => ⟨S1x5632x2048, .f32⟩
  | .hbm, ⟨10, _⟩ => ⟨S5632x2048, .f32⟩
  | .hbm, ⟨11, _⟩ => ⟨S8192x2048, .f32⟩
  | .hbm, ⟨12, _⟩ => ⟨S8192x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== OutProj.lean ====
abbrev S8192x2048 : Shape := ⟨2, ![8192, 2048]⟩
abbrev S1x2048x2048 : Shape := ⟨3, ![1, 2048, 2048]⟩
abbrev S4x2048 : Shape := ⟨2, ![4, 2048]⟩
abbrev S1x2048 : Shape := ⟨2, ![1, 2048]⟩
abbrev S2048 : Shape := ⟨1, ![2048]⟩
abbrev S512x2048 : Shape := ⟨2, ![512, 2048]⟩
abbrev S128x2048 : Shape := ⟨2, ![128, 2048]⟩
abbrev S2048x2048 : Shape := ⟨2, ![2048, 2048]⟩
abbrev S128 : Shape := ⟨1, ![128]⟩
abbrev S128x1 : Shape := ⟨2, ![128, 1]⟩

abbrev nBuf : Space → Nat
  | .hbm => 14
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x2048, .f32⟩
  | .hbm, ⟨3, _⟩ => ⟨S4x2048, .f32⟩
  | .hbm, ⟨4, _⟩ => ⟨S4x2048, .f32⟩
  | .hbm, ⟨5, _⟩ => ⟨S1x2048x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutProjRefIdeal.lean ====
abbrev S8192x2048 : Shape := ⟨2, ![8192, 2048]⟩
abbrev S1x2048x2048 : Shape := ⟨3, ![1, 2048, 2048]⟩
abbrev S4x2048 : Shape := ⟨2, ![4, 2048]⟩
abbrev S_ : Shape := ⟨0, ![]⟩
abbrev S2048x2048 : Shape := ⟨2, ![2048, 2048]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x2048, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== MobaProj.lean ====
abbrev S8192x2048 : Shape := ⟨2, ![8192, 2048]⟩
abbrev S1x2048x6144 : Shape := ⟨3, ![1, 2048, 6144]⟩
abbrev S8192x6144 : Shape := ⟨2, ![8192, 6144]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1x2048x6144, .f32⟩
  | .hbm, ⟨2, _⟩ => ⟨S8192x2048, .bf16⟩
  | .hbm, ⟨3, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MobaProjRefIdeal.lean ====
abbrev S8192x2048 : Shape := ⟨2, ![8192, 2048]⟩
abbrev S1x2048x6144 : Shape := ⟨3, ![1, 2048, 6144]⟩
abbrev S2048x6144 : Shape := ⟨2, ![2048, 6144]⟩
abbrev S8192x6144 : Shape := ⟨2, ![8192, 6144]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x6144, .f32⟩
  | .hbm, ⟨2, _⟩ => ⟨S2048x6144, .f32⟩
  | .hbm, ⟨3, _⟩ => ⟨S8192x6144, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x6144, .f32⟩
  | .hbm, ⟨11, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SwaProj.lean ====
abbrev S8192x2048 : Shape := ⟨2, ![8192, 2048]⟩
abbrev S1x2048x2560 : Shape := ⟨3, ![1, 2048, 2560]⟩
abbrev S8192x2560 : Shape := ⟨2, ![8192, 2560]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1x2048x2560, .f32⟩
  | .hbm, ⟨2, _⟩ => ⟨S8192x2048, .bf16⟩
  | .hbm, ⟨3, _⟩ => ⟨S8192x2560, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwaProjRefIdeal.lean ====
abbrev S8192x2048 : Shape := ⟨2, ![8192, 2048]⟩
abbrev S1x2048x2560 : Shape := ⟨3, ![1, 2048, 2560]⟩
abbrev S2048x2560 : Shape := ⟨2, ![2048, 2560]⟩
abbrev S8192x2560 : Shape := ⟨2, ![8192, 2560]⟩
abbrev S8192x256 : Shape := ⟨2, ![8192, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x2560, .f32⟩
  | .hbm, ⟨2, _⟩ => ⟨S2048x2560, .f32⟩
  | .hbm, ⟨3, _⟩ => ⟨S8192x2560, .f32⟩
  | .hbm, ⟨4, _⟩ => ⟨S8192x2048, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2560, .f32⟩
  | .hbm, ⟨11, _⟩ => ⟨S8192x2560, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== NsaProj.lean ====
abbrev S8192x2048 : Shape := ⟨2, ![8192, 2048]⟩
abbrev S1x2048x5168 : Shape := ⟨3, ![1, 2048, 5168]⟩
abbrev S8192x5120 : Shape := ⟨2, ![8192, 5120]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1x2048x5168, .f32⟩
  | .hbm, ⟨2, _⟩ => ⟨S8192x2048, .bf16⟩
  | .hbm, ⟨3, _⟩ => ⟨S8192x5120, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NsaProjRefIdeal.lean ====
abbrev S8192x2048 : Shape := ⟨2, ![8192, 2048]⟩
abbrev S1x2048x5168 : Shape := ⟨3, ![1, 2048, 5168]⟩
abbrev S2048x5168 : Shape := ⟨2, ![2048, 5168]⟩
abbrev S8192x5168 : Shape := ⟨2, ![8192, 5168]⟩
abbrev S8192x3072 : Shape := ⟨2, ![8192, 3072]⟩
abbrev S8192x48 : Shape := ⟨2, ![8192, 48]⟩
abbrev S_ : Shape := ⟨0, ![]⟩
abbrev S8192x5120 : Shape := ⟨2, ![8192, 5120]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x5168, .f32⟩
  | .hbm, ⟨2, _⟩ => ⟨S2048x5168, .f32⟩
  | .hbm, ⟨3, _⟩ => ⟨S8192x5168, .f32⟩
  | .hbm, ⟨4, _⟩ => ⟨S8192x2048, .f32⟩
  | .hbm, ⟨5, _⟩ => ⟨S8192x3072, .f32⟩
  | .hbm, ⟨6, _⟩ => ⟨S8192x48, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x5120, .f32⟩
  | .hbm, ⟨11, _⟩ => ⟨S8192x5120, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlaDown.lean ====
abbrev S8192x2048 : Shape := ⟨2, ![8192, 2048]⟩
abbrev S1x2048x1088 : Shape := ⟨3, ![1, 2048, 1088]⟩
abbrev S2048x1088 : Shape := ⟨2, ![2048, 1088]⟩
abbrev S2048x64 : Shape := ⟨2, ![2048, 64]⟩
abbrev S2048x32 : Shape := ⟨2, ![2048, 32]⟩
abbrev S2048x1152 : Shape := ⟨2, ![2048, 1152]⟩
abbrev S8192x1152 : Shape := ⟨2, ![8192, 1152]⟩
abbrev S1024x2048 : Shape := ⟨2, ![1024, 2048]⟩
abbrev S1024x1152 : Shape := ⟨2, ![1024, 1152]⟩

abbrev nBuf : Space → Nat
  | .hbm => 11
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048x1088, .f32⟩
  | .hbm, ⟨2, _⟩ => ⟨S2048x1088, .f32⟩
  | .hbm, ⟨3, _⟩ => ⟨S2048x64, .f32⟩
  | .hbm, ⟨4, _⟩ => ⟨S2048x32, .f32⟩
  | .hbm, ⟨5, _⟩ => ⟨S2048x32, .f32⟩
  | .hbm, ⟨6, _⟩ => ⟨S2048x64, .f32⟩
  | .hbm, ⟨7, _⟩ => ⟨S2048x1152, .f32⟩
  | .hbm, ⟨8, _⟩ => ⟨S2048x1152, .bf16⟩
  | .hbm, ⟨9, _⟩ => ⟨S8192x2048, .bf16⟩
  | .hbm, ⟨10, _⟩ => ⟨S8192x1152, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S1024x1152, .f32⟩
  | .local _ .vmem, ⟨4, _⟩ => ⟨S1024x1152, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaDownRefIdeal.lean ====
abbrev S8192x2048 : Shape := ⟨2, ![8192, 2048]⟩
abbrev S1x2048x1088 : Shape := ⟨3, ![1, 2048, 1088]⟩
abbrev S2048x1088 : Shape := ⟨2, ![2048, 1088]⟩
abbrev S8192x1088 : Shape := ⟨2, ![8192, 1088]⟩
abbrev S8192x512 : Shape := ⟨2, ![8192, 512]⟩
abbrev S8192x64 : Shape := ⟨2, ![8192, 64]⟩
abbrev S8192x32 : Shape := ⟨2, ![8192, 32]⟩
abbrev S8192x1152 : Shape := ⟨2, ![8192, 1152]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x1088, .f32⟩
  | .hbm, ⟨2, _⟩ => ⟨S2048x1088, .f32⟩
  | .hbm, ⟨3, _⟩ => ⟨S8192x1088, .f32⟩
  | .hbm, ⟨4, _⟩ => ⟨S8192x512, .f32⟩
  | .hbm, ⟨5, _⟩ => ⟨S8192x512, .f32⟩
  | .hbm, ⟨6, _⟩ => ⟨S8192x64, .f32⟩
  | .hbm, ⟨7, _⟩ => ⟨S8192x32, .f32⟩
  | .hbm, ⟨8, _⟩ => ⟨S8192x32, .f32⟩
  | .hbm, ⟨9, _⟩ => ⟨S8192x1152, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== MlaQuery.lean ====
abbrev S8192x512 : Shape := ⟨2, ![8192, 512]⟩
abbrev S1x512x3072 : Shape := ⟨3, ![1, 512, 3072]⟩
abbrev S512x3072 : Shape := ⟨2, ![512, 3072]⟩
abbrev S512x16x192 : Shape := ⟨3, ![512, 16, 192]⟩
abbrev S512x16x64 : Shape := ⟨3, ![512, 16, 64]⟩
abbrev S512x16x128 : Shape := ⟨3, ![512, 16, 128]⟩
abbrev S512x2048 : Shape := ⟨2, ![512, 2048]⟩
abbrev S512x1024 : Shape := ⟨2, ![512, 1024]⟩
abbrev S512x16x32 : Shape := ⟨3, ![512, 16, 32]⟩
abbrev S512x4096 : Shape := ⟨2, ![512, 4096]⟩
abbrev S8192x4096 : Shape := ⟨2, ![8192, 4096]⟩
abbrev S1024x512 : Shape := ⟨2, ![1024, 512]⟩
abbrev S512x512 : Shape := ⟨2, ![512, 512]⟩

abbrev nBuf : Space → Nat
  | .hbm => 15
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S1x512x3072, .f32⟩
  | .hbm, ⟨2, _⟩ => ⟨S512x3072, .f32⟩
  | .hbm, ⟨3, _⟩ => ⟨S512x16x192, .f32⟩
  | .hbm, ⟨4, _⟩ => ⟨S512x16x64, .f32⟩
  | .hbm, ⟨5, _⟩ => ⟨S512x16x128, .f32⟩
  | .hbm, ⟨6, _⟩ => ⟨S512x2048, .f32⟩
  | .hbm, ⟨7, _⟩ => ⟨S512x1024, .f32⟩
  | .hbm, ⟨8, _⟩ => ⟨S512x16x32, .f32⟩
  | .hbm, ⟨9, _⟩ => ⟨S512x16x32, .f32⟩
  | .hbm, ⟨10, _⟩ => ⟨S512x16x64, .f32⟩
  | .hbm, ⟨11, _⟩ => ⟨S512x1024, .f32⟩
  | .hbm, ⟨12, _⟩ => ⟨S512x4096, .f32⟩
  | .hbm, ⟨13, _⟩ => ⟨S512x4096, .bf16⟩
  | .hbm, ⟨14, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaQueryRefIdeal.lean ====
abbrev S8192x512 : Shape := ⟨2, ![8192, 512]⟩
abbrev S1x512x3072 : Shape := ⟨3, ![1, 512, 3072]⟩
abbrev S512x3072 : Shape := ⟨2, ![512, 3072]⟩
abbrev S8192x3072 : Shape := ⟨2, ![8192, 3072]⟩
abbrev S8192x16x192 : Shape := ⟨3, ![8192, 16, 192]⟩
abbrev S_ : Shape := ⟨0, ![]⟩
abbrev S8192x16x128 : Shape := ⟨3, ![8192, 16, 128]⟩
abbrev S8192x16x64 : Shape := ⟨3, ![8192, 16, 64]⟩
abbrev S8192x16x32 : Shape := ⟨3, ![8192, 16, 32]⟩
abbrev S8192x2048 : Shape := ⟨2, ![8192, 2048]⟩
abbrev S8192x1024 : Shape := ⟨2, ![8192, 1024]⟩
abbrev S8192x4096 : Shape := ⟨2, ![8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1x512x3072, .f32⟩
  | .hbm, ⟨2, _⟩ => ⟨S8192x512, .f32⟩
  | .hbm, ⟨3, _⟩ => ⟨S512x3072, .f32⟩
  | .hbm, ⟨4, _⟩ => ⟨S8192x3072, .f32⟩
  | .hbm, ⟨5, _⟩ => ⟨S8192x16x192, .f32⟩
  | .hbm, ⟨6, _⟩ => ⟨S_, .f32⟩
  | .hbm, ⟨7, _⟩ => ⟨S8192x16x192, .f32⟩
  | .hbm, ⟨8, _⟩ => ⟨S8192x16x192, .f32⟩
  | .hbm, ⟨9, _⟩ => ⟨S8192x16x128, .f32⟩
  | .hbm, ⟨10, _⟩ => ⟨S8192x16x64, .f32⟩
  | .hbm, ⟨11, _⟩ => ⟨S8192x16x32, .f32⟩
  | .hbm, ⟨12, _⟩ => ⟨S8192x16x32, .f32⟩
  | .hbm, ⟨13, _⟩ => ⟨S8192x2048, .f32⟩
  | .hbm, ⟨14, _⟩ => ⟨S8192x1024, .f32⟩
  | .hbm, ⟨15, _⟩ => ⟨S8192x16x64, .f32⟩
  | .hbm, ⟨16, _⟩ => ⟨S8192x1024, .f32⟩
  | .hbm, ⟨17, _⟩ => ⟨S8192x4096, .f32⟩
  | .hbm, ⟨18, _⟩ => ⟨S8192x4096, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== MlaPairs.lean ====
abbrev S8192x512 : Shape := ⟨2, ![8192, 512]⟩
abbrev S1x512x4096 : Shape := ⟨3, ![1, 512, 4096]⟩
abbrev S512x4096 : Shape := ⟨2, ![512, 4096]⟩
abbrev S512x16x256 : Shape := ⟨3, ![512, 16, 256]⟩
abbrev S512x16x128 : Shape := ⟨3, ![512, 16, 128]⟩
abbrev S512x2048 : Shape := ⟨2, ![512, 2048]⟩
abbrev S8192x4096 : Shape := ⟨2, ![8192, 4096]⟩
abbrev S1024x512 : Shape := ⟨2, ![1024, 512]⟩
abbrev S512x512 : Shape := ⟨2, ![512, 512]⟩

abbrev nBuf : Space → Nat
  | .hbm => 11
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S1x512x4096, .f32⟩
  | .hbm, ⟨2, _⟩ => ⟨S512x4096, .f32⟩
  | .hbm, ⟨3, _⟩ => ⟨S512x16x256, .f32⟩
  | .hbm, ⟨4, _⟩ => ⟨S512x16x128, .f32⟩
  | .hbm, ⟨5, _⟩ => ⟨S512x2048, .f32⟩
  | .hbm, ⟨6, _⟩ => ⟨S512x16x128, .f32⟩
  | .hbm, ⟨7, _⟩ => ⟨S512x2048, .f32⟩
  | .hbm, ⟨8, _⟩ => ⟨S512x4096, .f32⟩
  | .hbm, ⟨9, _⟩ => ⟨S512x4096, .bf16⟩
  | .hbm, ⟨10, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaPairsRefIdeal.lean ====
abbrev S8192x512 : Shape := ⟨2, ![8192, 512]⟩
abbrev S1x512x4096 : Shape := ⟨3, ![1, 512, 4096]⟩
abbrev S512x4096 : Shape := ⟨2, ![512, 4096]⟩
abbrev S8192x4096 : Shape := ⟨2, ![8192, 4096]⟩
abbrev S8192x16x256 : Shape := ⟨3, ![8192, 16, 256]⟩
abbrev S8192x16x128 : Shape := ⟨3, ![8192, 16, 128]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1x512x4096, .f32⟩
  | .hbm, ⟨2, _⟩ => ⟨S8192x512, .f32⟩
  | .hbm, ⟨3, _⟩ => ⟨S512x4096, .f32⟩
  | .hbm, ⟨4, _⟩ => ⟨S8192x4096, .f32⟩
  | .hbm, ⟨5, _⟩ => ⟨S8192x16x256, .f32⟩
  | .hbm, ⟨6, _⟩ => ⟨S8192x16x128, .f32⟩
  | .hbm, ⟨7, _⟩ => ⟨S8192x16x128, .f32⟩
  | .hbm, ⟨8, _⟩ => ⟨S8192x2048, .f32⟩
  | .hbm, ⟨9, _⟩ => ⟨S8192x2048, .f32⟩
  | .hbm, ⟨10, _⟩ => ⟨S8192x4096, .f32⟩
  | .hbm, ⟨11, _⟩ => ⟨S8192x4096, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== MlaPrep.lean ====
abbrev S8192x1088 : Shape := ⟨2, ![8192, 1088]⟩
abbrev S1x512 : Shape := ⟨2, ![1, 512]⟩
abbrev S8192x64 : Shape := ⟨2, ![8192, 64]⟩
abbrev S8192x32 : Shape := ⟨2, ![8192, 32]⟩
abbrev S8192x1152 : Shape := ⟨2, ![8192, 1152]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S512 : Shape := ⟨1, ![512]⟩
abbrev S8192x512 : Shape := ⟨2, ![8192, 512]⟩
abbrev S2x8192x128 : Shape := ⟨3, ![2, 8192, 128]⟩
abbrev S512x1152 : Shape := ⟨2, ![512, 1152]⟩
abbrev S512x128 : Shape := ⟨2, ![512, 128]⟩
abbrev S512x512 : Shape := ⟨2, ![512, 512]⟩
abbrev S2x512x128 : Shape := ⟨3, ![2, 512, 128]⟩
abbrev S512x1 : Shape := ⟨2, ![512, 1]⟩
abbrev S1x512x128 : Shape := ⟨3, ![1, 512, 128]⟩

abbrev nBuf : Space → Nat
  | .hbm => 39
  | .vmem => 12
  | .smem => 0
  | _ => 0

abbrev bufTy : (tb : Table) → Fin (tcTables nBuf tb) → BufTy
  | .hbm, ⟨0, _⟩ => ⟨S8192x1088, .f32⟩
  | .hbm, ⟨1, _⟩ => ⟨S1x512, .f32⟩
  | .hbm, ⟨2, _⟩ => ⟨S1x512, .f32⟩
  | .hbm, ⟨3, _⟩ => ⟨S8192x64, .f32⟩
  | .hbm, ⟨4, _⟩ => ⟨S8192x32, .f32⟩
  | .hbm, ⟨5, _⟩ => ⟨S8192x32, .f32⟩
  | .hbm, ⟨6, _⟩ => ⟨S8192x64, .f32⟩
  | .hbm, ⟨7, _⟩ => ⟨S8192x1152, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x128, .f32⟩
  | .hbm, ⟨32, _⟩ => ⟨S512, .f32⟩
  | .hbm, ⟨33, _⟩ => ⟨S512, .f32⟩
  | .hbm, ⟨34, _⟩ => ⟨S1x512, .f32⟩
  | .hbm, ⟨35, _⟩ => ⟨S1x512, .f32⟩
  | .hbm, ⟨36, _⟩ => ⟨S8192x512, .bf16⟩
  | .hbm, ⟨37, _⟩ => ⟨S8192x512, .bf16⟩
  | .hbm, ⟨38, _⟩ => ⟨S2x8192x128, .bf16⟩
  | .local _ .vmem, ⟨0, _⟩ => ⟨S512x1152, .f32⟩
  | .local _ .vmem, ⟨1, _⟩ => ⟨S512x1152, .f32⟩
  | .local _ .vmem, ⟨2, _⟩ => ⟨S1x512, .f32⟩
  | .local _ .vmem, ⟨3, _⟩ => ⟨S1x512, .f32⟩
  | .local _ .vmem, ⟨4, _⟩ => ⟨S512x128, .f32⟩
  | .local _ .vmem, ⟨5, _⟩ => ⟨S512x128, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2x512x128, .bf16⟩
  | .local _ .vmem, ⟨11, _⟩ => ⟨S2x512x128, .bf16⟩
  | _, _ => ⟨S8192x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v29_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlaPrepRefIdeal.lean ====
abbrev S8192x1088 : Shape := ⟨2, ![8192, 1088]⟩
abbrev S1x512 : Shape := ⟨2, ![1, 512]⟩
abbrev S8192x512 : Shape := ⟨2, ![8192, 512]⟩
abbrev S8192x64 : Shape := ⟨2, ![8192, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S4x2048x64 : Shape := ⟨3, ![4, 2048, 64]⟩
abbrev S4x2048x32 : Shape := ⟨3, ![4, 2048, 32]⟩
abbrev S1x2048x32 : Shape := ⟨3, ![1, 2048, 32]⟩
abbrev S8192x128 : Shape := ⟨2, ![8192, 128]⟩
abbrev S1x8192x128 : Shape := ⟨3, ![1, 8192, 128]⟩
abbrev S2x8192x128 : Shape := ⟨3, ![2, 8192, 128]⟩
abbrev S512 : Shape := ⟨1, ![512]⟩
abbrev S8192 : Shape := ⟨1, ![8192]⟩
abbrev S8192x1 : Shape := ⟨2, ![8192, 1]⟩

abbrev nBuf : Space → Nat
  | .hbm => 91
  | .vmem => 0
  | .smem => 0
  | _ => 0

abbrev bufTy : (tb : Table) → Fin (tcTables nBuf tb) → BufTy
  | .hbm, ⟨0, _⟩ => ⟨S8192x1088, .f32⟩
  | .hbm, ⟨1, _⟩ => ⟨S1x512, .f32⟩
  | .hbm, ⟨2, _⟩ => ⟨S1x512, .f32⟩
  | .hbm, ⟨3, _⟩ => ⟨S8192x512, .f32⟩
  | .hbm, ⟨4, _⟩ => ⟨S8192x512, .f32⟩
  | .hbm, ⟨5, _⟩ => ⟨S8192x64, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S4x2048x64, .f32⟩
  | .hbm, ⟨29, _⟩ => ⟨S4x2048x32, .f32⟩
  | .hbm, ⟨30, _⟩ => ⟨S4x2048x32, .f32⟩
  | .hbm, ⟨31, _⟩ => ⟨S1x2048x32, .f32⟩
  | .hbm, ⟨32, _⟩ => ⟨S4x2048x32, .f32⟩
  | .hbm, ⟨33, _⟩ => ⟨S4x2048x32, .f32⟩
  | .hbm, ⟨34, _⟩ => ⟨S1x2048x32, .f32⟩
  | .hbm, ⟨35, _⟩ => ⟨S4x2048x32, .f32⟩
  | .hbm, ⟨36, _⟩ => ⟨S4x2048x32, .f32⟩
  | .hbm, ⟨37, _⟩ => ⟨S4x2048x32, .f32⟩
  | .hbm, ⟨38, _⟩ => ⟨S1x2048x32, .f32⟩
  | .hbm, ⟨39, _⟩ => ⟨S4x2048x32, .f32⟩
  | .hbm, ⟨40, _⟩ => ⟨S4x2048x32, .f32⟩
  | .hbm, ⟨41, _⟩ => ⟨S1x2048x32, .f32⟩
  | .hbm, ⟨42, _⟩ => ⟨S4x2048x32, .f32⟩
  | .hbm, ⟨43, _⟩ => ⟨S4x2048x32, .f32⟩
  | .hbm, ⟨44, _⟩ => ⟨S4x2048x32, .f32⟩
  | .hbm, ⟨45, _⟩ => ⟨S4x2048x64, .f32⟩
  | .hbm, ⟨46, _⟩ => ⟨S8192x64, .f32⟩
  | .hbm, ⟨47, _⟩ => ⟨S_, .f32⟩
  | .hbm, ⟨48, _⟩ => ⟨S8192x64, .f32⟩
  | .hbm, ⟨49, _⟩ => ⟨S8192x128, .f32⟩
  | .hbm, ⟨50, _⟩ => ⟨S8192x128, .f32⟩
  | .hbm, ⟨51, _⟩ => ⟨S1x8192x128, .f32⟩
  | .hbm, ⟨52, _⟩ => ⟨S1x8192x128, .f32⟩
  | .hbm, ⟨53, _⟩ => ⟨S2x8192x128, .f32⟩
  | .hbm, ⟨54, _⟩ => ⟨S512, .f32⟩
  | .hbm, ⟨55, _⟩ => ⟨S8192x512, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x512, .f32⟩
  | .hbm, ⟨67, _⟩ => ⟨S8192x512, .f32⟩
  | .hbm, ⟨68, _⟩ => ⟨S1x512, .f32⟩
  | .hbm, ⟨69, _⟩ => ⟨S8192x512, .f32⟩
  | .hbm, ⟨70, _⟩ => ⟨S8192x512, .f32⟩
  | .hbm, ⟨71, _⟩ => ⟨S8192x512, .bf16⟩
  | .hbm, ⟨72, _⟩ => ⟨S512, .f32⟩
  | .hbm, ⟨73, _⟩ => ⟨S8192x512, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x512, .f32⟩
  | .hbm, ⟨85, _⟩ => ⟨S8192x512, .f32⟩
  | .hbm, ⟨86, _⟩ => ⟨S1x512, .f32⟩
  | .hbm, ⟨87, _⟩ => ⟨S8192x512, .f32⟩
  | .hbm, ⟨88, _⟩ => ⟨S8192x512, .f32⟩
  | .hbm, ⟨89, _⟩ => ⟨S8192x512, .bf16⟩
  | .hbm, ⟨90, _⟩ => ⟨S2x8192x128, .bf16⟩
  | _, _ => ⟨S8192x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_7 : Ref sig .tc := ⟨.hbm, 74, rfl⟩
abbrev main_v63 : Ref sig .tc := ⟨.hbm, 75, rfl⟩
abbrev main_v64 : Ref sig .tc := ⟨.hbm, 76, rfl⟩
abbrev main_cst_8 : Ref sig .tc := ⟨.hbm, 77, rfl⟩
abbrev main_v65 : Ref sig .tc := ⟨.hbm, 78, rfl⟩
abbrev main_v66 : Ref sig .tc := ⟨.hbm, 79, rfl⟩
abbrev main_cst_9 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩

abbrev nD : Nat := 1
abbrev τ : Topo := Topo.v7x

variable {F : FTy → Type} [FloatOps F]
-- ==== Proof.AttnHost.lean ====
module

public import proofs.«01_k».proof.Proof.Gen.KernelIdeal.Frame
public import proofs.«01_k».proof.Proof.Gen.KernelIdeal.Value
public import proofs.«01_k».proof.Defs
public import Idealize.ShloMosaic.Lib.Pipeline.ValueKit

/-! The arrays the attention kernel is launched on, as the host line leaves them, read at an entry. -/

@[expose] public section

set_option maxRecDepth 16384

noncomputable section

namespace Cert.AttnProof

open Cert.KernelIdeal Cert.KernelIdeal.Gen
open Idealize.ShloMosaic Idealize.ShloMosaic.TcCoe Idealize.SL.Sem
open Idealize.ShloMosaic.Pipeline (Dat)

/-- Entries at equal positions. -/
theorem at_eq {n : ℕ} (f : Fin n → EReal) {i j : Fin n} (h : (i : ℕ) = j) : f i = f j := congrArg f (Fin.ext h)

/-- The rotation angles: position times inverse frequency. -/
def angs : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
          (mulf (broadcastInDim S32 ![] bcast_S_S32 (constant S_ .f32 0x40000000#32)) (sitofp .f32 (iotaInDim S32 32 0)))))
          (broadcastInDim S32 ![] bcast_S_S32 (constant S_ .f32 0x42800000#32))))))

/-- The cosine table, repeated over 128 lanes. -/
def ctab : FVec Ideal S2048x128 .f32 :=
  let c : FVec Ideal S2048x32 .f32 := Host.cos angs
  concatenate S2048x128 1 [⟨S2048x32, c⟩, ⟨S2048x32, c⟩, ⟨S2048x32, c⟩, ⟨S2048x32, c⟩] concatenates_S2048x32_S2048x32_S2048x32_S2048x32_S2048x128_d1

/-- The sine table with alternating signs over 128 lanes. -/
def stab : FVec Ideal S2048x128 .f32 :=
  let s : FVec Ideal S2048x32 .f32 := Host.sin angs
  concatenate S2048x128 1 [⟨S2048x32, Host.negf s⟩, ⟨S2048x32, s⟩, ⟨S2048x32, Host.negf s⟩, ⟨S2048x32, s⟩] concatenates_S2048x32_S2048x32_S2048x32_S2048x32_S2048x128_d1

/-- The rotary columns of the queries. -/
def qrope (q : FVec Ideal S8192x3072 .bf16) : FVec Ideal S8192x16x64 .bf16 :=
  extractStridedSlice S8192x16x64 ![0, 0, 128] (shapeCast S8192x16x192 q shapeCasts_S8192x3072_S8192x16x192) slices_S8192x16x192_S8192x16x64_0_0_128

/-- The queries' columns regrouped. -/
def qx (q : FVec Ideal S8192x3072 .bf16) : FVec Ideal S8192x4096 .bf16 :=
  concatenate S8192x4096 1 [⟨S8192x2048, shapeCast S8192x2048 (extractStridedSlice S8192x16x128 ![0, 0, 0] (shapeCast S8192x16x192 q shapeCasts_S8192x3072_S8192x16x192) slices_S8192x16x192_S8192x16x128_0_0_0) shapeCasts_S8192x16x128_S8192x2048⟩,
    ⟨S8192x1024, shapeCast S8192x1024 (qrope q) shapeCasts_S8192x16x64_S8192x1024⟩,
    ⟨S8192x1024, shapeCast S8192x1024 (concatenate S8192x16x64 2 [⟨S8192x16x32, extractStridedSlice S8192x16x32 ![0, 0, 32] (qrope q) slices_S8192x16x64_S8192x16x32_0_0_32⟩,
      ⟨S8192x16x32, extractStridedSlice S8192x16x32 ![0, 0, 0] (qrope q) slices_S8192x16x64_S8192x16x32_0_0_0⟩] concatenates_S8192x16x32_S8192x16x32_S8192x16x64_d2) shapeCasts_S8192x16x64_S8192x1024⟩]
    concatenates_S8192x2048_S8192x1024_S8192x1024_S8192x4096_d1

/-- The keys' and values' columns regrouped. -/
def kvx (kv : FVec Ideal S8192x4096 .bf16) : FVec Ideal S8192x4096 .bf16 :=
  let w : FVec Ideal S8192x16x256 .bf16 := shapeCast S8192x16x256 kv shapeCasts_S8192x4096_S8192x16x256
  concatenate S8192x4096 1 [⟨S8192x2048, shapeCast S8192x2048 (extractStridedSlice S8192x16x128 ![0, 0, 0] w slices_S8192x16x256_S8192x16x128_0_0_0) shapeCasts_S8192x16x128_S8192x2048⟩,
    ⟨S8192x2048, shapeCast S8192x2048 (extractStridedSlice S8192x16x128 ![0, 0, 128] w slices_S8192x16x256_S8192x16x128_0_0_128) shapeCasts_S8192x16x128_S8192x2048⟩]
    concatenates_S8192x2048_S8192x2048_S8192x4096_d1

/-- The shared rotary key beside zeros, on either side. -/
def krx (k : FVec Ideal S8192x64 .bf16) : FVec Ideal S2x8192x128 .bf16 :=
  let z : FVec Ideal S8192x64 .bf16 := broadcastInDim S8192x64 ![] bcast_S_S8192x64 (constant S_ .bf16 0x0000#16)
  concatenate S2x8192x128 0 [⟨S1x8192x128, broadcastInDim S1x8192x128 ![1, 2] bcast_S8192x128_S1x8192x128_1_2 (concatenate S8192x128 1 [⟨S8192x64, k⟩, ⟨S8192x64, z⟩] concatenates_S8192x64_S8192x64_S8192x128_d1)⟩,
    ⟨S1x8192x128, broadcastInDim S1x8192x128 ![1, 2] bcast_S8192x128_S1x8192x128_1_2 (concatenate S8192x128 1 [⟨S8192x64, z⟩, ⟨S8192x64, k⟩] concatenates_S8192x64_S8192x64_S8192x128_d1)⟩]
    concatenates_S1x8192x128_S1x8192x128_S2x8192x128_d0

/-- The cosine of a position's angle. -/
def cosT (p : Fin 2048) (u : Fin 32) : EReal := Ideal.cos (angs (ix2 p u))

/-- The sine of a position's angle. -/
def sinT (p : Fin 2048) (u : Fin 32) : EReal := Ideal.sin (angs (ix2 p u))

theorem qx_nope (q : FVec Ideal S8192x3072 .bf16) (R : Fin 8192) (h : Fin 16) (d : Fin 128) :
    qx q (ix2 R ⟨128 * h + d, by omega⟩) = q (ix2 R ⟨192 * h + d, by omega⟩) := by
  pointwise [qx, qrope]
  split_ifs
  all_goals first | (exfalso; omega) | exact at_eq (fun i => q (ix2 R i)) (by dsimp only <;> omega)

theorem qx_rope (q : FVec Ideal S8192x3072 .bf16) (R : Fin 8192) (h : Fin 16) (u : Fin 64) :
    qx q (ix2 R ⟨2048 + (64 * h + u), by omega⟩) = q (ix2 R ⟨192 * h + 128 + u, by omega⟩) := by
  pointwise [qx, qrope]
  split_ifs
  all_goals first | (exfalso; omega) | exact at_eq (fun i => q (ix2 R i)) (by dsimp only <;> omega)

theorem qx_swap (q : FVec Ideal S8192x3072 .bf16) (R : Fin 8192) (h : Fin 16) (u : Fin 64) :
    qx q (ix2 R ⟨3072 + (64 * h + u), by omega⟩) = q (ix2 R ⟨192 * h + 128 + (u + 32) % 64, by omega⟩) := by
  pointwise [qx, qrope]
  split_ifs
  all_goals first | (exfalso; omega) | exact at_eq (fun i => q (ix2 R i)) (by dsimp only <;> omega)

theorem kvx_key (kv : FVec Ideal S8192x4096 .bf16) (R : Fin 8192) (h : Fin 16) (d : Fin 128) :
    kvx kv (ix2 R ⟨128 * h + d, by omega⟩) = kv (ix2 R ⟨256 * h + d, by omega⟩) := by
  pointwise [kvx]
  split_ifs <;> first | (exfalso; omega) | exact at_eq (fun i => kv (ix2 R i)) (by dsimp only <;> omega)

theorem kvx_val (kv : FVec Ideal S8192x4096 .bf16) (R : Fin 8192) (h : Fin 16) (d : Fin 128) :
    kvx kv (ix2 R ⟨2048 + (128 * h + d), by omega⟩) = kv (ix2 R ⟨256 * h + 128 + d, by omega⟩) := by
  pointwise [kvx]
  exact at_eq (fun i => kv (ix2 R i)) (by dsimp only <;> omega)

theorem krx_on (k : FVec Ideal S8192x64 .bf16) (b : Fin 2) (R : Fin 8192) (e : Fin 128) (h : (e : ℕ) / 64 = b) :
    krx k (ix3 b R e) = k (ix2 R ⟨(e : ℕ) % 64, by omega⟩) := by
  pointwise [krx]
  split_ifs
  all_goals first | (exfalso; omega) | exact at_eq (fun i => k (ix2 R i)) (by dsimp only <;> omega)

theorem krx_off (k : FVec Ideal S8192x64 .bf16) (b : Fin 2) (R : Fin 8192) (e : Fin 128) (h : ¬ (e : ℕ) / 64 = b) :
    krx k (ix3 b R e) = (0 : EReal) := by
  pointwise [krx]
  split_ifs
  all_goals first | rfl | (exfalso; omega)

theorem ctab_at (p : Fin 2048) (e : Fin 128) : ctab (ix2 p e) = cosT p ⟨(e : ℕ) % 32, by omega⟩ := by
  pointwise [ctab, cosT]
  split_ifs <;> exact at_eq (fun i => Ideal.cos (angs (ix2 p i))) (by dsimp only <;> omega)

theorem stab_lo (p : Fin 2048) (e : Fin 128) (h : (e : ℕ) % 64 < 32) : stab (ix2 p e) = -sinT p ⟨(e : ℕ) % 32, by omega⟩ := by
  pointwise [stab, sinT]
  split_ifs
  all_goals first | (exfalso; omega) | exact at_eq (fun i => -Ideal.sin (angs (ix2 p i))) (by dsimp only <;> omega)

theorem stab_hi (p : Fin 2048) (e : Fin 128) (h : ¬ (e : ℕ) % 64 < 32) : stab (ix2 p e) = sinT p ⟨(e : ℕ) % 32, by omega⟩ := by
  pointwise [stab, sinT]
  split_ifs
  all_goals first | (exfalso; omega) | exact at_eq (fun i => Ideal.sin (angs (ix2 p i))) (by dsimp only <;> omega)

theorem angs_real (p : Fin 2048) (u : Fin 32) : ∃ x : ℝ, angs (ix2 p u) = (x : EReal) := by
  pointwise [angs]
  have e1 : ∃ x : ℝ, Ideal.ofBits .f32 0x461C4000#32 = (x : EReal) := ⟨_, by simp [Ideal.ofBits, Ideal.ieee, -EReal.coe_mul]; rfl⟩
  have e2 : ∃ x : ℝ, Ideal.ofBits .f32 0x40000000#32 = (x : EReal) := ⟨_, by simp [Ideal.ofBits, Ideal.ieee, -EReal.coe_mul]; rfl⟩
  have e3 : Ideal.ofBits .f32 0x42800000#32 = ((64 : ℝ) : EReal) := by simp [Ideal.ofBits, Ideal.ieee, -EReal.coe_mul]; norm_num
  have e4 : ∀ w : BitVec 32, ∃ x : ℝ, FloatOps.sitofp (F := Ideal) .f32 w = (x : EReal) := fun w => ⟨_, rfl⟩
  obtain ⟨x1, e1⟩ := e1
  obtain ⟨x2, e2⟩ := e2
  obtain ⟨x4, e4'⟩ := e4 (BitVec.ofNat 32 u)
  obtain ⟨x5, e5⟩ := e4 (BitVec.ofNat 32 p)
  rw [e1, e2, e3, e4', e5, ← EReal.coe_mul, ← EReal.coe_neg, Ideal.div_coe (by norm_num), ← EReal.coe_mul, Ideal.pow_coe_coe, ← EReal.coe_mul]
  exact ⟨_, rfl⟩

theorem cosT_real (p : Fin 2048) (u : Fin 32) : ∃ x : ℝ, cosT p u = (x : EReal) := by
  obtain ⟨x, h⟩ := angs_real p u
  exact ⟨_, by rw [cosT, h, Ideal.cos_coe]⟩

theorem sinT_real (p : Fin 2048) (u : Fin 32) : ∃ x : ℝ, sinT p u = (x : EReal) := by
  obtain ⟨x, h⟩ := angs_real p u
  exact ⟨_, by rw [sinT, h, Ideal.sin_coe]⟩

end Cert.AttnProof

end
-- ==== Proof.AttnMath.lean ====
module

public import Idealize.ShloMosaic.PureOps.Ideal
public import Idealize.ShloMosaic.Lib.Pointwise

/-! The arithmetic of a softmax row over the extended reals: masked scores weigh nothing, a running
maximum only rescales, and both a one-pass and a blockwise row end at the same quotient of real sums. -/

@[expose] public section

noncomputable section

namespace Cert.Attn

open Idealize.ShloMosaic

/-- The weight of a score: its exponential, and zero where the score is minus infinity. -/
def wt (s : EReal) : ℝ := (Ideal.exp s).toReal

theorem wt_bot : wt ⊥ = 0 := by simp [wt]

theorem wt_coe (x : ℝ) : wt (x : EReal) = Real.exp x := by simp [wt]

theorem wt_nonneg {s : EReal} (hs : s ≠ ⊤) : 0 ≤ wt s := by
  induction s with
  | bot => rw [wt_bot]
  | coe x => rw [wt_coe]; exact (Real.exp_pos x).le
  | top => exact absurd rfl hs

theorem exp_sub {s : EReal} (hs : s ≠ ⊤) (μ : ℝ) : Ideal.exp (s - (μ : EReal)) = ((Real.exp (-μ) * wt s : ℝ) : EReal) := by
  induction s with
  | bot => rw [EReal.bot_sub, Ideal.exp_bot, wt_bot]; simp
  | coe x =>
    rw [wt_coe, ← EReal.coe_sub, Ideal.exp_coe, ← Real.exp_add]
    congr 2; ring
  | top => exact absurd rfl hs

theorem sum_coe {n : ℕ} (f : Fin n → ℝ) : ∑ j, ((f j : ℝ) : EReal) = ((∑ j, f j : ℝ) : EReal) :=
  (map_sum (⟨⟨((↑) : ℝ → EReal), rfl⟩, fun x y => EReal.coe_add x y⟩ : ℝ →+ EReal) f Finset.univ).symm

theorem sum_exp {n : ℕ} (s : Fin n → EReal) (hs : ∀ j, s j ≠ ⊤) (μ : ℝ) :
    ∑ j, Ideal.exp (s j - (μ : EReal)) = ((Real.exp (-μ) * ∑ j, wt (s j) : ℝ) : EReal) := by
  rw [Finset.mul_sum, ← sum_coe]
  exact Finset.sum_congr rfl fun j _ => exp_sub (hs j) μ

theorem sum_exp_mul {n : ℕ} (s v : Fin n → EReal) (x : Fin n → ℝ) (hs : ∀ j, s j ≠ ⊤) (hv : ∀ j, v j = (x j : EReal)) (μ : ℝ) :
    ∑ j, Ideal.exp (s j - (μ : EReal)) * v j = ((Real.exp (-μ) * ∑ j, wt (s j) * x j : ℝ) : EReal) := by
  rw [Finset.mul_sum, ← sum_coe]
  refine Finset.sum_congr rfl fun j _ => ?_
  rw [exp_sub (hs j) μ, hv j, ← EReal.coe_mul, mul_assoc]

/-- `l` is the sum `L` of weights, kept relative to the running maximum `M`. -/
def Rep (M l : EReal) (L : ℝ) : Prop := M ≠ ⊤ ∧ ∀ μ : ℝ, Ideal.exp (M - (μ : EReal)) * l = ((Real.exp (-μ) * L : ℝ) : EReal)

theorem rep_init : Rep ⊥ 0 0 := ⟨by simp, fun μ => by simp⟩

theorem rep_coe {μ : ℝ} {l : EReal} {L : ℝ} (h : l = ((Real.exp (-μ) * L : ℝ) : EReal)) : Rep μ l L := by
  refine ⟨EReal.coe_ne_top μ, fun ν => ?_⟩
  rw [h, exp_sub (EReal.coe_ne_top μ), wt_coe, ← EReal.coe_mul]
  congr 1
  have : Real.exp μ * Real.exp (-μ) = 1 := by rw [← Real.exp_add]; simp
  calc Real.exp (-ν) * Real.exp μ * (Real.exp (-μ) * L) = Real.exp (-ν) * (Real.exp μ * Real.exp (-μ)) * L := by ring
    _ = _ := by rw [this]; ring

theorem rep_exact {μ : ℝ} {l : EReal} {L : ℝ} (h : Rep μ l L) : l = ((Real.exp (-μ) * L : ℝ) : EReal) := by
  have e := h.2 μ
  rw [exp_sub (EReal.coe_ne_top μ), wt_coe, ← Real.exp_add] at e
  simpa using e

/-- A block's weights added, at a new real maximum. -/
theorem rep_add {M l : EReal} {L : ℝ} (h : Rep M l L) (μ : ℝ) {n : ℕ} (s : Fin n → EReal) (hs : ∀ j, s j ≠ ⊤) :
    Rep μ (Ideal.exp (M - (μ : EReal)) * l + ∑ j, Ideal.exp (s j - (μ : EReal))) (L + ∑ j, wt (s j)) := by
  refine rep_coe ?_
  rw [h.2 μ, sum_exp s hs μ, ← EReal.coe_add, mul_add]

/-- A block's weighted values added, at a new real maximum. -/
theorem rep_add_mul {M a : EReal} {A : ℝ} (h : Rep M a A) (μ : ℝ) {n : ℕ} (s v : Fin n → EReal) (x : Fin n → ℝ) (hs : ∀ j, s j ≠ ⊤)
    (hv : ∀ j, v j = (x j : EReal)) :
    Rep μ (Ideal.exp (M - (μ : EReal)) * a + ∑ j, Ideal.exp (s j - (μ : EReal)) * v j) (A + ∑ j, wt (s j) * x j) := by
  refine rep_coe ?_
  rw [h.2 μ, sum_exp_mul s v x hs hv μ, ← EReal.coe_add, mul_add]

/-- A second block's weights added at the same maximum. -/
theorem rep_more {l : EReal} {L μ : ℝ} (h : Rep μ l L) {n : ℕ} (s : Fin n → EReal) (hs : ∀ j, s j ≠ ⊤) :
    Rep μ (l + ∑ j, Ideal.exp (s j - (μ : EReal))) (L + ∑ j, wt (s j)) := by
  refine rep_coe ?_
  rw [rep_exact h, sum_exp s hs μ, ← EReal.coe_add, mul_add]

theorem rep_more_mul {a : EReal} {A μ : ℝ} (h : Rep μ a A) {n : ℕ} (s v : Fin n → EReal) (x : Fin n → ℝ) (hs : ∀ j, s j ≠ ⊤)
    (hv : ∀ j, v j = (x j : EReal)) : Rep μ (a + ∑ j, Ideal.exp (s j - (μ : EReal)) * v j) (A + ∑ j, wt (s j) * x j) := by
  refine rep_coe ?_
  rw [rep_exact h, sum_exp_mul s v x hs hv μ, ← EReal.coe_add, mul_add]

/-- The largest of a block's scores. -/
def top {n : ℕ} (s : Fin n → EReal) : EReal := Finset.univ.fold max ⊥ s

theorem top_ne_top {n : ℕ} (s : Fin n → EReal) (hs : ∀ j, s j ≠ ⊤) : top s ≠ ⊤ :=
  (Finset.fold_max_lt _ |>.mpr ⟨bot_lt_top, fun j _ => lt_top_iff_ne_top.mpr (hs j)⟩).ne

theorem le_top {n : ℕ} (s : Fin n → EReal) (j : Fin n) : s j ≤ top s :=
  (Finset.le_fold_max (s j)).mpr (.inr ⟨j, Finset.mem_univ j, le_rfl⟩)

theorem top_ne_bot {n : ℕ} (s : Fin n → EReal) (j : Fin n) (h : s j ≠ ⊥) : top s ≠ ⊥ := fun e =>
  h (le_bot_iff.mp (e ▸ le_top s j))

theorem exists_coe {x : EReal} (h₁ : x ≠ ⊥) (h₂ : x ≠ ⊤) : ∃ μ : ℝ, x = (μ : EReal) := ⟨x.toReal, (EReal.coe_toReal h₂ h₁).symm⟩

/-- A running maximum is real once a real score was seen. -/
theorem max_real {n : ℕ} {M : EReal} (hM : M ≠ ⊤) (s : Fin n → EReal) (hs : ∀ j, s j ≠ ⊤) (h : M ≠ ⊥ ∨ ∃ j, s j ≠ ⊥) :
    ∃ μ : ℝ, max M (top s) = (μ : EReal) := by
  refine exists_coe ?_ ?_
  · intro e
    rcases h with h | ⟨j, h⟩
    · exact h (le_bot_iff.mp (e ▸ le_max_left M (top s)))
    · exact top_ne_bot s j h (le_bot_iff.mp (e ▸ le_max_right M (top s)))
  · rcases max_choice M (top s) with e | e <;> rw [e]
    · exact hM
    · exact top_ne_top s hs

/-- The quotient of two sums kept relative to one maximum. -/
theorem rep_div {M a l : EReal} {A L : ℝ} (ha : Rep M a A) (hl : Rep M l L) (h : L ≠ 0) : Ideal.div a l = ((A / L : ℝ) : EReal) := by
  have hM : M ≠ ⊥ := by
    rintro rfl
    have e := hl.2 0
    rw [EReal.bot_sub, Ideal.exp_bot, zero_mul] at e
    have : Real.exp (-0) * L = 0 := by exact_mod_cast e.symm
    simp at this
    exact h this
  obtain ⟨μ, rfl⟩ := exists_coe hM hl.1
  rw [rep_exact ha, rep_exact hl, Ideal.div_coe (mul_ne_zero (Real.exp_pos _).ne' h), ← EReal.coe_mul]
  congr 1
  have := (Real.exp_pos (-μ)).ne'
  field_simp

/-- A row of attention: the values weighted by the scores' exponentials. -/
def row {n : ℕ} (s v : Fin n → EReal) : EReal := (((∑ j, wt (s j) * (v j).toReal) / ∑ j, wt (s j) : ℝ) : EReal)

theorem sum_pos {n : ℕ} (s : Fin n → EReal) (hs : ∀ j, s j ≠ ⊤) (j : Fin n) (h : s j ≠ ⊥) : 0 < ∑ j, wt (s j) := by
  refine Finset.sum_pos' (fun i _ => wt_nonneg (hs i)) ⟨j, Finset.mem_univ j, ?_⟩
  obtain ⟨x, hx⟩ := exists_coe h (hs j)
  rw [hx, wt_coe]
  exact Real.exp_pos x

/-- The one-pass softmax of a row whose largest score is real, times the values: `Attn.row`. -/
theorem softmax_row {n : ℕ} (s v : Fin n → EReal) (hs : ∀ j, s j ≠ ⊤) (j₀ : Fin n) (hj : s j₀ ≠ ⊥) (hv : ∀ j, v j = ((v j).toReal : EReal))
    (ε : ℝ) (hε : ε ≤ 1) (k : EReal) (hk : k = top s) :
    ∑ j, Ideal.div (Ideal.exp (s j - k)) (max (∑ i, Ideal.exp (s i - k)) (ε : EReal)) * v j = row s v := by
  obtain ⟨μ, hμ⟩ := exists_coe (top_ne_bot s j₀ hj) (top_ne_top s hs)
  rw [hk, hμ, sum_exp s hs μ]
  have hL := sum_pos s hs j₀ hj
  -- some score is the maximum, so the sum is at least one
  have hone : (1 : ℝ) ≤ Real.exp (-μ) * ∑ j, wt (s j) := by
    have ⟨j, hj⟩ : ∃ j, s j = top s := by
      by_contra hne
      push Not at hne
      have : top s < top s := (Finset.fold_max_lt _).mpr ⟨by rw [hμ]; exact EReal.bot_lt_coe μ, fun j _ => lt_of_le_of_ne (le_top s j) (hne j)⟩
      exact lt_irrefl _ this
    have h1 : wt (s j) ≤ ∑ j, wt (s j) := Finset.single_le_sum (f := fun j => wt (s j)) (fun i _ => wt_nonneg (hs i)) (Finset.mem_univ j)
    rw [hj, hμ, wt_coe] at h1
    calc (1 : ℝ) = Real.exp (-μ) * Real.exp μ := by rw [← Real.exp_add]; simp
      _ ≤ _ := mul_le_mul_of_nonneg_left h1 (Real.exp_pos _).le
  have hmax : max (((Real.exp (-μ) * ∑ j, wt (s j) : ℝ)) : EReal) (ε : EReal) = ((Real.exp (-μ) * ∑ j, wt (s j) : ℝ) : EReal) :=
    max_eq_left (EReal.coe_le_coe_iff.mpr (hε.trans hone))
  rw [hmax]
  have hne : Real.exp (-μ) * ∑ j, wt (s j) ≠ 0 := by positivity
  have e : ∀ j, Ideal.div (Ideal.exp (s j - (μ : EReal))) ((Real.exp (-μ) * ∑ j, wt (s j) : ℝ) : EReal) * v j
      = ((wt (s j) * (v j).toReal / ∑ j, wt (s j) : ℝ) : EReal) := by
    intro j
    conv_lhs => rw [hv j]
    rw [Ideal.div_coe hne, exp_sub (hs j), ← EReal.coe_mul, ← EReal.coe_mul]
    congr 1
    have := (Real.exp_pos (-μ)).ne'
    field_simp
  rw [Finset.sum_congr rfl fun j _ => e j, sum_coe, ← Finset.sum_div, row]

end Cert.Attn

end
-- ==== Proof.AttnSpec.lean ====
module

public import proofs.«01_k».proof.Proof.AttnHost
public import proofs.«01_k».proof.Proof.AttnMath

/-! Causal attention with a shared rotary key, at an entry: rotated queries, scores, the causal mask
and the softmax row. -/

@[expose] public section

set_option maxRecDepth 16384

noncomputable section

namespace Cert.AttnProof

open Cert.KernelIdeal Cert.KernelIdeal.Gen
open Idealize.ShloMosaic Idealize.ShloMosaic.TcCoe Idealize.SL.Sem

/-- A row's position in its sequence. -/
def pos (R : Fin 8192) : Fin 2048 := ⟨(R : ℕ) % 2048, by omega⟩

/-- The row at position `j` of the sequence of row `R`. -/
def at' (R : Fin 8192) (j : Fin 2048) : Fin 8192 := ⟨(R : ℕ) / 2048 * 2048 + j, by omega⟩

/-- The rotated rotary part of a head's query. -/
def rot (q : FVec Ideal S8192x3072 .bf16) (R : Fin 8192) (h : Fin 16) (u : Fin 64) : EReal :=
  if (u : ℕ) < 32 then
    (q (ix2 R ⟨192 * h + 128 + u, by omega⟩) : EReal) * cosT (pos R) ⟨(u : ℕ) % 32, by omega⟩
      - q (ix2 R ⟨192 * h + 128 + (u + 32) % 64, by omega⟩) * sinT (pos R) ⟨(u : ℕ) % 32, by omega⟩
  else
    (q (ix2 R ⟨192 * h + 128 + (u + 32) % 64, by omega⟩) : EReal) * sinT (pos R) ⟨(u : ℕ) % 32, by omega⟩
      + q (ix2 R ⟨192 * h + 128 + u, by omega⟩) * cosT (pos R) ⟨(u : ℕ) % 32, by omega⟩

/-- The part of a score the head's own columns give. -/
def plain (q : FVec Ideal S8192x3072 .bf16) (kv : FVec Ideal S8192x4096 .bf16) (R J : Fin 8192) (h : Fin 16) : EReal :=
  ∑ d : Fin 128, q (ix2 R ⟨192 * h + d, by omega⟩) * kv (ix2 J ⟨256 * h + d, by omega⟩)

/-- The part of a score the rotary columns give. -/
def rotary (q : FVec Ideal S8192x3072 .bf16) (kr : FVec Ideal S8192x64 .bf16) (R J : Fin 8192) (h : Fin 16) : EReal :=
  ∑ u : Fin 64, rot q R h u * kr (ix2 J u)

/-- The scores of a row under the causal mask. -/
def logit (q : FVec Ideal S8192x3072 .bf16) (kv : FVec Ideal S8192x4096 .bf16) (kr : FVec Ideal S8192x64 .bf16) (R : Fin 8192) (h : Fin 16) (j : Fin 2048) : EReal :=
  if (j : ℕ) ≤ (R : ℕ) % 2048 then plain q kv R (at' R j) h + rotary q kr R (at' R j) h else ⊥

/-- A head's values along a sequence. -/
def val (kv : FVec Ideal S8192x4096 .bf16) (R : Fin 8192) (h : Fin 16) (j : Fin 2048) (d : Fin 128) : EReal :=
  kv (ix2 (at' R j) ⟨256 * h + 128 + d, by omega⟩)

/-- Attention at row `R`, head `h`, column `d`. -/
def entry (q : FVec Ideal S8192x3072 .bf16) (kv : FVec Ideal S8192x4096 .bf16) (kr : FVec Ideal S8192x64 .bf16) (R : Fin 8192) (h : Fin 16) (d : Fin 128) : EReal :=
  Attn.row (logit q kv kr R h) (val kv R h · d)

/-- The whole result. -/
def result (q : FVec Ideal S8192x3072 .bf16) (kv : FVec Ideal S8192x4096 .bf16) (kr : FVec Ideal S8192x64 .bf16) : FVec Ideal S8192x2048 .bf16 :=
  fun y => entry q kv kr (y 0) ⟨(y 1 : ℕ) / 128, by have := (y 1).isLt; simp at this; omega⟩ ⟨(y 1 : ℕ) % 128, by omega⟩

/-! Every score and value is real when the arrays are. -/

/-- A real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sub {x y : EReal} : IsReal x → IsReal y → IsReal (x - y)
  | ⟨a, ha⟩, ⟨b, hb⟩ => ⟨a - b, by rw [ha, hb, EReal.coe_sub]⟩

theorem IsReal.sum {n : ℕ} {f : Fin n → EReal} (h : ∀ i, IsReal (f i)) : IsReal (∑ i, f i) := by
  choose g hg using h
  exact ⟨∑ i, g i, by rw [← Attn.sum_coe]; exact Finset.sum_congr rfl fun i _ => hg i⟩

theorem IsReal.ne_top {x : EReal} : IsReal x → x ≠ ⊤
  | ⟨a, ha⟩ => by rw [ha]; exact EReal.coe_ne_top a

theorem IsReal.ne_bot {x : EReal} : IsReal x → x ≠ ⊥
  | ⟨a, ha⟩ => by rw [ha]; exact EReal.coe_ne_bot a

theorem IsReal.eq {x : EReal} : IsReal x → x = (x.toReal : EReal)
  | ⟨a, ha⟩ => by rw [ha, EReal.toReal_coe]

section Real

variable (q : FVec Ideal S8192x3072 .bf16) (kv : FVec Ideal S8192x4096 .bf16) (kr : FVec Ideal S8192x64 .bf16)

theorem rot_real (hq : ∀ i, IsReal (q i)) (R : Fin 8192) (h : Fin 16) (u : Fin 64) : IsReal (rot q R h u) := by
  unfold rot
  split_ifs
  · exact ((hq _).mul (cosT_real _ _)).sub ((hq _).mul (sinT_real _ _))
  · exact ((hq _).mul (sinT_real _ _)).add ((hq _).mul (cosT_real _ _))

theorem score_real (hq : ∀ i, IsReal (q i)) (hkv : ∀ i, IsReal (kv i)) (hkr : ∀ i, IsReal (kr i)) (R J : Fin 8192) (h : Fin 16) :
    IsReal (plain q kv R J h + rotary q kr R J h) :=
  (IsReal.sum fun d => (hq _).mul (hkv _)).add (IsReal.sum fun u => (rot_real q hq R h u).mul (hkr _))

theorem logit_ne_top (hq : ∀ i, IsReal (q i)) (hkv : ∀ i, IsReal (kv i)) (hkr : ∀ i, IsReal (kr i)) (R : Fin 8192) (h : Fin 16) (j : Fin 2048) :
    logit q kv kr R h j ≠ ⊤ := by
  unfold logit
  split_ifs
  · exact (score_real q kv kr hq hkv hkr _ _ _).ne_top
  · exact bot_ne_top

theorem logit_ne_bot (hq : ∀ i, IsReal (q i)) (hkv : ∀ i, IsReal (kv i)) (hkr : ∀ i, IsReal (kr i)) (R : Fin 8192) (h : Fin 16) (j : Fin 2048)
    (hj : (j : ℕ) ≤ (R : ℕ) % 2048) : logit q kv kr R h j ≠ ⊥ := by
  rw [logit, if_pos hj]
  exact (score_real q kv kr hq hkv hkr _ _ _).ne_bot

theorem logit_bot (R : Fin 8192) (h : Fin 16) (j : Fin 2048) (hj : ¬ (j : ℕ) ≤ (R : ℕ) % 2048) : logit q kv kr R h j = ⊥ := if_neg hj

end Real

/-! The kernel's 256 lanes: the head's own columns, then the rotary columns of two heads, of which the
key's zeros drop one. -/

/-- The rotary lanes of a query block. -/
def turn (q : FVec Ideal S8192x3072 .bf16) (R : Fin 8192) (h : Fin 16) (e : Fin 128) : EReal :=
  (q (ix2 R ⟨192 * ((h : ℕ) / 2 * 2 + e / 64) + 128 + e % 64, by omega⟩) : EReal) * ctab (ix2 (pos R) e)
    + q (ix2 R ⟨192 * ((h : ℕ) / 2 * 2 + e / 64) + 128 + (e % 64 + 32) % 64, by omega⟩) * stab (ix2 (pos R) e)

theorem turn_eq (q : FVec Ideal S8192x3072 .bf16) (R : Fin 8192) (h : Fin 16) (e : Fin 128) (he : (e : ℕ) / 64 = (h : ℕ) % 2) :
    turn q R h e = rot q R h ⟨(e : ℕ) % 64, by omega⟩ := by
  have c : ctab (ix2 (pos R) e) = cosT (pos R) ⟨(e : ℕ) % 64 % 32, by omega⟩ :=
    (ctab_at _ _).trans (at_eq (cosT (pos R)) (by dsimp only; omega))
  have a : (q (ix2 R ⟨192 * ((h : ℕ) / 2 * 2 + e / 64) + 128 + e % 64, by omega⟩) : EReal) = q (ix2 R ⟨192 * h + 128 + (e : ℕ) % 64, by omega⟩) :=
    at_eq (fun i => q (ix2 R i)) (by dsimp only; omega)
  have b : (q (ix2 R ⟨192 * ((h : ℕ) / 2 * 2 + e / 64) + 128 + (e % 64 + 32) % 64, by omega⟩) : EReal)
      = q (ix2 R ⟨192 * h + 128 + ((e : ℕ) % 64 + 32) % 64, by omega⟩) :=
    at_eq (fun i => q (ix2 R i)) (by dsimp only; omega)
  rw [turn, rot, a, b, c]
  by_cases hu : (e : ℕ) % 64 < 32
  · rw [if_pos hu, stab_lo _ _ hu, mul_neg, ← sub_eq_add_neg]
    exact congrArg _ (congrArg _ (at_eq (sinT (pos R)) (by dsimp only; omega)))
  · rw [if_neg hu, stab_hi _ _ hu, add_comm]
    exact congrArg (· + _) (congrArg _ (at_eq (sinT (pos R)) (by dsimp only; omega)))

theorem two_halves (f : Fin 256 → EReal) : ∑ e, f e = ∑ d : Fin 128, f ⟨d, by omega⟩ + ∑ e : Fin 128, f ⟨128 + e, by omega⟩ :=
  Fin.sum_univ_add (a := 128) (b := 128) f

theorem two_quarters (f : Fin 128 → EReal) : ∑ e, f e = ∑ d : Fin 64, f ⟨d, by omega⟩ + ∑ e : Fin 64, f ⟨64 + e, by omega⟩ :=
  Fin.sum_univ_add (a := 64) (b := 64) f

theorem lanes (q : FVec Ideal S8192x3072 .bf16) (kr : FVec Ideal S8192x64 .bf16) (R J : Fin 8192) (h : Fin 16) :
    ∑ e : Fin 128, turn q R h e * krx kr (ix3 ⟨(h : ℕ) % 2, by omega⟩ J e) = rotary q kr R J h := by
  rw [two_quarters]
  rcases Nat.mod_two_eq_zero_or_one h with hh | hh
  · have z : ∑ e : Fin 64, turn q R h ⟨64 + e, by omega⟩ * krx kr (ix3 ⟨(h : ℕ) % 2, by omega⟩ J ⟨64 + e, by omega⟩) = 0 :=
      Finset.sum_eq_zero fun e _ => by rw [krx_off _ _ _ _ (by dsimp only; omega), mul_zero]
    rw [z, add_zero]
    refine Finset.sum_congr rfl fun u _ => ?_
    rw [krx_on _ _ _ _ (by dsimp only; omega), turn_eq _ _ _ _ (by dsimp only; omega)]
    exact congrArg₂ (· * ·) (at_eq (rot q R h) (by dsimp only; omega)) (at_eq (fun i => kr (ix2 J i)) (by dsimp only; omega))
  · have z : ∑ e : Fin 64, turn q R h ⟨e, by omega⟩ * krx kr (ix3 ⟨(h : ℕ) % 2, by omega⟩ J ⟨e, by omega⟩) = 0 :=
      Finset.sum_eq_zero fun e _ => by rw [krx_off _ _ _ _ (by dsimp only; omega), mul_zero]
    rw [z, zero_add]
    refine Finset.sum_congr rfl fun u _ => ?_
    rw [krx_on _ _ _ _ (by dsimp only; omega), turn_eq _ _ _ _ (by dsimp only; omega)]
    exact congrArg₂ (· * ·) (at_eq (rot q R h) (by dsimp only; omega)) (at_eq (fun i => kr (ix2 J i)) (by dsimp only; omega))

/-- The kernel's score. -/
theorem score_eq (q : FVec Ideal S8192x3072 .bf16) (kv : FVec Ideal S8192x4096 .bf16) (kr : FVec Ideal S8192x64 .bf16) (R J : Fin 8192) (h : Fin 16)
    (Q K : Fin 256 → EReal) (q1 : ∀ d : Fin 128, Q ⟨d, by omega⟩ = q (ix2 R ⟨192 * h + d, by omega⟩)) (q2 : ∀ e : Fin 128, Q ⟨128 + e, by omega⟩ = turn q R h e)
    (k1 : ∀ d : Fin 128, K ⟨d, by omega⟩ = kv (ix2 J ⟨256 * h + d, by omega⟩)) (k2 : ∀ e : Fin 128, K ⟨128 + e, by omega⟩ = krx kr (ix3 ⟨(h : ℕ) % 2, by omega⟩ J e)) :
    ∑ e, Q e * K e = plain q kv R J h + rotary q kr R J h := by
  rw [two_halves, ← lanes]
  refine congrArg₂ (· + ·) (Finset.sum_congr rfl fun d _ => ?_) (Finset.sum_congr rfl fun e _ => ?_)
  · rw [q1, k1]
  · rw [q2, k2]

end Cert.AttnProof

end
-- ==== Proof.AttnEntry.lean ====
module

public import proofs.«01_k».proof.Proof.AttnHost

/-! What the host line leaves in the arrays the attention kernel is launched on. -/

@[expose] public section

set_option maxRecDepth 16384

noncomputable section

namespace Cert.AttnProof

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

theorem after_split (l k : List (HloOp τ sig (Elt Ideal))) (σ : Valuation τ sig (Elt Ideal)) :
    StableHlo.after (l ++ k) σ = StableHlo.after k (StableHlo.after l σ) := by
  induction l generalizing σ with
  | nil => rfl
  | cons op l ih => exact ih _

/-- The buffers' contents after the first `n` host operations. -/
def upTo (c : Dev nD) (n : ℕ) : Valuation τ sig (Elt Ideal) :=
  StableHlo.after ((hostOps0 (F := Ideal)).take n) (fun b => m (c, b))

theorem V_split (c : Dev nD) (n : ℕ) (b : Ref sig .tc) : V m c b = StableHlo.after ((hostOps0 (F := Ideal)).drop n) (upTo m c n) b := by
  unfold upTo
  rw [← after_split, List.take_append_drop]

theorem keep (c : Dev nD) (n : ℕ) (b : Ref sig .tc) (h : ∀ op ∈ (hostOps0 (F := Ideal)).drop n, Proc.devRef .tc b ∉ op.writes) :
    V m c b = upTo m c n b :=
  (V_split m c n b).trans (StableHlo.after_of_forall_not_mem (b := Proc.devRef .tc b) _ _ h)

theorem step (c : Dev nD) (n : ℕ) (op : HloOp τ sig (Elt Ideal)) (h : (hostOps0 (F := Ideal))[n]? = some op) :
    upTo m c (n + 1) = StableHlo.after [op] (upTo m c n) := by
  unfold upTo
  rw [← after_split, List.take_add_one, h]
  rfl

theorem v31_of (c : Dev nD) : V m c main_v31 = concatenate S8192x4096 1 [⟨S8192x2048, (V m c main_v25 : (⟨S8192x2048, .bf16⟩ : BufTy).Contents (Elt Ideal))⟩,
    ⟨S8192x1024, (V m c main_v26 : (⟨S8192x1024, .bf16⟩ : BufTy).Contents (Elt Ideal))⟩, ⟨S8192x1024, (V m c main_v30 : (⟨S8192x1024, .bf16⟩ : BufTy).Contents (Elt Ideal))⟩]
    concatenates_S8192x2048_S8192x1024_S8192x1024_S8192x4096_d1 := by
  rw [keep m c 35 main_v25 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide))), keep m c 35 main_v26 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide))), keep m c 35 main_v30 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide))), keep m c 36 main_v31 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide)))]
  rw [step m c 35 _ rfl]
  generalize upTo m c 35 = σ
  rfl

theorem v18_of (c : Dev nD) : V m c main_v18 = concatenate S2048x128 1 [⟨S2048x32, (V m c main_v16 : (⟨S2048x32, .f32⟩ : BufTy).Contents (Elt Ideal))⟩,
    ⟨S2048x32, (V m c main_v16 : (⟨S2048x32, .f32⟩ : BufTy).Contents (Elt Ideal))⟩, ⟨S2048x32, (V m c main_v16 : (⟨S2048x32, .f32⟩ : BufTy).Contents (Elt Ideal))⟩,
    ⟨S2048x32, (V m c main_v16 : (⟨S2048x32, .f32⟩ : BufTy).Contents (Elt Ideal))⟩] concatenates_S2048x32_S2048x32_S2048x32_S2048x32_S2048x128_d1 := by
  rw [keep m c 22 main_v16 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide))), keep m c 23 main_v18 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide)))]
  rw [step m c 22 _ rfl]
  generalize upTo m c 22 = σ
  rfl

theorem v21_of (c : Dev nD) : V m c main_v21 = concatenate S2048x128 1 [⟨S2048x32, (V m c main_v19 : (⟨S2048x32, .f32⟩ : BufTy).Contents (Elt Ideal))⟩,
    ⟨S2048x32, (V m c main_v17 : (⟨S2048x32, .f32⟩ : BufTy).Contents (Elt Ideal))⟩, ⟨S2048x32, (V m c main_v20 : (⟨S2048x32, .f32⟩ : BufTy).Contents (Elt Ideal))⟩,
    ⟨S2048x32, (V m c main_v17 : (⟨S2048x32, .f32⟩ : BufTy).Contents (Elt Ideal))⟩] concatenates_S2048x32_S2048x32_S2048x32_S2048x32_S2048x128_d1 := by
  rw [keep m c 25 main_v19 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide))), keep m c 25 main_v17 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide))), keep m c 25 main_v20 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide))), keep m c 26 main_v21 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide)))]
  rw [step m c 25 _ rfl]
  generalize upTo m c 25 = σ
  rfl

theorem V_v25 (c : Dev nD) : V m c main_v25 = shapeCast S8192x2048 (extractStridedSlice S8192x16x128 ![0, 0, 0] (shapeCast S8192x16x192 (m ((c : Thread nD τ).loc main_arg0) : FVec Ideal S8192x3072 .bf16) shapeCasts_S8192x3072_S8192x16x192) slices_S8192x16x192_S8192x16x128_0_0_0) shapeCasts_S8192x16x128_S8192x2048 := by
  entry_read
  rfl

theorem V_v26 (c : Dev nD) : V m c main_v26 = shapeCast S8192x1024 (qrope (m ((c : Thread nD τ).loc main_arg0))) shapeCasts_S8192x16x64_S8192x1024 := by
  entry_read
  rfl

theorem V_v30 (c : Dev nD) : V m c main_v30 = shapeCast S8192x1024 (concatenate S8192x16x64 2 [⟨S8192x16x32, extractStridedSlice S8192x16x32 ![0, 0, 32] (qrope (m ((c : Thread nD τ).loc main_arg0))) slices_S8192x16x64_S8192x16x32_0_0_32⟩,
      ⟨S8192x16x32, extractStridedSlice S8192x16x32 ![0, 0, 0] (qrope (m ((c : Thread nD τ).loc main_arg0))) slices_S8192x16x64_S8192x16x32_0_0_0⟩] concatenates_S8192x16x32_S8192x16x32_S8192x16x64_d2) shapeCasts_S8192x16x64_S8192x1024 := by
  entry_read
  rfl

theorem V_v16 (c : Dev nD) : V m c main_v16 = (Host.cos angs : FVec Ideal S2048x32 .f32) := by
  entry_read
  rfl

theorem V_v17 (c : Dev nD) : V m c main_v17 = (Host.sin angs : FVec Ideal S2048x32 .f32) := by
  entry_read
  rfl

theorem V_v19 (c : Dev nD) : V m c main_v19 = Host.negf (Host.sin angs : FVec Ideal S2048x32 .f32) := by
  entry_read
  rfl

theorem V_v20 (c : Dev nD) : V m c main_v20 = Host.negf (Host.sin angs : FVec Ideal S2048x32 .f32) := by
  entry_read
  rfl

theorem V_v31 (c : Dev nD) : V m c main_v31 = qx (m ((c : Thread nD τ).loc main_arg0)) := by
  rw [v31_of, V_v25, V_v26, V_v30]
  rfl

theorem V_v37 (c : Dev nD) : V m c main_v37 = kvx (m ((c : Thread nD τ).loc main_arg1)) := by
  entry_read
  rfl

theorem V_v43 (c : Dev nD) : V m c main_v43 = krx (m ((c : Thread nD τ).loc main_arg2)) := by
  entry_read
  rfl

theorem V_v18 (c : Dev nD) : V m c main_v18 = ctab := by
  rw [v18_of, V_v16]
  rfl

theorem V_v21 (c : Dev nD) : V m c main_v21 = stab := by
  rw [v21_of, V_v19, V_v17, V_v20]
  rfl

end Cert.AttnProof

end
-- ==== Proof.AttnCarry.lean ====
module

public import proofs.«01_k».proof.Proof.AttnSpec
public import proofs.«01_k».proof.Proof.AttnEntry
public import Idealize.ShloMosaic.Lib.Claim

/-! The attention kernel's blocks: the windows' positions, the query block, the keys kept from a
head's first point to its last, and the values. -/

@[expose] public section

set_option maxRecDepth 16384

noncomputable section

namespace Cert.AttnProof

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The windows' positions at point `t`: batch `t / 64`, head `t % 64 / 4`, query tile `t % 4`. -/
theorem idx : ∀ t : Fin cfg0.N, win0_0.index t = ![t.val / 64 * 4 + t.val % 4, t.val % 64 / 4]
    ∧ win0_1.index t = ![t.val / 64 * 4 + t.val % 4, 16 + t.val % 64 / 8] ∧ win0_2.index t = ![t.val / 64 * 4 + t.val % 4, 24 + t.val % 64 / 8]
    ∧ win0_3.index t = ![t.val % 4, 0] ∧ win0_4.index t = ![t.val % 4, 0] ∧ win0_5.index t = ![t.val / 64, t.val % 64 / 4]
    ∧ win0_6.index t = ![t.val / 4 % 2, t.val / 64, 0] ∧ win0_7.index t = ![t.val / 64, 16 + t.val % 64 / 4]
    ∧ win0_8.index t = ![t.val / 64 * 4 + t.val % 4, t.val % 64 / 4] :=
  (by decide +kernel : ∀ t : Fin grid0.N, _)

theorem points (t : Fin cfg0.N) : t.val < 256 := t.isLt

/-- An array read at a position known by its coordinates. -/
theorem read2 {a b : ℕ} (f : (⟨2, ![a, b]⟩ : Shape).Idx → EReal) (y : (⟨2, ![a, b]⟩ : Shape).Idx) (r : Fin a) (c : Fin b) (h0 : (y 0 : ℕ) = r) (h1 : (y 1 : ℕ) = c) :
    f y = f (ix2 r c) := by
  rw [eq_ix2 y]
  exact congrArg₂ (fun r c => f (ix2 r c)) (Fin.ext h0) (Fin.ext h1)

/-- The head of point `t`. -/
def hd (t : ℕ) : Fin 16 := ⟨t % 64 / 4, by omega⟩

/-- The keys of a head, with the rotary key in the half the head reads. -/
def keys (kv : FVec Ideal S8192x4096 .bf16) (kr : FVec Ideal S8192x64 .bf16) (J : Fin 8192) (h : Fin 16) (e : Fin 256) : EReal :=
  if he : (e : ℕ) < 128 then kv (ix2 J ⟨256 * h + e, by omega⟩) else krx kr (ix3 ⟨(h : ℕ) % 2, by omega⟩ J ⟨e - 128, by omega⟩)

theorem keys_lo (kv : FVec Ideal S8192x4096 .bf16) (kr : FVec Ideal S8192x64 .bf16) (J : Fin 8192) (h : Fin 16) (e : Fin 256) (d : Fin 128) (he : (e : ℕ) = d) :
    keys kv kr J h e = kv (ix2 J ⟨256 * h + d, by omega⟩) :=
  (dif_pos (by omega)).trans (at_eq (fun i => kv (ix2 J i)) (by dsimp only; omega))

theorem keys_hi (kv : FVec Ideal S8192x4096 .bf16) (kr : FVec Ideal S8192x64 .bf16) (J : Fin 8192) (h : Fin 16) (e : Fin 256) (d : Fin 128) (he : (e : ℕ) = 128 + d) :
    keys kv kr J h e = krx kr (ix3 ⟨(h : ℕ) % 2, by omega⟩ J d) :=
  (dif_neg (by omega)).trans (at_eq (fun i => krx kr (ix3 ⟨(h : ℕ) % 2, by omega⟩ J i)) (by dsimp only; omega))

/-- An array read at a position known by its coordinates. -/
theorem read3 {a b c : ℕ} (f : (⟨3, ![a, b, c]⟩ : Shape).Idx → EReal) (y : (⟨3, ![a, b, c]⟩ : Shape).Idx) (p : Fin a) (r : Fin b) (s : Fin c)
    (h0 : (y 0 : ℕ) = p) (h1 : (y 1 : ℕ) = r) (h2 : (y 2 : ℕ) = s) : f y = f (ix3 p r s) := by
  refine congrArg f (funext fun i => ?_)
  match i with
  | 0 => exact Fin.ext h0
  | 1 => exact Fin.ext h1
  | 2 => exact Fin.ext h2

theorem start (c : Dev nD) (t : Fin cfg0.N) (h0 : t.val % 4 = 0) (y : S2048x256.Idx) (J : Fin 8192) (hJ : (J : ℕ) = t.val / 64 * 2048 + y 0) :
    (outsAt0 m c t.val t.isLt).2 y = keys (m ((c : Thread nD τ).loc main_arg1)) (m ((c : Thread nD τ).loc main_arg2)) J (hd t.val) (y 1) := by
  rw [outsAt0_A m c t h0 h0 (by omega) (by omega) (by omega)]
  frame_out
  have ht := points t
  canon_tiles z h
  · idx_vars z
    pointwise [k0_pay70]
    blk_simp [iblk]
    rw [V_v43]
    refine (read3 (krx _) _ ⟨(hd t.val : ℕ) % 2, by omega⟩ J z1 ?_ ?_ ?_).trans (keys_hi _ _ J (hd t.val) (y 1) z1 h1).symm
    · blk_simp [idx t, hd]; dsimp only; omega
    · blk_simp [idx t]; omega
    · blk_simp [idx t]
  · idx_vars z
    pointwise [k0_pay69]
    blk_simp [iblk]
    rw [V_v37]
    refine (read2 (kvx _) _ J ⟨128 * (hd t.val : ℕ) + z1, by omega⟩ ?_ ?_).trans ((kvx_key _ J (hd t.val) z1).trans (keys_lo _ _ J (hd t.val) (y 1) z1 h1).symm)
    · blk_simp [idx t]; omega
    · blk_simp [idx t, hd]; dsimp only; omega

theorem kept (c : Dev nD) (t : Fin cfg0.N) (h0 : ¬ t.val % 4 = 0) :
    (outsAt0 m c t.val t.isLt).2 = (outsAt0 m c (t.val - 1) (Nat.lt_of_le_of_lt (Nat.sub_le _ _) t.isLt)).2 := by
  have h : t.val % 4 = 1 ∨ t.val % 4 = 2 ∨ t.val % 4 = 3 := by omega
  rcases h with h | h | h
  · rw [outsAt0_B m c t h0 h0 h (by omega) (by omega)]
    unfold sout0_B_3
    rfl
  · rw [outsAt0_C m c t h0 h0 (by omega) h (by omega)]
    unfold sout0_C_3
    rfl
  · rw [outsAt0_D m c t h0 h0 (by omega) (by omega) h]
    unfold sout0_D_3
    rfl

/-- After every point, the kept keys are those of the point's batch and head. -/
theorem carried (c : Dev nD) : ∀ (n : ℕ) (hn : n < cfg0.N) (y : S2048x256.Idx) (J : Fin 8192), (J : ℕ) = n / 64 * 2048 + y 0 →
    (outsAt0 m c n hn).2 y = keys (m ((c : Thread nD τ).loc main_arg1)) (m ((c : Thread nD τ).loc main_arg2)) J (hd n) (y 1) := by
  intro n
  induction n with
  | zero => exact fun hn y J hJ => start m c ⟨0, hn⟩ rfl y J hJ
  | succ n ih =>
    intro hn y J hJ
    by_cases h : (n + 1) % 4 = 0
    · exact start m c ⟨n + 1, hn⟩ h y J hJ
    · refine (congrFun (kept m c ⟨n + 1, hn⟩ h) y).trans ((ih (by omega) y J (by omega)).trans ?_)
      exact congrArg (fun h => keys (m ((c : Thread nD τ).loc main_arg1)) (m ((c : Thread nD τ).loc main_arg2)) J h (y 1)) (Fin.ext (by simp only [hd]; omega))

/-! A point's query block, its values, and the keys it reads. -/

/-- The query block of point `t`. -/
def qb (c : Dev nD) (t : Fin cfg0.N) : FVec Ideal S512x256 .bf16 :=
  k0_pay71 (F := Ideal) (iblk m c 1 t) (iblk m c 3 t) (iblk m c 2 t) (iblk m c 4 t) (iblk m c 0 t)

theorem qb_lo (c : Dev nD) (t : Fin cfg0.N) (r : Fin 512) (R : Fin 8192) (hR : (R : ℕ) = t.val / 64 * 2048 + t.val % 4 * 512 + r) (d : Fin 128) :
    qb m c t (ix2 r ⟨d, by omega⟩) = m ((c : Thread nD τ).loc main_arg0) (ix2 R ⟨192 * hd t.val + d, by omega⟩) := by
  have ht := points t
  pointwise [qb, k0_pay71]
  blk_simp [iblk]
  rw [V_v31]
  refine (read2 (qx _) _ R ⟨128 * (hd t.val : ℕ) + d, by omega⟩ ?_ ?_).trans (qx_nope _ R (hd t.val) d)
  · blk_simp [idx t]; omega
  · blk_simp [idx t, hd]; dsimp only; omega

theorem qb_hi (c : Dev nD) (t : Fin cfg0.N) (r : Fin 512) (R : Fin 8192) (hR : (R : ℕ) = t.val / 64 * 2048 + t.val % 4 * 512 + r) (e : Fin 128) :
    qb m c t (ix2 r ⟨128 + e, by omega⟩) = turn (m ((c : Thread nD τ).loc main_arg0)) R (hd t.val) e := by
  have ht := points t
  have e1 : (iblk m c 1 t (ix2 r e) : EReal) = m ((c : Thread nD τ).loc main_arg0) (ix2 R ⟨192 * ((hd t.val : ℕ) / 2 * 2 + e / 64) + 128 + e % 64, by omega⟩) := by
    blk_simp [iblk]
    rw [V_v31]
    refine (read2 (qx _) _ R ⟨2048 + (64 * ((hd t.val : ℕ) / 2 * 2 + e / 64) + e % 64), by omega⟩ ?_ ?_).trans
      (qx_rope _ R ⟨(hd t.val : ℕ) / 2 * 2 + e / 64, by omega⟩ ⟨(e : ℕ) % 64, by omega⟩)
    · blk_simp [idx t]; omega
    · blk_simp [idx t, hd]; dsimp only; omega
  have e2 : (iblk m c 2 t (ix2 r e) : EReal) = m ((c : Thread nD τ).loc main_arg0) (ix2 R ⟨192 * ((hd t.val : ℕ) / 2 * 2 + e / 64) + 128 + (e % 64 + 32) % 64, by omega⟩) := by
    blk_simp [iblk]
    rw [V_v31]
    refine (read2 (qx _) _ R ⟨3072 + (64 * ((hd t.val : ℕ) / 2 * 2 + e / 64) + e % 64), by omega⟩ ?_ ?_).trans
      (qx_swap _ R ⟨(hd t.val : ℕ) / 2 * 2 + e / 64, by omega⟩ ⟨(e : ℕ) % 64, by omega⟩)
    · blk_simp [idx t]; omega
    · blk_simp [idx t, hd]; dsimp only; omega
  have e3 : (iblk m c 3 t (ix2 r e) : EReal) = ctab (ix2 (pos R) e) := by
    blk_simp [iblk]
    rw [V_v18]
    refine read2 ctab _ (pos R) e ?_ ?_
    · blk_simp [idx t, pos]; dsimp only; omega
    · blk_simp [idx t]
  have e4 : (iblk m c 4 t (ix2 r e) : EReal) = stab (ix2 (pos R) e) := by
    blk_simp [iblk]
    rw [V_v21]
    refine read2 stab _ (pos R) e ?_ ?_
    · blk_simp [idx t, pos]; dsimp only; omega
    · blk_simp [idx t]
  pointwise [qb, k0_pay71]
  rw [turn, ← e1, ← e2, ← e3, ← e4]

theorem vals (c : Dev nD) (t : Fin cfg0.N) (y : S2048x128.Idx) (J : Fin 8192) (hJ : (J : ℕ) = t.val / 64 * 2048 + y 0) :
    iblk m c 7 t y = m ((c : Thread nD τ).loc main_arg1) (ix2 J ⟨256 * hd t.val + 128 + y 1, by have := (y 1).isLt; simp at this; omega⟩) := by
  have ht := points t
  idx_vars y
  blk_simp [iblk]
  rw [V_v37]
  refine (read2 (kvx _) _ J ⟨2048 + (128 * (hd t.val : ℕ) + y1), by omega⟩ ?_ ?_).trans (kvx_val _ J (hd t.val) y1)
  · blk_simp [idx t]; omega
  · blk_simp [idx t, hd]; dsimp only; omega

end Cert.AttnProof

end
-- ==== Proof.AttnTiles.lean ====
module

public import proofs.«01_k».proof.Proof.Gen.KernelIdeal
public import proofs.«01_k».proof.Proof.Gen.KernelIdeal.Skeleton
public import proofs.«01_k».proof.Proof.AttnMath
public import Idealize.ShloMosaic.Lib.WordCmp
public import Idealize.ShloMosaic.Lib.Pointwise

/-! The attention kernel's tile operations, each read at one row: scores, the running maximum, the
weights' sum and the weighted values. -/

@[expose] public section

set_option maxRecDepth 16384

noncomputable section

namespace Cert.AttnProof

open Cert.KernelIdeal Cert.KernelIdeal.Gen
open Idealize.ShloMosaic

/-- A tile's scores against 512 keys. -/
def sc (q k : FVec Ideal S512x256 .bf16) : FVec Ideal S512x512 .f32 :=
  matmul dot_S512x256_S512x256_S512x512_1_1_0_0_n_n none q k (constant S512x512 .f32 0x00000000#32)

/-- The same on the diagonal: later keys masked. -/
def sd (q k : FVec Ideal S512x256 .bf16) : FVec Ideal S512x512 .f32 :=
  select (cmpi .sge (iota .tc S512x512 32 [0] iota_S512x512_d0_w32) (iota .tc S512x512 32 [1] iota_S512x512_d1_w32)) (sc q k)
    (broadcast S512x512 (Named.named (F := Ideal) κ "mask" (φ := .f32) 0xF149F2CA#32))

/-- The running maximum, raised by a tile of scores. -/
def up (m : FVec Ideal S512x128 .f32) (s : FVec Ideal S512x512 .f32) : FVec Ideal S512x128 .f32 :=
  maximumf m (broadcastTo S512x128 (shapeCast S512x1 (multiReduction .maximumf [1] S512 s 0xFF800000#32 reduces_S512x512_S512 (.inl rfl) rfl) shapeCasts_S512_S512x1) broadcasts_S512x1_S512x128)

/-- A tile of weights relative to a maximum. -/
def pe (s : FVec Ideal S512x512 .f32) (m : FVec Ideal S512x128 .f32) : FVec Ideal S512x512 .f32 :=
  exp (subf s (concatenate S512x512 1 [⟨S512x128, m⟩, ⟨S512x128, m⟩, ⟨S512x128, m⟩, ⟨S512x128, m⟩] concatenates_S512x128_S512x128_S512x128_S512x128_S512x512_d1))

/-- A sum so far, rescaled to a new maximum. -/
def re (m m' l : FVec Ideal S512x128 .f32) : FVec Ideal S512x128 .f32 := mulf (exp (subf m m')) l

/-- The weights' sum, one tile further. -/
def la (l : FVec Ideal S512x128 .f32) (s : FVec Ideal S512x512 .f32) (m : FVec Ideal S512x128 .f32) : FVec Ideal S512x128 .f32 :=
  addf l (broadcastTo S512x128 (shapeCast S512x1 (multiReduction .add [1] S512 (pe s m) 0x00000000#32 reduces_S512x512_S512 (.inl rfl) rfl) shapeCasts_S512_S512x1) broadcasts_S512x1_S512x128)

/-- The weighted values, one tile further. -/
def aa (a : FVec Ideal S512x128 .f32) (s : FVec Ideal S512x512 .f32) (v : FVec Ideal S512x128 .bf16) (m : FVec Ideal S512x128 .f32) : FVec Ideal S512x128 .f32 :=
  addf a (matmul dot_S512x512_S512x128_S512x128_1_0_0_1_n_n none (truncf .bf16 (pe s m) bitsLt_bf16_f32) v (constant S512x128 .f32 0x00000000#32))

theorem mask_eq : Named.named (F := Ideal) κ "mask" (φ := .f32) 0xF149F2CA#32 = (⊥ : EReal) := by simp [Named.named, κ]

theorem ninf_eq : Ideal.ofBits .f32 0xFF800000#32 = (⊥ : EReal) := by simp [Ideal.ofBits, Ideal.ieee]

theorem sc_at (q k : FVec Ideal S512x256 .bf16) (r j : Fin 512) : sc q k (ix2 r j) = ∑ e, q (ix2 r e) * k (ix2 j e) := by
  pointwise [sc]

theorem sd_at (q k : FVec Ideal S512x256 .bf16) (r j : Fin 512) :
    sd q k (ix2 r j) = if (j : ℕ) ≤ r then ∑ e, q (ix2 r e) * k (ix2 j e) else (⊥ : EReal) := by
  pointwise [sd, sc]
  rw [WordCmp.cmpi_sge_ofNat (by omega) (by omega), mask_eq]
  by_cases h : (j : ℕ) ≤ r <;> simp [Scalar.select, h]

theorem up_at (m : FVec Ideal S512x128 .f32) (s : FVec Ideal S512x512 .f32) (r : Fin 512) (d : Fin 128) :
    up m s (ix2 r d) = max (m (ix2 r d) : EReal) (Attn.top fun j => s (ix2 r j)) := by
  pointwise [up, Attn.top]
  rw [ninf_eq]

theorem pe_at (s : FVec Ideal S512x512 .f32) (m : FVec Ideal S512x128 .f32) (r j : Fin 512) (M : EReal) (hm : ∀ d, m (ix2 r d) = M) :
    pe s m (ix2 r j) = Ideal.exp (s (ix2 r j) - M) := by
  pointwise [pe]
  split_ifs <;> rw [hm]

theorem re_at (m m' l : FVec Ideal S512x128 .f32) (r : Fin 512) (d : Fin 128) :
    re m m' l (ix2 r d) = Ideal.exp (m (ix2 r d) - m' (ix2 r d)) * l (ix2 r d) := by
  pointwise [re]

theorem la_at (l : FVec Ideal S512x128 .f32) (s : FVec Ideal S512x512 .f32) (m : FVec Ideal S512x128 .f32) (r : Fin 512) (d : Fin 128) :
    la l s m (ix2 r d) = (l (ix2 r d) : EReal) + ∑ j, pe s m (ix2 r j) := by
  pointwise [la]

theorem aa_at (a : FVec Ideal S512x128 .f32) (s : FVec Ideal S512x512 .f32) (v : FVec Ideal S512x128 .bf16) (m : FVec Ideal S512x128 .f32) (r : Fin 512) (d : Fin 128) :
    aa a s v m (ix2 r d) = (a (ix2 r d) : EReal) + ∑ j, pe s m (ix2 r j) * v (ix2 j d) := by
  pointwise [aa]

/-- Row `r` of the three running buffers: the maximum `M` in every lane, the weights' sum `L` and the
weighted values `A`, kept relative to `M`. -/
structure Row (r : Fin 512) (m l a : FVec Ideal S512x128 .f32) (M : EReal) (L : ℝ) (A : Fin 128 → ℝ) : Prop where
  max : ∀ d, m (ix2 r d) = M
  sum : ∀ d, Attn.Rep M (l (ix2 r d)) L
  val : ∀ d, Attn.Rep M (a (ix2 r d)) (A d)

theorem Row.scale {r : Fin 512} {m l a : FVec Ideal S512x128 .f32} {M : EReal} {L : ℝ} {A : Fin 128 → ℝ} (h : Row r m l a M L A)
    (m' : FVec Ideal S512x128 .f32) (μ : ℝ) (hm : ∀ d, m' (ix2 r d) = (μ : EReal)) : Row r m' (re m m' l) (re m m' a) μ L A where
  max := hm
  sum d := by
    refine Attn.rep_coe ?_
    rw [re_at, h.max d, hm d, (h.sum d).2 μ]
  val d := by
    refine Attn.rep_coe ?_
    rw [re_at, h.max d, hm d, (h.val d).2 μ]

theorem Row.add {r : Fin 512} {m l a : FVec Ideal S512x128 .f32} {μ : ℝ} {L : ℝ} {A : Fin 128 → ℝ} (h : Row r m l a μ L A)
    (s : FVec Ideal S512x512 .f32) (v : FVec Ideal S512x128 .bf16) (g : Fin 512 → EReal) (x : Fin 512 → Fin 128 → EReal)
    (hg : ∀ j, s (ix2 r j) = g j) (hv : ∀ j d, v (ix2 j d) = x j d) (fg : ∀ j, g j ≠ ⊤) (fx : ∀ j d, x j d = ((x j d).toReal : EReal)) :
    Row r m (la l s m) (aa a s v m) μ (L + ∑ j, Attn.wt (g j)) (fun d => A d + ∑ j, Attn.wt (g j) * (x j d).toReal) where
  max := h.max
  sum d := by
    rw [la_at, Finset.sum_congr rfl fun j _ => (pe_at s m r j μ h.max).trans (by rw [hg j])]
    exact Attn.rep_more (h.sum d) g fg
  val d := by
    rw [aa_at, Finset.sum_congr rfl fun j _ => congrArg₂ (· * ·) ((pe_at s m r j μ h.max).trans (by rw [hg j])) (hv j d)]
    exact Attn.rep_more_mul (h.val d) g (fun j => x j d) (fun j => (x j d).toReal) fg fun j => fx j d

theorem Row.out {r : Fin 512} {m l a : FVec Ideal S512x128 .f32} {M : EReal} {L : ℝ} {A : Fin 128 → ℝ} (h : Row r m l a M L A)
    (hL : L ≠ 0) (d : Fin 128) : k0_pay15 (F := Ideal) a l (ix2 r d) = ((A d / L : ℝ) : EReal) := by
  have e : k0_pay15 (F := Ideal) a l (ix2 r d) = Ideal.div (a (ix2 r d)) (l (ix2 r d)) := by pointwise [k0_pay15]
  rw [e]
  exact Attn.rep_div (h.val d) (h.sum d) hL

/-- The buffers as they are reset. -/
theorem Row.reset (r : Fin 512) : Row r (k0_pay72 (F := Ideal)) (k0_pay73 (F := Ideal)) (k0_pay74 (F := Ideal)) ⊥ 0 fun _ => 0 where
  max d := by pointwise [k0_pay72]; exact mask_eq
  sum d := by
    have e : k0_pay73 (F := Ideal) (ix2 r d) = (0 : EReal) := by pointwise [k0_pay73]
    rw [e]; exact Attn.rep_init
  val d := by
    have e : k0_pay74 (F := Ideal) (ix2 r d) = (0 : EReal) := by pointwise [k0_pay74]
    rw [e]; exact Attn.rep_init

theorem up_row {r : Fin 512} {m : FVec Ideal S512x128 .f32} {M : EReal} (hm : ∀ d, m (ix2 r d) = M) (s : FVec Ideal S512x512 .f32)
    (g : Fin 512 → EReal) (hg : ∀ j, s (ix2 r j) = g j) (d : Fin 128) : up m s (ix2 r d) = max M (Attn.top g) := by
  rw [up_at, hm d, funext hg]

/-- Consuming one tile. -/
theorem Row.one {r : Fin 512} {m l a : FVec Ideal S512x128 .f32} {M : EReal} {L : ℝ} {A : Fin 128 → ℝ} (h : Row r m l a M L A) (hM : M ≠ ⊤)
    (s : FVec Ideal S512x512 .f32) (v : FVec Ideal S512x128 .bf16) (g : Fin 512 → EReal) (x : Fin 512 → Fin 128 → EReal)
    (hg : ∀ j, s (ix2 r j) = g j) (hv : ∀ j d, v (ix2 j d) = x j d) (fg : ∀ j, g j ≠ ⊤) (fx : ∀ j d, x j d = ((x j d).toReal : EReal))
    (hb : M ≠ ⊥ ∨ ∃ j, g j ≠ ⊥) :
    ∃ μ : ℝ, Row r (up m s) (la (re m (up m s) l) s (up m s)) (aa (re m (up m s) a) s v (up m s)) μ
      (L + ∑ j, Attn.wt (g j)) (fun d => A d + ∑ j, Attn.wt (g j) * (x j d).toReal) := by
  obtain ⟨μ, hμ⟩ := Attn.max_real hM g fg hb
  exact ⟨μ, (h.scale (up m s) μ fun d => (up_row h.max s g hg d).trans hμ).add s v g x hg hv fg fx⟩

/-- Consuming two tiles at once. -/
theorem Row.two {r : Fin 512} {m l a : FVec Ideal S512x128 .f32} {M : EReal} {L : ℝ} {A : Fin 128 → ℝ} (h : Row r m l a M L A) (hM : M ≠ ⊤)
    (s s' : FVec Ideal S512x512 .f32) (v v' : FVec Ideal S512x128 .bf16) (g g' : Fin 512 → EReal) (x x' : Fin 512 → Fin 128 → EReal)
    (hg : ∀ j, s (ix2 r j) = g j) (hv : ∀ j d, v (ix2 j d) = x j d) (fg : ∀ j, g j ≠ ⊤) (fx : ∀ j d, x j d = ((x j d).toReal : EReal))
    (hg' : ∀ j, s' (ix2 r j) = g' j) (hv' : ∀ j d, v' (ix2 j d) = x' j d) (fg' : ∀ j, g' j ≠ ⊤) (fx' : ∀ j d, x' j d = ((x' j d).toReal : EReal))
    (hb : M ≠ ⊥ ∨ ∃ j, g j ≠ ⊥) :
    ∃ μ : ℝ, Row r (up (up m s) s') (la (la (re m (up (up m s) s') l) s (up (up m s) s')) s' (up (up m s) s'))
      (aa (aa (re m (up (up m s) s') a) s v (up (up m s) s')) s' v' (up (up m s) s')) μ
      (L + ∑ j, Attn.wt (g j) + ∑ j, Attn.wt (g' j)) (fun d => A d + ∑ j, Attn.wt (g j) * (x j d).toReal + ∑ j, Attn.wt (g' j) * (x' j d).toReal) := by
  obtain ⟨ν, hν⟩ := Attn.max_real hM g fg hb
  obtain ⟨μ, hμ⟩ := Attn.max_real (EReal.coe_ne_top ν) g' fg' (.inl (EReal.coe_ne_bot ν))
  have e : ∀ d, up (up m s) s' (ix2 r d) = (μ : EReal) := fun d => by
    rw [up_row (fun d => (up_row h.max s g hg d).trans hν) s' g' hg' d, hμ]
  exact ⟨μ, ((h.scale _ μ e).add s v g x hg hv fg fx).add s' v' g' x' hg' hv' fg' fx'⟩

end Cert.AttnProof

end
-- ==== Proof.AttnCases.lean ====
module

public import proofs.«01_k».proof.Proof.AttnTiles
public import Idealize.ShloMosaic.Lib.Pipeline.Value

/-! What the kernel's body computes at each of the four positions of a query tile: the tile's keys in
the order the body takes them, one row at a time. -/

@[expose] public section

set_option maxRecDepth 16384

noncomputable section

namespace Cert.AttnProof

open Cert.KernelIdeal Cert.KernelIdeal.Gen
open Idealize.ShloMosaic

/-- A row of 2048, cut in four. -/
def part (s : Fin 2048 → EReal) (c : Fin 4) (e : Fin 512) : EReal := s ⟨512 * c + e, by omega⟩

theorem sum_parts (f : Fin 2048 → ℝ) : ∑ j, f j = ∑ c : Fin 4, ∑ e : Fin 512, f ⟨512 * c + e, by omega⟩ := by
  rw [← Fintype.sum_prod_type', ← (finProdFinEquiv (m := 4) (n := 512)).sum_comp]
  refine Finset.sum_congr rfl fun x _ => congrArg f (Fin.ext ?_)
  simp [finProdFinEquiv]
  omega

/-- The row of attention as the sums over its four parts. -/
theorem row_parts (s v : Fin 2048 → EReal) :
    Attn.row s v = (((∑ j, Attn.wt (part s 0 j) * (part v 0 j).toReal + ∑ j, Attn.wt (part s 1 j) * (part v 1 j).toReal
      + ∑ j, Attn.wt (part s 2 j) * (part v 2 j).toReal + ∑ j, Attn.wt (part s 3 j) * (part v 3 j).toReal)
      / (∑ j, Attn.wt (part s 0 j) + ∑ j, Attn.wt (part s 1 j) + ∑ j, Attn.wt (part s 2 j) + ∑ j, Attn.wt (part s 3 j)) : ℝ) : EReal) := by
  rw [Attn.row, sum_parts, sum_parts]
  simp only [Fin.sum_univ_four]
  rfl

theorem part_bot {s : Fin 2048 → EReal} {c : Fin 4} (h : ∀ j, part s c j = ⊥) : ∑ j, Attn.wt (part s c j) = 0 :=
  Finset.sum_eq_zero fun j _ => by rw [h j, Attn.wt_bot]

theorem part_bot_mul {s : Fin 2048 → EReal} (x : Fin 512 → ℝ) {c : Fin 4} (h : ∀ j, part s c j = ⊥) : ∑ j, Attn.wt (part s c j) * x j = 0 :=
  Finset.sum_eq_zero fun j _ => by rw [h j, Attn.wt_bot, zero_mul]

theorem part_nonneg {s : Fin 2048 → EReal} (hs : ∀ j, s j ≠ ⊤) (c : Fin 4) : 0 ≤ ∑ j, Attn.wt (part s c j) :=
  Finset.sum_nonneg fun j _ => Attn.wt_nonneg (hs _)

section Cases

variable (q : FVec Ideal S512x256 .bf16) (r : Fin 512) (s : Fin 2048 → EReal) (x : Fin 2048 → Fin 128 → EReal)
  (hs : ∀ j, s j ≠ ⊤) (hx : ∀ j d, x j d = ((x j d).toReal : EReal))

/-- The first query tile: its own keys only. -/
theorem case_A (K0 : FVec Ideal S512x256 .bf16) (V0 : FVec Ideal S512x128 .bf16)
    (h0 : ∀ j, sd q K0 (ix2 r j) = part s 0 j) (v0 : ∀ j d, V0 (ix2 j d) = part (x · d) 0 j)
    (hd : part s 0 r ≠ ⊥) (b1 : ∀ j, part s 1 j = ⊥) (b2 : ∀ j, part s 2 j = ⊥) (b3 : ∀ j, part s 3 j = ⊥)
    (hs : ∀ j, s j ≠ ⊤) (hx : ∀ j d, x j d = ((x j d).toReal : EReal)) (d : Fin 128) :
    k0_pay15 (F := Ideal) (k0_pay21 (F := Ideal) q K0 V0 (k0_pay72 (F := Ideal)) (k0_pay74 (F := Ideal))) (k0_pay20 (F := Ideal) q K0 (k0_pay72 (F := Ideal)) (k0_pay73 (F := Ideal))) (ix2 r d) = Attn.row s (x · d) := by
  obtain ⟨μ, h⟩ := (Row.reset r).one bot_ne_top (sd q K0) (shapeCast S512x128 V0 shapeCasts_S512x128_S512x128) (part s 0) (fun j d => part (x · d) 0 j) h0
    (fun j d => by rw [shapeCast_self]; exact v0 j d) (fun j => hs _) (fun j d => hx _ d) (.inr ⟨r, hd⟩)
  have hp := Attn.sum_pos (part s 0) (fun j => hs _) r hd
  have e := h.out (by simp only [zero_add]; exact hp.ne') d
  rw [row_parts, part_bot b1, part_bot b2, part_bot b3, part_bot_mul _ b1, part_bot_mul _ b2, part_bot_mul _ b3]
  simp only [zero_add, add_zero] at e ⊢
  rw [← e]
  rw [k0_pay21, k0_pay20]
  simp only [shapeCast_self]
  rfl

/-- The second query tile: its own keys with the first's. -/
theorem case_B (K0 K1 : FVec Ideal S512x256 .bf16) (V0 V1 : FVec Ideal S512x128 .bf16)
    (h0 : ∀ j, sc q K0 (ix2 r j) = part s 0 j) (v0 : ∀ j d, V0 (ix2 j d) = part (x · d) 0 j)
    (h1 : ∀ j, sd q K1 (ix2 r j) = part s 1 j) (v1 : ∀ j d, V1 (ix2 j d) = part (x · d) 1 j)
    (hd : part s 1 r ≠ ⊥) (b2 : ∀ j, part s 2 j = ⊥) (b3 : ∀ j, part s 3 j = ⊥)
    (hs : ∀ j, s j ≠ ⊤) (hx : ∀ j d, x j d = ((x j d).toReal : EReal)) (d : Fin 128) :
    k0_pay15 (F := Ideal) (k0_pay4 (F := Ideal) (k0_pay23 (F := Ideal) q K0) (k0_pay24 (F := Ideal) V0) (k0_pay29 (F := Ideal) q K1 V1 K0 (k0_pay72 (F := Ideal)) (k0_pay74 (F := Ideal))) (k0_pay30 (F := Ideal) q K1 K0 (k0_pay72 (F := Ideal))))
      (k0_pay3 (F := Ideal) (k0_pay23 (F := Ideal) q K0) (k0_pay28 (F := Ideal) q K1 K0 (k0_pay72 (F := Ideal)) (k0_pay73 (F := Ideal))) (k0_pay30 (F := Ideal) q K1 K0 (k0_pay72 (F := Ideal)))) (ix2 r d) = Attn.row s (x · d) := by
  obtain ⟨μ, h⟩ := (Row.reset r).two bot_ne_top (sd q K1) (sc q K0) (shapeCast S512x128 V1 shapeCasts_S512x128_S512x128) (shapeCast S512x128 V0 shapeCasts_S512x128_S512x128)
    (part s 1) (part s 0) (fun j d => part (x · d) 1 j) (fun j d => part (x · d) 0 j)
    h1 (fun j d => by rw [shapeCast_self]; exact v1 j d) (fun j => hs _) (fun j d => hx _ d)
    h0 (fun j d => by rw [shapeCast_self]; exact v0 j d) (fun j => hs _) (fun j d => hx _ d) (.inr ⟨r, hd⟩)
  have hp := Attn.sum_pos (part s 1) (fun j => hs _) r hd
  have p0 := part_nonneg hs 0
  have e := h.out (by linarith) d
  rw [row_parts, part_bot b2, part_bot b3, part_bot_mul _ b2, part_bot_mul _ b3]
  refine Eq.trans ?_ (e.trans (congrArg (fun z : ℝ => (z : EReal)) (congrArg₂ (· / ·) (by ring) (by ring))))
  rw [k0_pay4, k0_pay3, k0_pay29, k0_pay28, k0_pay24]
  simp only [shapeCast_self]
  rfl

/-- The third query tile: its own keys with the first's, then the second's. -/
theorem case_C (K0 K1 K2 : FVec Ideal S512x256 .bf16) (V0 V1 V2 : FVec Ideal S512x128 .bf16)
    (h0 : ∀ j, sc q K0 (ix2 r j) = part s 0 j) (v0 : ∀ j d, V0 (ix2 j d) = part (x · d) 0 j)
    (h1 : ∀ j, sc q K1 (ix2 r j) = part s 1 j) (v1 : ∀ j d, V1 (ix2 j d) = part (x · d) 1 j)
    (h2 : ∀ j, sd q K2 (ix2 r j) = part s 2 j) (v2 : ∀ j d, V2 (ix2 j d) = part (x · d) 2 j)
    (hd : part s 2 r ≠ ⊥) (b3 : ∀ j, part s 3 j = ⊥)
    (hs : ∀ j, s j ≠ ⊤) (hx : ∀ j d, x j d = ((x j d).toReal : EReal)) (d : Fin 128)
    (m l a : FVec Ideal S512x128 .f32)
    (em : m = k0_pay43 (F := Ideal) (k0_pay34 (F := Ideal) q K2 K0 (k0_pay72 (F := Ideal))))
    (el : l = k0_pay41 (F := Ideal) (k0_pay32 (F := Ideal) q K0) (k0_pay37 (F := Ideal) q K2 K0 (k0_pay72 (F := Ideal)) (k0_pay73 (F := Ideal))) (k0_pay39 (F := Ideal) q K2 K0 (k0_pay72 (F := Ideal))))
    (ea : a = k0_pay42 (F := Ideal) (k0_pay32 (F := Ideal) q K0) (k0_pay33 (F := Ideal) V0) (k0_pay38 (F := Ideal) q K2 V2 K0 (k0_pay72 (F := Ideal)) (k0_pay74 (F := Ideal))) (k0_pay39 (F := Ideal) q K2 K0 (k0_pay72 (F := Ideal)))) :
    k0_pay15 (F := Ideal) (k0_pay7 (F := Ideal) (k0_pay45 (F := Ideal) V1) (k0_pay49 (F := Ideal) q K1 m a) (k0_pay50 (F := Ideal) q K1 m))
      (k0_pay6 (F := Ideal) (k0_pay48 (F := Ideal) q K1 m l) (k0_pay50 (F := Ideal) q K1 m)) (ix2 r d) = Attn.row s (x · d) := by
  obtain ⟨ν, g⟩ := (Row.reset r).two bot_ne_top (sd q K2) (sc q K0) (shapeCast S512x128 V2 shapeCasts_S512x128_S512x128) (shapeCast S512x128 V0 shapeCasts_S512x128_S512x128)
    (part s 2) (part s 0) (fun j d => part (x · d) 2 j) (fun j d => part (x · d) 0 j)
    h2 (fun j d => by rw [shapeCast_self]; exact v2 j d) (fun j => hs _) (fun j d => hx _ d)
    h0 (fun j d => by rw [shapeCast_self]; exact v0 j d) (fun j => hs _) (fun j d => hx _ d) (.inr ⟨r, hd⟩)
  rw [k0_pay43, shapeCast_self] at em
  rw [k0_pay41, shapeCast_self, k0_pay37] at el
  rw [k0_pay42, shapeCast_self, k0_pay38, k0_pay33] at ea
  obtain ⟨μ, h⟩ := g.one (EReal.coe_ne_top ν) (sc q K1) (shapeCast S512x128 V1 shapeCasts_S512x128_S512x128)
    (part s 1) (fun j d => part (x · d) 1 j)
    h1 (fun j d => by rw [shapeCast_self]; exact v1 j d) (fun j => hs _) (fun j d => hx _ d) (.inl (EReal.coe_ne_bot ν))
  have hp := Attn.sum_pos (part s 2) (fun j => hs _) r hd
  have p0 := part_nonneg hs 0
  have p1 := part_nonneg hs 1
  have e := h.out (by linarith) d
  rw [row_parts, part_bot b3, part_bot_mul _ b3]
  refine Eq.trans ?_ (e.trans (congrArg (fun z : ℝ => (z : EReal)) (congrArg₂ (· / ·) (by ring) (by ring))))
  rw [em, el, ea, k0_pay7, k0_pay6, k0_pay45]
  simp only [shapeCast_self]
  rfl

/-- The last query tile: its own keys with the first's, then the two between. -/
theorem case_D (K0 K1 K2 K3 : FVec Ideal S512x256 .bf16) (V0 V1 V2 V3 : FVec Ideal S512x128 .bf16)
    (h0 : ∀ j, sc q K0 (ix2 r j) = part s 0 j) (v0 : ∀ j d, V0 (ix2 j d) = part (x · d) 0 j)
    (h1 : ∀ j, sc q K1 (ix2 r j) = part s 1 j) (v1 : ∀ j d, V1 (ix2 j d) = part (x · d) 1 j)
    (h2 : ∀ j, sc q K2 (ix2 r j) = part s 2 j) (v2 : ∀ j d, V2 (ix2 j d) = part (x · d) 2 j)
    (h3 : ∀ j, sd q K3 (ix2 r j) = part s 3 j) (v3 : ∀ j d, V3 (ix2 j d) = part (x · d) 3 j)
    (hd : part s 3 r ≠ ⊥)
    (hs : ∀ j, s j ≠ ⊤) (hx : ∀ j d, x j d = ((x j d).toReal : EReal)) (d : Fin 128)
    (m l a : FVec Ideal S512x128 .f32)
    (em : m = k0_pay63 (F := Ideal) (k0_pay54 (F := Ideal) q K3 K0 (k0_pay72 (F := Ideal))))
    (el : l = k0_pay61 (F := Ideal) (k0_pay52 (F := Ideal) q K0) (k0_pay57 (F := Ideal) q K3 K0 (k0_pay72 (F := Ideal)) (k0_pay73 (F := Ideal))) (k0_pay59 (F := Ideal) q K3 K0 (k0_pay72 (F := Ideal))))
    (ea : a = k0_pay62 (F := Ideal) (k0_pay52 (F := Ideal) q K0) (k0_pay53 (F := Ideal) V0) (k0_pay58 (F := Ideal) q K3 V3 K0 (k0_pay72 (F := Ideal)) (k0_pay74 (F := Ideal))) (k0_pay59 (F := Ideal) q K3 K0 (k0_pay72 (F := Ideal)))) :
    k0_pay15 (F := Ideal) (k0_pay13 (F := Ideal) (k0_pay64 (F := Ideal) q K1) (k0_pay65 (F := Ideal) V1) (k0_pay66 (F := Ideal) q K2) (k0_pay67 (F := Ideal) V2) m (k0_pay68 (F := Ideal) q K1 K2 m) a)
      (k0_pay12 (F := Ideal) (k0_pay64 (F := Ideal) q K1) (k0_pay66 (F := Ideal) q K2) m (k0_pay68 (F := Ideal) q K1 K2 m) l) (ix2 r d) = Attn.row s (x · d) := by
  obtain ⟨ν, g⟩ := (Row.reset r).two bot_ne_top (sd q K3) (sc q K0) (shapeCast S512x128 V3 shapeCasts_S512x128_S512x128) (shapeCast S512x128 V0 shapeCasts_S512x128_S512x128)
    (part s 3) (part s 0) (fun j d => part (x · d) 3 j) (fun j d => part (x · d) 0 j)
    h3 (fun j d => by rw [shapeCast_self]; exact v3 j d) (fun j => hs _) (fun j d => hx _ d)
    h0 (fun j d => by rw [shapeCast_self]; exact v0 j d) (fun j => hs _) (fun j d => hx _ d) (.inr ⟨r, hd⟩)
  rw [k0_pay63, shapeCast_self] at em
  rw [k0_pay61, shapeCast_self, k0_pay57] at el
  rw [k0_pay62, shapeCast_self, k0_pay58, k0_pay53] at ea
  obtain ⟨μ, h⟩ := g.two (EReal.coe_ne_top ν) (sc q K1) (sc q K2) (shapeCast S512x128 V1 shapeCasts_S512x128_S512x128) (shapeCast S512x128 V2 shapeCasts_S512x128_S512x128)
    (part s 1) (part s 2) (fun j d => part (x · d) 1 j) (fun j d => part (x · d) 2 j)
    h1 (fun j d => by rw [shapeCast_self]; exact v1 j d) (fun j => hs _) (fun j d => hx _ d)
    h2 (fun j d => by rw [shapeCast_self]; exact v2 j d) (fun j => hs _) (fun j d => hx _ d) (.inl (EReal.coe_ne_bot ν))
  have hp := Attn.sum_pos (part s 3) (fun j => hs _) r hd
  have p0 := part_nonneg hs 0
  have p1 := part_nonneg hs 1
  have p2 := part_nonneg hs 2
  have e := h.out (by linarith) d
  rw [row_parts]
  refine Eq.trans ?_ (e.trans (congrArg (fun z : ℝ => (z : EReal)) (congrArg₂ (· / ·) (by ring) (by ring))))
  rw [em, el, ea, k0_pay13, k0_pay12, k0_pay65, k0_pay67]
  simp only [shapeCast_self]
  rfl

end Cases

end Cert.AttnProof

end
-- ==== Proof.AttnPoint.lean ====
module

public import proofs.«01_k».proof.Proof.AttnCarry
public import proofs.«01_k».proof.Proof.AttnCases
public import Idealize.ShloMosaic.Lib.Pipeline.ReadBack

/-! What each point of the attention kernel leaves in the result's block. -/

@[expose] public section

set_option maxRecDepth 16384

noncomputable section

namespace Cert.AttnProof

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The scores of row `R` in a head, over the launched arrays. -/
def scores (c : Dev nD) (R : Fin 8192) (h : Fin 16) : Fin 2048 → EReal :=
  logit (m ((c : Thread nD τ).loc main_arg0)) (m ((c : Thread nD τ).loc main_arg1)) (m ((c : Thread nD τ).loc main_arg2)) R h

/-- The values row `R` reads in a head. -/
def values (c : Dev nD) (R : Fin 8192) (h : Fin 16) : Fin 2048 → Fin 128 → EReal := val (m ((c : Thread nD τ).loc main_arg1)) R h

/-- The launched arrays hold real numbers. -/
def Reals (c : Dev nD) : Prop := (∀ i, IsReal (m ((c : Thread nD τ).loc main_arg0) i)) ∧ (∀ i, IsReal (m ((c : Thread nD τ).loc main_arg1) i))
  ∧ (∀ i, IsReal (m ((c : Thread nD τ).loc main_arg2) i))

/-- Tile `k`'s keys, as row `R` meets them. -/
def Keys (c : Dev nD) (K : FVec Ideal S512x256 .bf16) (R : Fin 8192) (h : Fin 16) (k : Fin 4) : Prop :=
  ∀ (j : Fin 512) (e : Fin 256), K (ix2 j e) = keys (m ((c : Thread nD τ).loc main_arg1)) (m ((c : Thread nD τ).loc main_arg2)) (at' R ⟨512 * k + j, by omega⟩) h e

section Parts

variable (c : Dev nD) (t : Fin cfg0.N) (r : Fin 512) (R : Fin 8192) (hR : (R : ℕ) = t.val / 64 * 2048 + t.val % 4 * 512 + r)

include hR in
theorem score_of (K : FVec Ideal S512x256 .bf16) (k : Fin 4) (hK : Keys m c K R (hd t.val) k) (j : Fin 512) :
    ∑ e, qb m c t (ix2 r e) * K (ix2 j e) = plain (m ((c : Thread nD τ).loc main_arg0)) (m ((c : Thread nD τ).loc main_arg1)) R (at' R ⟨512 * k + j, by omega⟩) (hd t.val)
      + rotary (m ((c : Thread nD τ).loc main_arg0)) (m ((c : Thread nD τ).loc main_arg2)) R (at' R ⟨512 * k + j, by omega⟩) (hd t.val) :=
  score_eq _ _ _ R _ (hd t.val) (fun e => qb m c t (ix2 r e)) (fun e => K (ix2 j e)) (qb_lo m c t r R hR) (qb_hi m c t r R hR)
    (fun d => (hK j _).trans (keys_lo _ _ _ _ _ d rfl)) (fun e => (hK j _).trans (keys_hi _ _ _ _ _ e rfl))

include hR in
theorem below (K : FVec Ideal S512x256 .bf16) (k : Fin 4) (hk : (k : ℕ) < t.val % 4) (hK : Keys m c K R (hd t.val) k) (j : Fin 512) :
    sc (qb m c t) K (ix2 r j) = part (scores m c R (hd t.val)) k j := by
  rw [sc_at, score_of m c t r R hR K k hK]
  exact (if_pos (by dsimp only; omega)).symm

include hR in
theorem diagonal (K : FVec Ideal S512x256 .bf16) (k : Fin 4) (hk : (k : ℕ) = t.val % 4) (hK : Keys m c K R (hd t.val) k) (j : Fin 512) :
    sd (qb m c t) K (ix2 r j) = part (scores m c R (hd t.val)) k j := by
  rw [sd_at, score_of m c t r R hR K k hK]
  unfold part scores logit
  by_cases h : (j : ℕ) ≤ r
  · rw [if_pos h]
    exact (if_pos (by dsimp only; omega)).symm
  · rw [if_neg h]
    exact (if_neg (by dsimp only; omega)).symm

include hR in
theorem above (k : Fin 4) (hk : t.val % 4 < (k : ℕ)) (j : Fin 512) : part (scores m c R (hd t.val)) k j = ⊥ :=
  if_neg (by dsimp only; omega)

include hR in
theorem own (hm : Reals m c) (k : Fin 4) (hk : (k : ℕ) = t.val % 4) : part (scores m c R (hd t.val)) k r ≠ ⊥ :=
  logit_ne_bot _ _ _ hm.1 hm.2.1 hm.2.2 R _ _ (by dsimp only; omega)

theorem no_top (hm : Reals m c) (h : Fin 16) (j : Fin 2048) : scores m c R h j ≠ ⊤ := logit_ne_top _ _ _ hm.1 hm.2.1 hm.2.2 R h j

theorem real_values (hm : Reals m c) (h : Fin 16) (j : Fin 2048) (d : Fin 128) : values m c R h j d = ((values m c R h j d).toReal : EReal) :=
  (hm.2.1 _).eq

/-- A tile's values, read from the value block. -/
theorem tile_values (k : Fin 4) (hR : (R : ℕ) / 2048 = t.val / 64) (off : Fin 2 → ℕ) (inb : ∀ a, off a + S512x128.size a ≤ S2048x128.size a)
    (h0 : off 0 = 512 * k) (h1 : off 1 = 0) (j : Fin 512) (d : Fin 128) :
    View.ld (iblk m c 7 t) (Rect.unit off S512x128.size inb) (ix2 j d) = part (values m c R (hd t.val) · d) k j := by
  refine (vals m c t _ (at' R ⟨512 * k + j, by omega⟩) ?_).trans ?_
  · have e : ((Rect.unit (s := S2048x128) off S512x128.size inb).idx (ix2 j d) 0 : ℕ) = off 0 + 1 * j := rfl
    rw [e]
    simp only [at']
    omega
  · refine at_eq (fun i => m ((c : Thread nD τ).loc main_arg1) (ix2 (at' R ⟨512 * k + j, by omega⟩) i)) ?_
    show 256 * (hd t.val : ℕ) + 128 + (off 1 + 1 * (d : ℕ)) = 256 * (hd t.val : ℕ) + 128 + d
    omega

/-- A tile's keys, read from the kept block. -/
theorem tile_keys (k : Fin 4) (n : ℕ) (hn : n < cfg0.N) (h : Fin 16) (hh : hd n = h) (hR : (R : ℕ) / 2048 = n / 64) (off : Fin 2 → ℕ) (inb : ∀ a, off a + S512x256.size a ≤ S2048x256.size a)
    (h0 : off 0 = 512 * k) (h1 : off 1 = 0) : Keys m c (View.ld (outsAt0 m c n hn).2 (Rect.unit off S512x256.size inb)) R h k := by
  intro j e
  refine (carried m c n hn _ (at' R ⟨512 * k + j, by omega⟩) ?_).trans ?_
  · have e : ((Rect.unit (s := S2048x256) off S512x256.size inb).idx (ix2 j e) 0 : ℕ) = off 0 + 1 * j := rfl
    rw [e]
    simp only [at']
    omega
  · have e' : ((Rect.unit (s := S2048x256) off S512x256.size inb).idx (ix2 j e) 1 : ℕ) = off 1 + 1 * e := rfl
    rw [hh]
    exact congrArg (keys _ _ _ h) (Fin.ext (by rw [e']; omega))

end Parts

section Points

variable (c : Dev nD) (t : Fin cfg0.N) (hm : Reals m c) (y : S512x128.Idx) (R : Fin 8192) (hR : (R : ℕ) = t.val / 64 * 2048 + t.val % 4 * 512 + y 0)

/-- The entry of the result at row `R`, in the point's head. -/
def goal (c : Dev nD) (t : ℕ) (R : Fin 8192) (d : Fin 128) : EReal :=
  entry (m ((c : Thread nD τ).loc main_arg0)) (m ((c : Thread nD τ).loc main_arg1)) (m ((c : Thread nD τ).loc main_arg2)) R (hd t) d

include hm hR in
theorem point_A (h0 : t.val % 4 = 0) : (outsAt0 m c t.val t.isLt).1 y = goal m c t.val R (y 1) := by
  have ht := points t
  have hc : View.canon (Val := Elt Ideal) [⟨Rect.unit ![0, 128] ![2048, 128] inb_S2048x256_S2048x128_0_128, k0_pay70 (F := Ideal) (iblk m c 6 t)⟩,
      ⟨Rect.unit ![0, 0] ![2048, 128] inb_S2048x256_S2048x128_0_0, k0_pay69 (F := Ideal) (iblk m c 5 t)⟩] = (outsAt0 m c t.val t.isLt).2 := by
    rw [outsAt0_A m c t h0 h0 (by omega) (by omega) (by omega)]
    funext y
    frame_out
  rw [outsAt0_A m c t h0 h0 (by omega) (by omega) (by omega)]
  frame_out
  rw [View.readCov_eq_canon', hc]
  idx_vars y
  have hy0 : (y0 : ℕ) < 512 := y0.isLt
  exact case_A (qb m c t) y0 (scores m c R (hd t.val)) (values m c R (hd t.val)) _ _
    (diagonal m c t y0 R hR _ 0 h0.symm (tile_keys m c R 0 t.val t.isLt _ rfl (by omega) ![0, 0] _ rfl rfl))
    (tile_values m c t R 0 (by omega) ![0, 0] _ rfl rfl)
    (own m c t y0 R hR hm 0 h0.symm) (above m c t y0 R hR 1 (by simp [h0])) (above m c t y0 R hR 2 (by simp [h0])) (above m c t y0 R hR 3 (by simp [h0]))
    (no_top m c R hm _) (real_values m c R hm _) y1

include hm hR in
theorem point_B (h0 : t.val % 4 = 1) : (outsAt0 m c t.val t.isLt).1 y = goal m c t.val R (y 1) := by
  have ht := points t
  rw [outsAt0_B m c t (by omega) (by omega) h0 (by omega) (by omega)]
  frame_out
  simp only [read_unread_whole]
  idx_vars y
  have hy0 : (y0 : ℕ) < 512 := y0.isLt
  exact case_B (qb m c t) y0 (scores m c R (hd t.val)) (values m c R (hd t.val)) _ _ _ _
    (below m c t y0 R hR _ 0 (by simp [h0]) (tile_keys m c R 0 (t.val - 1) _ _ (Fin.ext (by simp only [hd]; omega)) (by omega) ![0, 0] _ rfl rfl))
    (tile_values m c t R 0 (by omega) ![0, 0] _ rfl rfl)
    (diagonal m c t y0 R hR _ 1 h0.symm (tile_keys m c R 1 (t.val - 1) _ _ (Fin.ext (by simp only [hd]; omega)) (by omega) ![512, 0] _ rfl rfl))
    (tile_values m c t R 1 (by omega) ![512, 0] _ rfl rfl)
    (own m c t y0 R hR hm 1 h0.symm) (above m c t y0 R hR 2 (by simp [h0])) (above m c t y0 R hR 3 (by simp [h0]))
    (no_top m c R hm _) (real_values m c R hm _) y1

include hm hR in
theorem point_C (h0 : t.val % 4 = 2) : (outsAt0 m c t.val t.isLt).1 y = goal m c t.val R (y 1) := by
  have ht := points t
  rw [outsAt0_C m c t (by omega) (by omega) (by omega) h0 (by omega)]
  frame_out
  simp only [read_unread_whole]
  idx_vars y
  have hy0 : (y0 : ℕ) < 512 := y0.isLt
  exact case_C (qb m c t) y0 (scores m c R (hd t.val)) (values m c R (hd t.val)) _ _ _ _ _ _
    (below m c t y0 R hR _ 0 (by simp [h0]) (tile_keys m c R 0 (t.val - 1) _ _ (Fin.ext (by simp only [hd]; omega)) (by omega) ![0, 0] _ rfl rfl))
    (tile_values m c t R 0 (by omega) ![0, 0] _ rfl rfl)
    (below m c t y0 R hR _ 1 (by simp [h0]) (tile_keys m c R 1 (t.val - 1) _ _ (Fin.ext (by simp only [hd]; omega)) (by omega) ![512, 0] _ rfl rfl))
    (tile_values m c t R 1 (by omega) ![512, 0] _ rfl rfl)
    (diagonal m c t y0 R hR _ 2 h0.symm (tile_keys m c R 2 (t.val - 1) _ _ (Fin.ext (by simp only [hd]; omega)) (by omega) ![1024, 0] _ rfl rfl))
    (tile_values m c t R 2 (by omega) ![1024, 0] _ rfl rfl)
    (own m c t y0 R hR hm 2 h0.symm) (above m c t y0 R hR 3 (by simp [h0]))
    (no_top m c R hm _) (real_values m c R hm _) y1 _ _ _ rfl rfl rfl

include hm hR in
theorem point_D (h0 : t.val % 4 = 3) : (outsAt0 m c t.val t.isLt).1 y = goal m c t.val R (y 1) := by
  have ht := points t
  rw [outsAt0_D m c t (by omega) (by omega) (by omega) (by omega) h0]
  frame_out
  simp only [read_unread_whole]
  idx_vars y
  have hy0 : (y0 : ℕ) < 512 := y0.isLt
  exact case_D (qb m c t) y0 (scores m c R (hd t.val)) (values m c R (hd t.val)) _ _ _ _ _ _ _ _
    (below m c t y0 R hR _ 0 (by simp [h0]) (tile_keys m c R 0 (t.val - 1) _ _ (Fin.ext (by simp only [hd]; omega)) (by omega) ![0, 0] _ rfl rfl))
    (tile_values m c t R 0 (by omega) ![0, 0] _ rfl rfl)
    (below m c t y0 R hR _ 1 (by simp [h0]) (tile_keys m c R 1 (t.val - 1) _ _ (Fin.ext (by simp only [hd]; omega)) (by omega) ![512, 0] _ rfl rfl))
    (tile_values m c t R 1 (by omega) ![512, 0] _ rfl rfl)
    (below m c t y0 R hR _ 2 (by simp [h0]) (tile_keys m c R 2 (t.val - 1) _ _ (Fin.ext (by simp only [hd]; omega)) (by omega) ![1024, 0] _ rfl rfl))
    (tile_values m c t R 2 (by omega) ![1024, 0] _ rfl rfl)
    (diagonal m c t y0 R hR _ 3 h0.symm (tile_keys m c R 3 (t.val - 1) _ _ (Fin.ext (by simp only [hd]; omega)) (by omega) ![1536, 0] _ rfl rfl))
    (tile_values m c t R 3 (by omega) ![1536, 0] _ rfl rfl)
    (own m c t y0 R hR hm 3 h0.symm)
    (no_top m c R hm _) (real_values m c R hm _) y1 _ _ _ rfl rfl rfl

end Points

end Cert.AttnProof

end
-- ==== Proof.AttnFinal.lean ====
module

public import proofs.«01_k».proof.Proof.AttnPoint

/-! The attention kernel's result array after the run. -/

@[expose] public section

set_option maxRecDepth 16384

noncomputable section

namespace Cert.AttnProof

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

theorem point (c : Dev nD) (hm : Reals m c) (t : Fin cfg0.N) (y : S512x128.Idx) (R : Fin 8192) (hR : (R : ℕ) = t.val / 64 * 2048 + t.val % 4 * 512 + y 0) :
    (outsAt0 m c t.val t.isLt).1 y = goal m c t.val R (y 1) := by
  have h : t.val % 4 = 0 ∨ t.val % 4 = 1 ∨ t.val % 4 = 2 ∨ t.val % 4 = 3 := by omega
  rcases h with h | h | h | h
  · exact point_A m c t hm y R hR h
  · exact point_B m c t hm y R hR h
  · exact point_C m c t hm y R hR h
  · exact point_D m c t hm y R hR h

theorem result_at (q : FVec Ideal S8192x3072 .bf16) (kv : FVec Ideal S8192x4096 .bf16) (kr : FVec Ideal S8192x64 .bf16) (w : S8192x2048.Idx) (R : Fin 8192)
    (h : Fin 16) (d : Fin 128) (h0 : (w 0 : ℕ) = R) (h1 : (w 1 : ℕ) = 128 * h + d) : result q kv kr w = entry q kv kr R h d := by
  have e0 : w 0 = R := Fin.ext h0
  unfold result
  rw [e0]
  exact congrArg₂ (entry q kv kr R) (Fin.ext (by dsimp only; omega)) (Fin.ext (by dsimp only; omega))

theorem final (c : Dev nD) (hm : Reals m c) : (dats m 0 c).arrAt 8 (cfgs 0).N
    = result (m ((c : Thread nD τ).loc main_arg0)) (m ((c : Thread nD τ).loc main_arg1)) (m ((c : Thread nD τ).loc main_arg2)) := by
  refine (dats m 0 c).arrAt_eq_of_covers 8 _ (by decide +kernel) fun t hf y => ?_
  have ht := points t
  blk_simp
  rw [after0_8]
  have hy0 : (((cfg0.win 8).blk t).view.emb y 0 : ℕ) = t.val / 64 * 2048 + t.val % 4 * 512 + y 0 := by blk_simp [idx t]; omega
  have hy1 : (((cfg0.win 8).blk t).view.emb y 1 : ℕ) = 128 * (hd t.val : ℕ) + y 1 := by blk_simp [idx t, hd]; dsimp only; omega
  exact (point m c hm t y _ hy0).trans (result_at _ _ _ _ _ (hd t.val) (y 1) rfl hy1).symm

end Cert.AttnProof

end
-- ==== Proof.AttnRef.lean ====
module

public import proofs.«01_k».proof.Proof.Gen.ReferenceIdeal
public import proofs.«01_k».proof.Proof.Gen.ReferenceIdeal.Run
public import proofs.«01_k».proof.Proof.AttnSpec
public import Idealize.ShloMosaic.Lib.WordCmp

/-! The reference's attention, read at an entry. -/

@[expose] public section

set_option maxRecDepth 16384

noncomputable section

namespace Cert.AttnRef

open Cert.ReferenceIdeal Cert.ReferenceIdeal.Gen Cert.ReferenceIdeal.Value
open Idealize.ShloMosaic Idealize.ShloMosaic.TcCoe Idealize.SL.Sem
open Cert.AttnProof (at_eq angs cosT sinT rot pos at' plain rotary logit logit_ne_top logit_ne_bot val entry result IsReal)

/-- The queries by head. -/
def heads (q : FVec Ideal S8192x3072 .bf16) : FVec Ideal S4x16x2048x192 .f32 :=
  transpose S4x16x2048x192 [0, 2, 1, 3] (shapeCast S4x2048x16x192 (extf .f32 q bitsLt_bf16_f32) shapeCasts_S8192x3072_S4x2048x16x192) transposes_S4x2048x16x192_S4x16x2048x192_0_2_1_3

/-- The keys and values by head. -/
def pairs (kv : FVec Ideal S8192x4096 .bf16) : FVec Ideal S4x16x2048x256 .f32 :=
  transpose S4x16x2048x256 [0, 2, 1, 3] (shapeCast S4x2048x16x256 (extf .f32 kv bitsLt_bf16_f32) shapeCasts_S8192x4096_S4x2048x16x256) transposes_S4x2048x16x256_S4x16x2048x256_0_2_1_3

/-- The shared rotary key by batch. -/
def shared (kr : FVec Ideal S8192x64 .bf16) : FVec Ideal S4x2048x64 .f32 :=
  shapeCast S4x2048x64 (extf .f32 kr bitsLt_bf16_f32) shapeCasts_S8192x64_S4x2048x64

/-- A head's first rotary half. -/
def left (q : FVec Ideal S4x16x2048x192 .f32) : FVec Ideal S4x16x2048x32 .f32 :=
  extractStridedSlice S4x16x2048x32 ![0, 0, 0, 0] (extractStridedSlice S4x16x2048x64 ![0, 0, 0, 128] q slices_S4x16x2048x192_S4x16x2048x64_0_0_0_128) slices_S4x16x2048x64_S4x16x2048x32_0_0_0_0

/-- A head's second rotary half. -/
def right (q : FVec Ideal S4x16x2048x192 .f32) : FVec Ideal S4x16x2048x32 .f32 :=
  extractStridedSlice S4x16x2048x32 ![0, 0, 0, 32] (extractStridedSlice S4x16x2048x64 ![0, 0, 0, 128] q slices_S4x16x2048x192_S4x16x2048x64_0_0_0_128) slices_S4x16x2048x64_S4x16x2048x32_0_0_0_32

/-- A table over positions, over batches and heads. -/
def table (a : FVec Ideal S2048x32 .f32) : FVec Ideal S4x16x2048x32 .f32 :=
  broadcastInDim S4x16x2048x32 ![0, 1, 2, 3] bcast_S1x1x2048x32_S4x16x2048x32_0_1_2_3 (broadcastInDim S1x1x2048x32 ![2, 3] bcast_S2048x32_S1x1x2048x32_2_3 a)

/-- The rotated queries. -/
def rotated (q : FVec Ideal S4x16x2048x192 .f32) : FVec Ideal S4x16x2048x64 .f32 :=
  concatenate S4x16x2048x64 3 [⟨S4x16x2048x32, (subf (mulf (left q) (table (Host.cos angs))) (mulf (right q) (table (Host.sin angs))))⟩,
    ⟨S4x16x2048x32, (addf (mulf (left q) (table (Host.sin angs))) (mulf (right q) (table (Host.cos angs))))⟩] concatenates_S4x16x2048x32_S4x16x2048x32_S4x16x2048x64_d3

/-- The masked scores. -/
def scores (q : FVec Ideal S4x16x2048x192 .f32) (kv : FVec Ideal S4x16x2048x256 .f32) (rq : FVec Ideal S4x16x2048x64 .f32) (kr : FVec Ideal S4x2048x64 .f32) :
    FVec Ideal S4x16x2048x2048 .f32 :=
  select (broadcastInDim S4x16x2048x2048 ![2, 3] bcast_S2048x2048_S4x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (addf (Host.dotGeneral dot_S4x16x2048x128_S4x16x2048x128_S4x16x2048x2048_3_3_2_2_01_01 none (extractStridedSlice S4x16x2048x128 ![0, 0, 0, 0] q slices_S4x16x2048x192_S4x16x2048x128_0_0_0_0) (extractStridedSlice S4x16x2048x128 ![0, 0, 0, 0] kv slices_S4x16x2048x256_S4x16x2048x128_0_0_0_0)) (Host.dotGeneral dot_S4x16x2048x64_S4x2048x64_S4x16x2048x2048_3_2_12_1_0_0 none rq kr)) (broadcastInDim S4x16x2048x2048 ![] bcast_S_S4x16x2048x2048 (id (constant S_ .f32 0xFF800000#32)))

/-- The largest score of a row. -/
def largest (s : FVec Ideal S4x16x2048x2048 .f32) : FVec Ideal S4x16x2048x1 .f32 :=
  broadcastInDim S4x16x2048x1 ![0, 1, 2] bcast_S4x16x2048_S4x16x2048x1_0_1_2 (Host.reduce FloatOps.maximumf s (constant S_ .f32 0xFF800000#32) reducesTo_S4x16x2048x2048_S4x16x2048_d3 h_S_)

/-- The same, where it is a number. -/
def shift (s : FVec Ideal S4x16x2048x1 .f32) : FVec Ideal S4x16x2048x1 .f32 :=
  select (cmpf .olt (Host.absf s) (broadcastInDim S4x16x2048x1 ![] bcast_S_S4x16x2048x1 (constant S_ .f32 0x7F800000#32))) s (broadcastInDim S4x16x2048x1 ![] bcast_S_S4x16x2048x1 (id (constant S_ .f32 0x00000000#32)))

/-- The weights. -/
def weights (s : FVec Ideal S4x16x2048x2048 .f32) (k : FVec Ideal S4x16x2048x1 .f32) : FVec Ideal S4x16x2048x2048 .f32 :=
  Host.exp (subf s (broadcastInDim S4x16x2048x2048 ![0, 1, 2, 3] bcast_S4x16x2048x1_S4x16x2048x2048_0_1_2_3 k))

/-- The weights over their sum. -/
def softmax (p : FVec Ideal S4x16x2048x2048 .f32) : FVec Ideal S4x16x2048x2048 .f32 :=
  Host.divf p (broadcastInDim S4x16x2048x2048 ![0, 1, 2, 3] bcast_S4x16x2048x1_S4x16x2048x2048_0_1_2_3 (maximumf (broadcastInDim S4x16x2048x1 ![0, 1, 2] bcast_S4x16x2048_S4x16x2048x1_0_1_2 (Host.reduceAdd p (constant S_ .f32 0x00000000#32) reducesTo_S4x16x2048x2048_S4x16x2048_d3 h_S_)) (broadcastInDim S4x16x2048x1 ![] bcast_S_S4x16x2048x1 (constant S_ .f32 0x0DA24260#32))))

/-- The weighted values. -/
def mixed (a : FVec Ideal S4x16x2048x2048 .f32) (kv : FVec Ideal S4x16x2048x256 .f32) : FVec Ideal S4x16x2048x128 .f32 :=
  Host.dotGeneral dot_S4x16x2048x2048_S4x16x2048x128_S4x16x2048x128_3_2_2_3_01_01 none a (extractStridedSlice S4x16x2048x128 ![0, 0, 0, 128] kv slices_S4x16x2048x256_S4x16x2048x128_0_0_0_128)

/-- The heads beside each other. -/
def joined (o : FVec Ideal S4x16x2048x128 .f32) : FVec Ideal S8192x2048 .bf16 :=
  truncf .bf16 (shapeCast S8192x2048 (transpose S4x2048x16x128 [0, 2, 1, 3] o transposes_S4x16x2048x128_S4x2048x16x128_0_2_1_3) shapeCasts_S4x2048x16x128_S8192x2048) bitsLt_bf16_f32

/-- The reference's result. -/
def whole (q : FVec Ideal S8192x3072 .bf16) (kv : FVec Ideal S8192x4096 .bf16) (kr : FVec Ideal S8192x64 .bf16) : FVec Ideal S8192x2048 .bf16 :=
  let s : FVec Ideal S4x16x2048x2048 .f32 := scores (heads q) (pairs kv) (rotated (heads q)) (shared kr)
  joined (mixed (softmax (weights s (shift (largest s)))) (pairs kv))

set_option maxHeartbeats 4000000 in
theorem whole_eq (m : (ℓ : Loc nD τ sig) → Buf (Elt Ideal) ℓ) (c : Dev nD) :
    res_main_v75 (F := Ideal) m c = whole (m ((c.tc : Thread nD τ).loc main_arg0)) (m ((c.tc : Thread nD τ).loc main_arg1)) (m ((c.tc : Thread nD τ).loc main_arg2)) := rfl

theorem ninf_eq : Ideal.ofBits .f32 0xFF800000#32 = (⊥ : EReal) := by simp [Ideal.ofBits, Ideal.ieee]

theorem inf_eq : Ideal.ofBits .f32 0x7F800000#32 = (⊤ : EReal) := by simp [Ideal.ofBits, Ideal.ieee]

theorem tiny_eq : ∃ ε : ℝ, ε ≤ 1 ∧ Ideal.ofBits .f32 0x0DA24260#32 = (ε : EReal) := by
  refine ⟨_, ?_, by simp [Ideal.ofBits, Ideal.ieee, -EReal.coe_mul]; rfl⟩
  norm_num

theorem heads_at (q : FVec Ideal S8192x3072 .bf16) (b : Fin 4) (h : Fin 16) (p : Fin 2048) (e : Fin 192) :
    heads q (ix4 b h p e) = q (ix2 ⟨2048 * b + p, by omega⟩ ⟨192 * h + e, by omega⟩) := by
  pointwise [heads]
  exact congrArg₂ (fun r c => q (ix2 r c)) (Fin.ext (by dsimp only; omega)) (Fin.ext (by dsimp only; omega))

theorem pairs_at (kv : FVec Ideal S8192x4096 .bf16) (b : Fin 4) (h : Fin 16) (p : Fin 2048) (e : Fin 256) :
    pairs kv (ix4 b h p e) = kv (ix2 ⟨2048 * b + p, by omega⟩ ⟨256 * h + e, by omega⟩) := by
  pointwise [pairs]
  exact congrArg₂ (fun r c => kv (ix2 r c)) (Fin.ext (by dsimp only; omega)) (Fin.ext (by dsimp only; omega))

theorem shared_at (kr : FVec Ideal S8192x64 .bf16) (b : Fin 4) (p : Fin 2048) (u : Fin 64) :
    shared kr (ix3 b p u) = kr (ix2 ⟨2048 * b + p, by omega⟩ u) := by
  pointwise [shared]
  exact congrArg (fun r => kr (ix2 r u)) (Fin.ext (by dsimp only; omega))

theorem left_at (q : FVec Ideal S4x16x2048x192 .f32) (b : Fin 4) (h : Fin 16) (p : Fin 2048) (u : Fin 32) :
    left q (ix4 b h p u) = q (ix4 b h p ⟨128 + u, by omega⟩) := by
  pointwise [left]

theorem right_at (q : FVec Ideal S4x16x2048x192 .f32) (b : Fin 4) (h : Fin 16) (p : Fin 2048) (u : Fin 32) :
    right q (ix4 b h p u) = q (ix4 b h p ⟨128 + (32 + u), by omega⟩) := by
  pointwise [right]

theorem rotated_at (q : FVec Ideal S8192x3072 .bf16) (b : Fin 4) (h : Fin 16) (p : Fin 2048) (u : Fin 64) :
    rotated (heads q) (ix4 b h p u) = rot q ⟨2048 * b + p, by omega⟩ h u := by
  by_cases hu : (u : ℕ) < 32
  · refine Eq.trans ?_ (if_pos hu).symm
    pointwise [rotated, table]
    rw [dif_pos hu, left_at, right_at, heads_at, heads_at]
    exact congrArg₂ (· - ·)
      (congrArg₂ (· * ·) (at_eq (fun i => q (ix2 _ i)) (by dsimp only; omega)) (congrArg₂ (fun a b => Ideal.cos (angs (ix2 a b))) (Fin.ext (by dsimp only [pos]; omega)) (Fin.ext (by dsimp only; omega))))
      (congrArg₂ (· * ·) (at_eq (fun i => q (ix2 _ i)) (by dsimp only; omega)) (congrArg₂ (fun a b => Ideal.sin (angs (ix2 a b))) (Fin.ext (by dsimp only [pos]; omega)) (Fin.ext (by dsimp only; omega))))
  · refine Eq.trans ?_ (if_neg hu).symm
    pointwise [rotated, table]
    rw [dif_neg hu, left_at, right_at, heads_at, heads_at]
    exact congrArg₂ (· + ·)
      (congrArg₂ (· * ·) (at_eq (fun i => q (ix2 _ i)) (by dsimp only; omega)) (congrArg₂ (fun a b => Ideal.sin (angs (ix2 a b))) (Fin.ext (by dsimp only [pos]; omega)) (Fin.ext (by dsimp only; omega))))
      (congrArg₂ (· * ·) (at_eq (fun i => q (ix2 _ i)) (by dsimp only; omega)) (congrArg₂ (fun a b => Ideal.cos (angs (ix2 a b))) (Fin.ext (by dsimp only [pos]; omega)) (Fin.ext (by dsimp only; omega))))

theorem scores_at (q : FVec Ideal S4x16x2048x192 .f32) (kv : FVec Ideal S4x16x2048x256 .f32) (rq : FVec Ideal S4x16x2048x64 .f32) (kr : FVec Ideal S4x2048x64 .f32)
    (b : Fin 4) (h : Fin 16) (p j : Fin 2048) : scores q kv rq kr (ix4 b h p j) = if (j : ℕ) ≤ p then
      (∑ d : Fin 128, q (ix4 b h p ⟨d, by omega⟩) * kv (ix4 b h j ⟨d, by omega⟩) + ∑ u : Fin 64, rq (ix4 b h p u) * kr (ix3 b j u) : EReal) else ⊥ := by
  pointwise [scores]
  have e : id (constant (F := Ideal) S_ .f32 0xFF800000#32) ix0 = (⊥ : EReal) := ninf_eq
  rw [WordCmp.cmpi_sle_ofNat (by omega) (by omega), e]
  by_cases hj : (j : ℕ) ≤ p <;> simp [Scalar.select, hj]

theorem largest_at (s : FVec Ideal S4x16x2048x2048 .f32) (b : Fin 4) (h : Fin 16) (p : Fin 2048) :
    largest s (ix4 b h p 0) = Attn.top fun j => s (ix4 b h p j) := by
  pointwise [largest, Attn.top]
  rw [ninf_eq]

theorem shift_at (s : FVec Ideal S4x16x2048x1 .f32) (b : Fin 4) (h : Fin 16) (p : Fin 2048) (x : ℝ) (hx : s (ix4 b h p 0) = (x : EReal)) :
    shift s (ix4 b h p 0) = (x : EReal) := by
  pointwise [shift]
  rw [hx, inf_eq]
  exact if_pos (max_lt (EReal.coe_lt_top x) (by rw [← EReal.coe_neg]; exact EReal.coe_lt_top _))

theorem weights_at (s : FVec Ideal S4x16x2048x2048 .f32) (k : FVec Ideal S4x16x2048x1 .f32) (b : Fin 4) (h : Fin 16) (p j : Fin 2048) :
    weights s k (ix4 b h p j) = Ideal.exp (s (ix4 b h p j) - k (ix4 b h p 0)) := by
  pointwise [weights]

theorem softmax_at (a : FVec Ideal S4x16x2048x2048 .f32) (b : Fin 4) (h : Fin 16) (p j : Fin 2048) :
    softmax a (ix4 b h p j) = Ideal.div (a (ix4 b h p j)) (max (∑ i, a (ix4 b h p i)) (Ideal.ofBits .f32 0x0DA24260#32)) := by
  pointwise [softmax]

theorem mixed_at (a : FVec Ideal S4x16x2048x2048 .f32) (kv : FVec Ideal S4x16x2048x256 .f32) (b : Fin 4) (h : Fin 16) (p : Fin 2048) (d : Fin 128) :
    mixed a kv (ix4 b h p d) = ∑ j : Fin 2048, a (ix4 b h p j) * kv (ix4 b h j ⟨128 + d, by omega⟩) := by
  pointwise [mixed]

theorem joined_at (o : FVec Ideal S4x16x2048x128 .f32) (b : Fin 4) (h : Fin 16) (p : Fin 2048) (d : Fin 128) :
    joined o (ix2 ⟨2048 * b + p, by omega⟩ ⟨128 * h + d, by omega⟩) = o (ix4 b h p d) := by
  pointwise [joined]

/-- The reference's scores are the row's scores. -/
theorem scores_eq (q : FVec Ideal S8192x3072 .bf16) (kv : FVec Ideal S8192x4096 .bf16) (kr : FVec Ideal S8192x64 .bf16) (b : Fin 4) (h : Fin 16) (p j : Fin 2048) :
    scores (heads q) (pairs kv) (rotated (heads q)) (shared kr) (ix4 b h p j) = logit q kv kr ⟨2048 * b + p, by omega⟩ h j := by
  have ej : at' ⟨2048 * b + p, by omega⟩ j = ⟨2048 * b + j, by omega⟩ := Fin.ext (by dsimp only [at']; omega)
  have ep : (2048 * (b : ℕ) + p) % 2048 = p := by omega
  rw [scores_at, logit, ej, plain, rotary]
  dsimp only
  rw [ep]
  refine if_congr Iff.rfl (congrArg₂ (· + ·) (Finset.sum_congr rfl fun d _ => ?_) (Finset.sum_congr rfl fun u _ => ?_)) rfl
  · rw [heads_at, pairs_at]
  · rw [rotated_at, shared_at]

/-- The reference at an entry. -/
theorem whole_at (q : FVec Ideal S8192x3072 .bf16) (kv : FVec Ideal S8192x4096 .bf16) (kr : FVec Ideal S8192x64 .bf16)
    (hq : ∀ i, IsReal (q i)) (hkv : ∀ i, IsReal (kv i)) (hkr : ∀ i, IsReal (kr i)) (b : Fin 4) (h : Fin 16) (p : Fin 2048) (d : Fin 128) :
    whole q kv kr (ix2 ⟨2048 * b + p, by omega⟩ ⟨128 * h + d, by omega⟩) = entry q kv kr ⟨2048 * b + p, by omega⟩ h d := by
  obtain ⟨ε, hε, eε⟩ := tiny_eq
  have hs := logit_ne_top q kv kr hq hkv hkr ⟨2048 * b + p, by omega⟩ h
  have hj := logit_ne_bot q kv kr hq hkv hkr ⟨2048 * b + p, by omega⟩ h p (by dsimp only; omega)
  have hk : shift (largest (scores (heads q) (pairs kv) (rotated (heads q)) (shared kr))) (ix4 b h p 0)
      = Attn.top (logit q kv kr ⟨2048 * b + p, by omega⟩ h) := by
    have e := largest_at (scores (heads q) (pairs kv) (rotated (heads q)) (shared kr)) b h p
    simp only [scores_eq] at e
    obtain ⟨x, hx⟩ := Attn.exists_coe (Attn.top_ne_bot _ p hj) (Attn.top_ne_top _ hs)
    rw [hx] at e ⊢
    exact shift_at _ b h p x e
  unfold whole
  rw [joined_at, mixed_at]
  simp only [softmax_at, weights_at, scores_eq, pairs_at, hk, eε]
  refine Eq.trans ?_ (Attn.softmax_row (logit q kv kr ⟨2048 * b + p, by omega⟩ h) (val kv ⟨2048 * b + p, by omega⟩ h · d) hs p hj
    (fun j => (hkv _).eq) ε hε _ rfl)
  refine Finset.sum_congr rfl fun j _ => congrArg _ ?_
  exact congrArg₂ (fun a b => kv (ix2 a b)) (Fin.ext (by dsimp only [at']; omega)) (Fin.ext (by dsimp only; omega))

theorem whole_result (q : FVec Ideal S8192x3072 .bf16) (kv : FVec Ideal S8192x4096 .bf16) (kr : FVec Ideal S8192x64 .bf16)
    (hq : ∀ i, IsReal (q i)) (hkv : ∀ i, IsReal (kv i)) (hkr : ∀ i, IsReal (kr i)) : whole q kv kr = result q kv kr := by
  funext y
  have y0 : (y 0 : ℕ) < 8192 := (y 0).isLt
  have y1 : (y 1 : ℕ) < 2048 := (y 1).isLt
  have e := whole_at q kv kr hq hkv hkr ⟨(y 0 : ℕ) / 2048, by omega⟩ ⟨(y 1 : ℕ) / 128, by omega⟩ ⟨(y 0 : ℕ) % 2048, by omega⟩ ⟨(y 1 : ℕ) % 128, by omega⟩
  have er : (⟨2048 * ((y 0 : ℕ) / 2048) + (y 0 : ℕ) % 2048, by omega⟩ : Fin 8192) = y 0 := Fin.ext (by dsimp only; omega)
  have ec : (⟨128 * ((y 1 : ℕ) / 128) + (y 1 : ℕ) % 128, by omega⟩ : Fin 2048) = y 1 := Fin.ext (by dsimp only; omega)
  dsimp only at e
  rw [er, ec] at e
  exact (congrArg (whole q kv kr) (eq_ix2 y)).trans e

end Cert.AttnRef

end
-- ==== Proof.AttnClaim.lean ====
module

public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Defs
public import proofs.«01_k».proof.Proof.AttnFinal
public import proofs.«01_k».proof.Proof.AttnRef
public import Idealize.ShloMosaic.Lib.ReduceAll
public import Idealize.ShloMosaic.Lib.Claim

/-! The attention's claim: on finite arguments the kernel's result is the reference's. -/

@[expose] public section

set_option maxRecDepth 16384

noncomputable section

namespace Cert.AttnProof

open Cert.KernelIdeal Cert.KernelIdeal.Gen
open Idealize.ShloMosaic Idealize.ShloMosaic.TcCoe Idealize.SL.Sem

variable (m : (ℓ : Loc nD τ sig) → Buf (Elt Ideal) ℓ)

/-- Both bits of a conjunction that holds. -/
theorem both : ∀ a b : BitVec 1, IntOp.andi a b = 1#1 → a = 1#1 ∧ b = 1#1 := by
  intro a b
  show a &&& b = 1#1 → _
  revert a b
  decide

/-- An extended real whose magnitude is below infinity is a real. -/
theorem real_of_lt (x : EReal) (h : max x (-x) < ⊤) : IsReal x := by
  induction x with
  | bot => simp at h
  | coe r => exact ⟨r, rfl⟩
  | top => simp at h

/-- The test of one entry. -/
theorem real_of_test {s : Shape} (x : FVec Ideal s .bf16) (hb : FTy.bits .bf16 < FTy.bits .f32) (bc : (⟨0, ![]⟩ : Shape).BroadcastsInDim s ![]) (i : s.Idx)
    (h : cmpf .olt (Host.absf (extf .f32 x hb)) (broadcastInDim s ![] bc (constant (F := Ideal) ⟨0, ![]⟩ .f32 0x7F800000#32)) i = 1#1) : IsReal (x i) := by
  have e : Ideal.ofBits .f32 0x7F800000#32 = (⊤ : EReal) := AttnRef.inf_eq
  change BitVec.ofBool (decide (max (x i : EReal) (-(x i : EReal)) < Ideal.ofBits .f32 0x7F800000#32)) = 1#1 at h
  rw [e] at h
  refine real_of_lt _ ?_
  by_contra hn
  rw [decide_eq_false hn] at h
  exact absurd h (by decide)

theorem reals (h : Cert.Pre_KernelIdeal_finite m) (c : Dev nD) : Reals m c := by
  have e := congrFun (h c) ValueIdx.ix0
  obtain ⟨e, e3⟩ := both _ _ e
  obtain ⟨e1, e2⟩ := both _ _ e
  exact ⟨fun i => real_of_test _ _ _ i (Host.reduce_andi_all _ _ _ _ _ e1 i), fun i => real_of_test _ _ _ i (Host.reduce_andi_all _ _ _ _ _ e2 i),
    fun i => real_of_test _ _ _ i (Host.reduce_andi_all _ _ _ _ _ e3 i)⟩

/-- The attention's call computes the reference's result. -/
theorem algebraic : Cert.algebraic_KernelIdeal_ReferenceIdeal_pre_finite := by
  pair_intro
  · run_from Cert.KernelIdeal.Gen.run_main m g
  · run_from Cert.ReferenceIdeal.Value.run m' g'
    have hm := reals m hpre c
    refine Eq.trans ?_ (final m c hm).symm
    obtain ⟨h0, h1, h2⟩ := hagree c
    rw [← AttnRef.whole_result _ _ _ hm.1 hm.2.1 hm.2.2, ← h0, ← h1, ← h2]
    exact AttnRef.whole_eq m' c

end Cert.AttnProof

end
-- ==== Proof.FfnUpValue.lean ====
module

public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Defs
public import Idealize.ShloMosaic.Lib.Pipeline.ValueKit
public import Idealize.ShloMosaic.Lib.Claim

/-! The gate and up projections of the feed-forward: every grid point stores its block of
`silu (x Wg) * (x Wu)`. -/

@[expose] public section

set_option maxRecDepth 16384

noncomputable section

namespace Cert.FfnUpProof

open Cert.FfnUpIdeal Cert.FfnUpIdeal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of the three argument arrays. -/
abbrev gated (x : FVec Ideal Cert.FfnUpRefIdeal.S8192x2048 .f32) (wg wu : FVec Ideal Cert.FfnUpRefIdeal.S4x2048x5632 .f32) :
    FVec Ideal Cert.FfnUpRefIdeal.S8192x5632 .bf16 :=
  let h := Host.dotGeneral Cert.FfnUpRefIdeal.dot_S8192x2048_S2048x5632_S8192x5632_1_0_0_1_n_n none x
    (shapeCast _ (extractStridedSlice Cert.FfnUpRefIdeal.S1x2048x5632 ![3, 0, 0] wg Cert.FfnUpRefIdeal.Gen.slices_S4x2048x5632_S1x2048x5632_3_0_0) Cert.FfnUpRefIdeal.Gen.shapeCasts_S1x2048x5632_S2048x5632)
  let u := Host.dotGeneral Cert.FfnUpRefIdeal.dot_S8192x2048_S2048x5632_S8192x5632_1_0_0_1_n_n none x
    (shapeCast _ (extractStridedSlice Cert.FfnUpRefIdeal.S1x2048x5632 ![3, 0, 0] wu Cert.FfnUpRefIdeal.Gen.slices_S4x2048x5632_S1x2048x5632_3_0_0) Cert.FfnUpRefIdeal.Gen.shapeCasts_S1x2048x5632_S2048x5632)
  let one : FVec Ideal Cert.FfnUpRefIdeal.S8192x5632 .f32 := broadcastInDim Cert.FfnUpRefIdeal.S8192x5632 ![] Cert.FfnUpRefIdeal.Gen.bcast_S_S8192x5632 (constant Cert.FfnUpRefIdeal.S_ .f32 0x3F800000#32)
  truncf .bf16 (mulf (mulf h (Host.divf one (addf one (Host.exp (Host.negf h))))) u) Cert.FfnUpRefIdeal.Gen.bitsLt_bf16_f32

theorem idx : ∀ t : Fin cfg0.N, win0_0.index t = ![t.val / 11, 0] ∧ win0_1.index t = ![3, 0, t.val % 11]
    ∧ win0_2.index t = ![3, 0, t.val % 11] ∧ win0_3.index t = ![t.val / 11, t.val % 11] :=
  (by decide +kernel : ∀ t : Fin grid0.N, _)

/-- What the body stores at a block index is the reference's value at the array index. -/
theorem point (c : Dev nD) (t : Fin cfg0.N) (y) : k0_pay1 (iblk m c 0 t) (iblk m c 1 t) (iblk m c 2 t) y
    = gated (m ((c : Thread nD τ).loc main_arg0)) (m ((c : Thread nD τ).loc main_arg1)) (m ((c : Thread nD τ).loc main_arg2))
      (((cfg0.win 3).blk t).view.emb y) := by
  pointwise [k0_pay1, gated]
  simp only [Ideal.logistic]
  blk_point [iblk, V, idx t]

theorem final (c : Dev nD) : (dats m 0 c).arrAt 3 (cfgs 0).N
    = gated (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The feed-forward's first call computes the reference's result. -/
theorem algebraic : Cert.algebraic_FfnUpIdeal_FfnUpRefIdeal := by
  pair_intro
  · run_from Cert.FfnUpIdeal.Gen.run_main m g
  · run_from Cert.FfnUpRefIdeal.Value.run m' g'
    exact (final m c).symm

end Cert.FfnUpProof

end
-- ==== Proof.Norm.lean ====
module

public import Idealize.ShloMosaic.PureOps.Ideal
public import Idealize.ShloMosaic.Lib.Pointwise

/-! Layer normalisation of one row of 2048 numbers, and the residual row it is applied to, as
functions over the extended reals: what both the kernels' row tiles and the references compute. -/

@[expose] public section

noncomputable section

namespace Cert.Norm

open Idealize.ShloMosaic

/-- The mean of a row: its sum over the row's length as the programs write the length. -/
def mean (y : Fin 2048 → EReal) : EReal := Ideal.div (∑ e, y e) (Ideal.ofBits .f32 0x45000000#32)

/-- Entry `d` of the normalised row, scaled by `g` and shifted by `b`. -/
def row (y g b : Fin 2048 → EReal) (d : Fin 2048) : EReal :=
  (y d - mean y) * Ideal.rsqrt (mean (fun e => (y e - mean y) * (y e - mean y)) + Ideal.ofBits .f32 0x3727C5AC#32) * g d + b d

end Cert.Norm

end
-- ==== Proof.NormTerms.lean ====
module

public import proofs.«01_k».proof.Proof.Gen.OutProjIdeal
public import proofs.«01_k».proof.Proof.Gen.OutProjRefIdeal
public import proofs.«01_k».proof.Proof.Norm
public import Idealize.ShloMosaic.Lib.Pointwise

/-! The two programs' chains of whole-array operations that normalise rows, each read at an entry:
`Norm.row` of the row. The one is a kernel's tile of 128 rows, the other a reference's 8192 rows. -/

@[expose] public section

set_option maxRecDepth 16384

noncomputable section

namespace Cert.Norm

open Idealize.ShloMosaic

section Tile
open Cert.OutProjIdeal Cert.OutProjIdeal.Gen

/-- A tile of 128 rows normalised, as the kernels compute it. -/
def tile (y : FVec Ideal S128x2048 .f32) (g b : FVec Ideal S1x2048 .f32) : FVec Ideal S128x2048 .f32 :=
  let n : FVec Ideal S128x1 .f32 := broadcast S128x1 (Scalar.ofBits (F := Ideal) .f32 0x45000000#32)
  let c := subf y (broadcastTo S128x2048 (divf (shapeCast S128x1 (multiReduction .add [1] S128 y 0x00000000#32 reduces_S128x2048_S128 (.inl rfl) rfl) shapeCasts_S128_S128x1) n) broadcasts_S128x1_S128x2048)
  let v := divf (shapeCast S128x1 (multiReduction .add [1] S128 (mulf c c) 0x00000000#32 reduces_S128x2048_S128 (.inl rfl) rfl) shapeCasts_S128_S128x1) n
  let s := rsqrt (addf v (broadcast S128x1 (Scalar.ofBits (F := Ideal) .f32 0x3727C5AC#32)))
  addf (mulf (mulf c (broadcastTo S128x2048 s broadcasts_S128x1_S128x2048))
    (broadcastTo S128x2048 (shapeCast S1x2048 g shapeCasts_S1x2048_S1x2048) broadcasts_S1x2048_S128x2048))
    (broadcastTo S128x2048 (shapeCast S1x2048 b shapeCasts_S1x2048_S1x2048) broadcasts_S1x2048_S128x2048)

theorem tile_at (y : FVec Ideal S128x2048 .f32) (g b : FVec Ideal S1x2048 .f32) (r : Fin 128) (d : Fin 2048) :
    tile y g b (ix2 r d) = row (fun e => (y (ix2 r e) : EReal)) (fun e => g (ix2 0 e)) (fun e => b (ix2 0 e)) d := by
  pointwise [tile, row, mean]

end Tile

section Whole
open Cert.OutProjRefIdeal Cert.OutProjRefIdeal.Gen

/-- All rows normalised, as the references compute it. -/
def whole (y : FVec Ideal S8192x2048 .f32) (g b : FVec Ideal S4x2048 .f32) : FVec Ideal S8192x2048 .f32 :=
  let n : FVec Ideal S8192x1 .f32 := broadcastInDim S8192x1 ![] bcast_S_S8192x1 (constant S_ .f32 0x45000000#32)
  let mu := Host.divf (broadcastInDim S8192x1 ![0] bcast_S8192_S8192x1_0 (Host.reduceAdd y (constant S_ .f32 0x00000000#32) reducesTo_S8192x2048_S8192_d1 h_S_)) n
  let c := subf y (broadcastInDim S8192x2048 ![0, 1] bcast_S8192x1_S8192x2048_0_1 mu)
  let v := Host.divf (broadcastInDim S8192x1 ![0] bcast_S8192_S8192x1_0 (Host.reduceAdd (mulf c c) (constant S_ .f32 0x00000000#32) reducesTo_S8192x2048_S8192_d1 h_S_)) n
  let s := Host.rsqrt (addf v (broadcastInDim S8192x1 ![] bcast_S_S8192x1 (constant S_ .f32 0x3727C5AC#32)))
  addf (mulf (mulf c (broadcastInDim S8192x2048 ![0, 1] bcast_S8192x1_S8192x2048_0_1 s))
    (broadcastInDim S8192x2048 ![0, 1] bcast_S1x2048_S8192x2048_0_1 (broadcastInDim S1x2048 ![1] bcast_S2048_S1x2048_1 (shapeCast _ (extractStridedSlice S1x2048 ![3, 0] g slices_S4x2048_S1x2048_3_0) shapeCasts_S1x2048_S2048))))
    (broadcastInDim S8192x2048 ![0, 1] bcast_S1x2048_S8192x2048_0_1 (broadcastInDim S1x2048 ![1] bcast_S2048_S1x2048_1 (shapeCast _ (extractStridedSlice S1x2048 ![3, 0] b slices_S4x2048_S1x2048_3_0) shapeCasts_S1x2048_S2048)))

theorem whole_at (y : FVec Ideal S8192x2048 .f32) (g b : FVec Ideal S4x2048 .f32) (r : Fin 8192) (d : Fin 2048) :
    whole y g b (ix2 r d) = row (fun e => (y (ix2 r e) : EReal)) (fun e => g (ix2 3 e)) (fun e => b (ix2 3 e)) d := by
  pointwise [whole, row, mean]

end Whole

end Cert.Norm

end
-- ==== Proof.FfnDownValue.lean ====
module

public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Defs
public import proofs.«01_k».proof.Proof.NormTerms
public import Idealize.ShloMosaic.Lib.Pipeline.ValueKit
public import Idealize.ShloMosaic.Lib.Claim

/-! The down projection with its residual and normalisation: two grid points per row block, the first
leaving half of the contraction in the result's buffer, the second adding the other half and normalising. -/

@[expose] public section

set_option maxRecDepth 16384

noncomputable section

namespace Cert.FfnDownProof

open Cert.FfnDownIdeal Cert.FfnDownIdeal.Gen
open Idealize.ShloMosaic Idealize.ShloMosaic.TcCoe Idealize.SL.Sem
open Idealize.ShloMosaic.Pipeline (Dat)

variable (m : (ℓ : Loc nD τ sig) → Buf (Elt Ideal) ℓ)

/-- Row `r` before normalisation. -/
def pre (o : FVec Ideal S8192x5632 .bf16) (x : FVec Ideal S8192x2048 .f32) (w : FVec Ideal S4x5632x2048 .f32)
    (r : Fin 8192) (d : Fin 2048) : EReal :=
  Ideal.ofBits .f32 0x3FD744FD#32 * x (ix2 r d) + ∑ k, o (ix2 r k) * w (ix3 3 k d)

/-- The first half of row `r`'s contraction. -/
def half (o : FVec Ideal S8192x5632 .bf16) (w : FVec Ideal S4x5632x2048 .f32) (r : Fin 8192) (d : Fin 2048) : EReal :=
  ∑ k : Fin 2816, o (ix2 r ⟨k.val, by omega⟩) * w (ix3 3 ⟨k.val, by omega⟩ d)

/-- Entry `(r, d)` of the result. -/
def entry (o : FVec Ideal S8192x5632 .bf16) (x : FVec Ideal S8192x2048 .f32) (w : FVec Ideal S4x5632x2048 .f32)
    (g b : FVec Ideal S4x2048 .f32) (r : Fin 8192) (d : Fin 2048) : EReal :=
  Norm.row (pre o x w r) (fun e => g (ix2 3 e)) (fun e => b (ix2 3 e)) d

/-- A tile before normalisation: the residual, the half already accumulated, the other half. -/
def tilePre (x acc : FVec Ideal S128x2048 .f32) (a : FVec Ideal S128x2816 .bf16) (w : FVec Ideal S1x2816x2048 .bf16) : FVec Ideal S128x2048 .f32 :=
  addf (mulf (broadcast S128x2048 (Scalar.ofBits (F := Ideal) .f32 0x3FD744FD#32)) x)
    (addf (shapeCast S128x2048 acc shapeCasts_S128x2048_S128x2048)
    (matmul dot_S128x2816_S2816x2048_S128x2048_1_0_0_1_n_n none a (shapeCast S2816x2048 w shapeCasts_S1x2816x2048_S2816x2048) (constant S128x2048 .f32 0x00000000#32)))

theorem tilePre_at (x acc : FVec Ideal S128x2048 .f32) (a : FVec Ideal S128x2816 .bf16) (w : FVec Ideal S1x2816x2048 .bf16) (r : Fin 128) (d : Fin 2048) :
    tilePre x acc a w (ix2 r d) = Ideal.ofBits .f32 0x3FD744FD#32 * x (ix2 r d) + (acc (ix2 r d) + ∑ k, a (ix2 r k) * w (ix3 0 k d)) := by
  pointwise [tilePre]

/-- One row of a tile: the normalised residual row. -/
theorem tile_at (x acc : FVec Ideal S128x2048 .f32) (a : FVec Ideal S128x2816 .bf16) (w : FVec Ideal S1x2816x2048 .bf16)
    (g b : FVec Ideal S1x2048 .f32) (r : Fin 128) (d : Fin 2048) :
    Norm.tile (tilePre x acc a w) g b (ix2 r d)
    = Norm.row (fun e => Ideal.ofBits .f32 0x3FD744FD#32 * x (ix2 r e) + (acc (ix2 r e) + ∑ k, a (ix2 r k) * w (ix3 0 k e)))
      (fun e => g (ix2 0 e)) (fun e => b (ix2 0 e)) d := by
  refine (Norm.tile_at (tilePre x acc a w) g b r d).trans ?_
  congr 1
  funext e
  exact tilePre_at x acc a w r e

/-- What the first of a row block's two points computes. -/
theorem half_at (a : FVec Ideal S512x2816 .bf16) (w : FVec Ideal S1x2816x2048 .bf16) (r : Fin 512) (d : Fin 2048) :
    k0_pay1 (F := Ideal) a w (ix2 r d) = ∑ k, a (ix2 r k) * w (ix3 0 k d) := by
  pointwise [k0_pay1]

/-- The two halves of a contraction. -/
theorem sum_halves (f : Fin 5632 → EReal) :
    ∑ k, f k = (∑ k : Fin 2816, f ⟨k.val, by omega⟩) + ∑ k : Fin 2816, f ⟨2816 + k.val, by omega⟩ :=
  Fin.sum_univ_add (a := 2816) (b := 2816) f

/-- The reference before normalisation. -/
def refPre (o : FVec Ideal Cert.FfnDownRefIdeal.S8192x5632 .bf16) (x : FVec Ideal Cert.FfnDownRefIdeal.S8192x2048 .f32)
    (w : FVec Ideal Cert.FfnDownRefIdeal.S4x5632x2048 .f32) : FVec Ideal Cert.FfnDownRefIdeal.S8192x2048 .f32 :=
  addf (mulf (broadcastInDim Cert.FfnDownRefIdeal.S8192x2048 ![] Cert.FfnDownRefIdeal.Gen.bcast_S_S8192x2048 (constant Cert.FfnDownRefIdeal.S_ .f32 0x3FD744FD#32)) x)
    (Host.dotGeneral Cert.FfnDownRefIdeal.dot_S8192x5632_S5632x2048_S8192x2048_1_0_0_1_n_n none (extf .f32 o Cert.FfnDownRefIdeal.Gen.bitsLt_bf16_f32)
      (shapeCast _ (extractStridedSlice Cert.FfnDownRefIdeal.S1x5632x2048 ![3, 0, 0] w Cert.FfnDownRefIdeal.Gen.slices_S4x5632x2048_S1x5632x2048_3_0_0)
        Cert.FfnDownRefIdeal.Gen.shapeCasts_S1x5632x2048_S5632x2048))

theorem refPre_at (o : FVec Ideal Cert.FfnDownRefIdeal.S8192x5632 .bf16) (x : FVec Ideal Cert.FfnDownRefIdeal.S8192x2048 .f32)
    (w : FVec Ideal Cert.FfnDownRefIdeal.S4x5632x2048 .f32) (r : Fin 8192) (d : Fin 2048) :
    refPre o x w (ix2 r d) = pre o x w r d := by
  pointwise [refPre, pre]

/-- The two results as functions of the five argument arrays. -/
def result (o : FVec Ideal S8192x5632 .bf16) (x : FVec Ideal S8192x2048 .f32) (w : FVec Ideal S4x5632x2048 .f32)
    (g b : FVec Ideal S4x2048 .f32) : FVec Ideal S8192x2048 .f32 := Norm.whole (refPre o x w) g b

theorem result_at (o : FVec Ideal S8192x5632 .bf16) (x : FVec Ideal S8192x2048 .f32) (w : FVec Ideal S4x5632x2048 .f32)
    (g b : FVec Ideal S4x2048 .f32) (r : Fin 8192) (d : Fin 2048) : (result o x w g b (ix2 r d) : EReal) = entry o x w g b r d := by
  refine (Norm.whole_at (refPre o x w) g b r d).trans ?_
  unfold entry
  congr 1
  funext e
  exact refPre_at o x w r e

theorem result_eq (o : FVec Ideal S8192x5632 .bf16) (x : FVec Ideal S8192x2048 .f32) (w : FVec Ideal S4x5632x2048 .f32)
    (g b : FVec Ideal S4x2048 .f32) (j : S8192x2048.Idx) : (result o x w g b j : EReal) = entry o x w g b (j 0) (j 1) := by
  rw [eq_ix2 j]; exact result_at o x w g b (j 0) (j 1)

theorem idx : ∀ t : Fin cfg0.N, win0_0.index t = ![t.val / 2, t.val % 2] ∧ win0_1.index t = ![3, t.val % 2, 0]
    ∧ win0_2.index t = ![t.val / 2, 0] ∧ win0_3.index t = ![0, 0] ∧ win0_4.index t = ![0, 0] ∧ win0_5.index t = ![t.val / 2, 0] ∧ win0_6.index t = ![t.val / 2, 0] :=
  (by decide +kernel : ∀ t : Fin grid0.N, _)

/-- Only the second point of a row block writes its results back. -/
theorem writes : ∀ t : Fin cfg0.N, (cfg0.win 5).flush t = decide (t.val % 2 = 1) ∧ (cfg0.win 6).flush t = decide (t.val % 2 = 1) :=
  (by decide +kernel : ∀ t : Fin grid0.N, _)

/-- After the first point of a row block, the first result's buffer holds the first half of the contraction. -/
theorem first (c : Dev nD) (t : Fin cfg0.N) (h0 : t.val % 2 = 0) (h2 : ¬t.val % 2 = 1) (r : Fin 512) (d : Fin 2048) (R : Fin 8192)
    (hR : (R : ℕ) = t.val / 2 * 512 + r) :
    (outsAt0 m c t.val t.isLt).1 (ix2 r d) = half (m ((c : Thread nD τ).loc main_arg0)) (m ((c : Thread nD τ).loc main_arg2)) R d := by
  rw [outsAt0_A m c t h0 h2]
  frame_out
  refine (half_at _ _ r d).trans ?_
  refine Finset.sum_congr rfl fun k _ => ?_
  congr 1 <;> (pointwise; blk_point [iblk, V, idx t])

theorem before (c : Dev nD) (t : Fin cfg0.N) (h2 : t.val % 2 = 1) (r : Fin 512) (d : Fin 2048) (R : Fin 8192)
    (hR : (R : ℕ) = t.val / 2 * 512 + r) :
    (outsAt0 m c (t.val - 1) (Nat.lt_of_le_of_lt (Nat.sub_le _ _) t.isLt)).1 (ix2 r d) = half (m ((c : Thread nD τ).loc main_arg0)) (m ((c : Thread nD τ).loc main_arg2)) R d :=
  first m c ⟨t.val - 1, Nat.lt_of_le_of_lt (Nat.sub_le _ _) t.isLt⟩ (by show (t.val - 1) % 2 = 0; omega) (by show ¬(t.val - 1) % 2 = 1; omega) r d R
    (by show (R : ℕ) = (t.val - 1) / 2 * 512 + r; omega)

/-- A tile whose rows are rows `R` of the arrays holds the result's entries. -/
theorem tile_entry (c : Dev nD) (t : Fin cfg0.N) (x acc : FVec Ideal S128x2048 .f32) (a : FVec Ideal S128x2816 .bf16) (w : FVec Ideal S1x2816x2048 .bf16)
    (g b : FVec Ideal S1x2048 .f32) (r : Fin 128) (d : Fin 2048) (R : Fin 8192)
    (hx : ∀ e, x (ix2 r e) = m ((c : Thread nD τ).loc main_arg1) (ix2 R e))
    (hacc : ∀ e, acc (ix2 r e) = half (m ((c : Thread nD τ).loc main_arg0)) (m ((c : Thread nD τ).loc main_arg2)) R e)
    (ha : ∀ k : Fin 2816, a (ix2 r k) = m ((c : Thread nD τ).loc main_arg0) (ix2 R ⟨2816 + k.val, by omega⟩))
    (hw : ∀ (k : Fin 2816) e, w (ix3 0 k e) = m ((c : Thread nD τ).loc main_arg2) (ix3 3 ⟨2816 + k.val, by omega⟩ e))
    (hg : ∀ e, g (ix2 0 e) = m ((c : Thread nD τ).loc main_arg3) (ix2 3 e))
    (hb : ∀ e, b (ix2 0 e) = m ((c : Thread nD τ).loc main_arg4) (ix2 3 e)) :
    Norm.tile (tilePre x acc a w) g b (ix2 r d) = entry (m ((c : Thread nD τ).loc main_arg0)) (m ((c : Thread nD τ).loc main_arg1)) (m ((c : Thread nD τ).loc main_arg2)) (m ((c : Thread nD τ).loc main_arg3)) (m ((c : Thread nD τ).loc main_arg4)) R d := by
  rw [tile_at]
  unfold entry pre
  simp only [hx, hacc, ha, hw, hg, hb, sum_halves, half]

end Cert.FfnDownProof

end
-- ==== Proof.FfnDownPoints.lean ====
module

public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Defs
public import proofs.«01_k».proof.Proof.FfnDownValue
public import Idealize.ShloMosaic.Lib.Pipeline.ValueKit
public import Idealize.ShloMosaic.Lib.Claim

/-! The down projection: what the second point of a row block leaves in the two results' buffers. -/

@[expose] public section

set_option maxRecDepth 16384

noncomputable section

namespace Cert.FfnDownProof

open Cert.FfnDownIdeal Cert.FfnDownIdeal.Gen
open Idealize.ShloMosaic Idealize.ShloMosaic.TcCoe Idealize.SL.Sem
open Idealize.ShloMosaic.Pipeline (Dat)

variable (m : (ℓ : Loc nD τ sig) → Buf (Elt Ideal) ℓ)

/-- What the second point of a row block leaves in window 5's buffer. -/
theorem point5 (c : Dev nD) (t : Fin cfg0.N) (g0 : ¬ t.val % 2 = 0) (g2 : t.val % 2 = 1) (y : S512x2048.Idx) (R : Fin 8192)
    (hR : (R : ℕ) = t.val / 2 * 512 + y 0) :
    (outsAt0 m c t.val t.isLt).1 y = entry (m ((c : Thread nD τ).loc main_arg0)) (m ((c : Thread nD τ).loc main_arg1)) (m ((c : Thread nD τ).loc main_arg2)) (m ((c : Thread nD τ).loc main_arg3)) (m ((c : Thread nD τ).loc main_arg4)) R (y 1) := by
  rw [outsAt0_B m c t g0 g2]
  frame_out
  canon_tiles z h
  all_goals
    idx_vars z
    have e : y 1 = z1 := Fin.ext h1
    rw [e]
    refine tile_entry m c t _ _ _ _ _ _ z0 z1 R ?_ ?_ ?_ ?_ ?_ ?_
    · intros; pointwise; blk_point [iblk, V, idx t]
    · intro e
      pointwise
      exact before m c t g2 _ e R (hR.trans (congrArg (fun n => t.val / 2 * 512 + n) h0))
    all_goals (intros; pointwise; blk_point [iblk, V, idx t])

/-- What the second point of a row block leaves in window 6's buffer. -/
theorem point6 (c : Dev nD) (t : Fin cfg0.N) (g0 : ¬ t.val % 2 = 0) (g2 : t.val % 2 = 1) (y : S512x2048.Idx) (R : Fin 8192)
    (hR : (R : ℕ) = t.val / 2 * 512 + y 0) :
    (outsAt0 m c t.val t.isLt).2 y = entry (m ((c : Thread nD τ).loc main_arg0)) (m ((c : Thread nD τ).loc main_arg1)) (m ((c : Thread nD τ).loc main_arg2)) (m ((c : Thread nD τ).loc main_arg3)) (m ((c : Thread nD τ).loc main_arg4)) R (y 1) := by
  rw [outsAt0_B m c t g0 g2]
  frame_out
  canon_tiles z h
  all_goals
    idx_vars z
    have e : y 1 = z1 := Fin.ext h1
    rw [e]
    refine tile_entry m c t _ _ _ _ _ _ z0 z1 R ?_ ?_ ?_ ?_ ?_ ?_
    · intros; pointwise; blk_point [iblk, V, idx t]
    · intro e
      pointwise
      exact before m c t g2 _ e R (hR.trans (congrArg (fun n => t.val / 2 * 512 + n) h0))
    all_goals (intros; pointwise; blk_point [iblk, V, idx t])

end Cert.FfnDownProof

end
-- ==== Proof.FfnDownClaim.lean ====
module

public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Defs
public import proofs.«01_k».proof.Proof.FfnDownPoints
public import Idealize.ShloMosaic.Lib.Pipeline.ValueKit
public import Idealize.ShloMosaic.Lib.Claim

/-! The down projection: the two result arrays after the run, and the claim that they are the
reference's. -/

@[expose] public section

set_option maxRecDepth 16384

noncomputable section

namespace Cert.FfnDownProof

open Cert.FfnDownIdeal Cert.FfnDownIdeal.Gen
open Idealize.ShloMosaic Idealize.ShloMosaic.TcCoe Idealize.SL.Sem
open Idealize.ShloMosaic.Pipeline (Dat)

variable (m : (ℓ : Loc nD τ sig) → Buf (Elt Ideal) ℓ)

theorem final5 (c : Dev nD) : (dats m 0 c).arrAt 5 (cfgs 0).N
    = result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have g2 : t.val % 2 = 1 := by rw [(writes t).1] at hf; simpa using hf
  have g0 : ¬ t.val % 2 = 0 := by omega
  blk_simp
  rw [after0_5]
  have hy0 : (((cfg0.win 5).blk t).view.emb y 0 : ℕ) = t.val / 2 * 512 + y 0 := by blk_simp [idx t]
  have hy1 : ((cfg0.win 5).blk t).view.emb y 1 = y 1 := Fin.ext (by blk_simp [idx t])
  refine (point5 m c t g0 g2 y _ hy0).trans ?_
  refine Eq.trans ?_ (result_eq _ _ _ _ _ _).symm
  rw [hy1]

theorem final6 (c : Dev nD) : (dats m 0 c).arrAt 6 (cfgs 0).N
    = result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  have g2 : t.val % 2 = 1 := by rw [(writes t).2] at hf; simpa using hf
  have g0 : ¬ t.val % 2 = 0 := by omega
  blk_simp
  rw [after0_6]
  have hy0 : (((cfg0.win 6).blk t).view.emb y 0 : ℕ) = t.val / 2 * 512 + y 0 := by blk_simp [idx t]
  have hy1 : ((cfg0.win 6).blk t).view.emb y 1 = y 1 := Fin.ext (by blk_simp [idx t])
  refine (point6 m c t g0 g2 y _ hy0).trans ?_
  refine Eq.trans ?_ (result_eq _ _ _ _ _ _).symm
  rw [hy1]

/-- The down projection's call computes both of the reference's results. -/
theorem algebraic : Cert.algebraic_FfnDownIdeal_FfnDownRefIdeal := by
  pair_intro
  · run_from Cert.FfnDownIdeal.Gen.run_main m g
  · run_from Cert.FfnDownRefIdeal.Value.run m' g'
    · refine Eq.trans ?_ (final5 m c).symm
      obtain ⟨h0, h1, h2, h3, h4⟩ := hagree c
      rw [← h0, ← h1, ← h2, ← h3, ← h4]
      rfl
    · refine Eq.trans ?_ (final6 m c).symm
      obtain ⟨h0, h1, h2, h3, h4⟩ := hagree c
      rw [← h0, ← h1, ← h2, ← h3, ← h4]
      rfl

end Cert.FfnDownProof

end
-- ==== Proof.OutProjValue.lean ====
module

public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Defs
public import proofs.«01_k».proof.Proof.NormTerms
public import Idealize.ShloMosaic.Lib.Pipeline.ValueKit
public import Idealize.ShloMosaic.Lib.Claim

/-! The output projection with its residual and normalisation: what one row of a tile is, what one
row of the reference is, and what the two result arrays hold after the run. -/

@[expose] public section

set_option maxRecDepth 16384

noncomputable section

namespace Cert.OutProjProof

open Cert.OutProjIdeal Cert.OutProjIdeal.Gen
open Idealize.ShloMosaic Idealize.ShloMosaic.TcCoe Idealize.SL.Sem
open Idealize.ShloMosaic.Pipeline (Dat)

variable (m : (ℓ : Loc nD τ sig) → Buf (Elt Ideal) ℓ)

/-- Row `r` before normalisation. -/
def pre (o : FVec Ideal S8192x2048 .bf16) (x : FVec Ideal S8192x2048 .f32) (w : FVec Ideal S1x2048x2048 .f32)
    (r : Fin 8192) (d : Fin 2048) : EReal :=
  Ideal.ofBits .f32 0x3FD744FD#32 * x (ix2 r d) + ∑ k, o (ix2 r k) * w (ix3 0 k d)

/-- Entry `(r, d)` of the result. -/
def entry (o : FVec Ideal S8192x2048 .bf16) (x : FVec Ideal S8192x2048 .f32) (w : FVec Ideal S1x2048x2048 .f32)
    (g b : FVec Ideal S4x2048 .f32) (r : Fin 8192) (d : Fin 2048) : EReal :=
  Norm.row (pre o x w r) (fun e => g (ix2 3 e)) (fun e => b (ix2 3 e)) d

/-- A tile before normalisation. -/
def tilePre (x : FVec Ideal S128x2048 .f32) (a : FVec Ideal S128x2048 .bf16) (w : FVec Ideal S1x2048x2048 .bf16) : FVec Ideal S128x2048 .f32 :=
  addf (mulf (broadcast S128x2048 (Scalar.ofBits (F := Ideal) .f32 0x3FD744FD#32)) x)
    (matmul dot_S128x2048_S2048x2048_S128x2048_1_0_0_1_n_n none a (shapeCast S2048x2048 w shapeCasts_S1x2048x2048_S2048x2048) (constant S128x2048 .f32 0x00000000#32))

theorem tilePre_at (x : FVec Ideal S128x2048 .f32) (a : FVec Ideal S128x2048 .bf16) (w : FVec Ideal S1x2048x2048 .bf16) (r : Fin 128) (d : Fin 2048) :
    tilePre x a w (ix2 r d) = Ideal.ofBits .f32 0x3FD744FD#32 * x (ix2 r d) + ∑ k, a (ix2 r k) * w (ix3 0 k d) := by
  pointwise [tilePre]

/-- One row of a tile: the normalised residual row. -/
theorem tile_at (x : FVec Ideal S128x2048 .f32) (a : FVec Ideal S128x2048 .bf16) (w : FVec Ideal S1x2048x2048 .bf16)
    (g b : FVec Ideal S1x2048 .f32) (r : Fin 128) (d : Fin 2048) :
    k0_pay1 (F := Ideal) x a w g b (ix2 r d) = Norm.row (fun e => Ideal.ofBits .f32 0x3FD744FD#32 * x (ix2 r e) + ∑ k, a (ix2 r k) * w (ix3 0 k e))
      (fun e => g (ix2 0 e)) (fun e => b (ix2 0 e)) d := by
  refine (Norm.tile_at (tilePre x a w) g b r d).trans ?_
  congr 1
  funext e
  exact tilePre_at x a w r e

/-- The reference before normalisation. -/
def refPre (o : FVec Ideal Cert.OutProjRefIdeal.S8192x2048 .bf16) (x : FVec Ideal Cert.OutProjRefIdeal.S8192x2048 .f32)
    (w : FVec Ideal Cert.OutProjRefIdeal.S1x2048x2048 .f32) : FVec Ideal Cert.OutProjRefIdeal.S8192x2048 .f32 :=
  addf (mulf (broadcastInDim Cert.OutProjRefIdeal.S8192x2048 ![] Cert.OutProjRefIdeal.Gen.bcast_S_S8192x2048 (constant Cert.OutProjRefIdeal.S_ .f32 0x3FD744FD#32)) x)
    (Host.dotGeneral Cert.OutProjRefIdeal.dot_S8192x2048_S2048x2048_S8192x2048_1_0_0_1_n_n none (extf .f32 o Cert.OutProjRefIdeal.Gen.bitsLt_bf16_f32)
      (shapeCast _ w Cert.OutProjRefIdeal.Gen.shapeCasts_S1x2048x2048_S2048x2048))

theorem refPre_at (o : FVec Ideal Cert.OutProjRefIdeal.S8192x2048 .bf16) (x : FVec Ideal Cert.OutProjRefIdeal.S8192x2048 .f32)
    (w : FVec Ideal Cert.OutProjRefIdeal.S1x2048x2048 .f32) (r : Fin 8192) (d : Fin 2048) :
    refPre o x w (ix2 r d) = pre o x w r d := by
  pointwise [refPre, pre]

/-- The two results as functions of the five argument arrays. -/
def result (o : FVec Ideal S8192x2048 .bf16) (x : FVec Ideal S8192x2048 .f32) (w : FVec Ideal S1x2048x2048 .f32)
    (g b : FVec Ideal S4x2048 .f32) : FVec Ideal S8192x2048 .f32 := Norm.whole (refPre o x w) g b

theorem result_at (o : FVec Ideal S8192x2048 .bf16) (x : FVec Ideal S8192x2048 .f32) (w : FVec Ideal S1x2048x2048 .f32)
    (g b : FVec Ideal S4x2048 .f32) (r : Fin 8192) (d : Fin 2048) : (result o x w g b (ix2 r d) : EReal) = entry o x w g b r d := by
  refine (Norm.whole_at (refPre o x w) g b r d).trans ?_
  unfold entry
  congr 1
  funext e
  exact refPre_at o x w r e

theorem result_eq (o : FVec Ideal S8192x2048 .bf16) (x : FVec Ideal S8192x2048 .f32) (w : FVec Ideal S1x2048x2048 .f32)
    (g b : FVec Ideal S4x2048 .f32) (j : S8192x2048.Idx) : (result o x w g b j : EReal) = entry o x w g b (j 0) (j 1) := by
  rw [eq_ix2 j]; exact result_at o x w g b (j 0) (j 1)

theorem idx : ∀ t : Fin cfg0.N, win0_0.index t = ![t.val, 0] ∧ win0_1.index t = ![0, 0, 0]
    ∧ win0_2.index t = ![t.val, 0] ∧ win0_3.index t = ![0, 0] ∧ win0_4.index t = ![0, 0] ∧ win0_5.index t = ![t.val, 0] ∧ win0_6.index t = ![t.val, 0] :=
  (by decide +kernel : ∀ t : Fin grid0.N, _)

/-- A tile whose rows are the array's rows `512 t + off + r` holds the result's entries. -/
theorem tile_entry (c : Dev nD) (t : Fin cfg0.N) (x : FVec Ideal S128x2048 .f32) (a : FVec Ideal S128x2048 .bf16) (w : FVec Ideal S1x2048x2048 .bf16)
    (g b : FVec Ideal S1x2048 .f32) (r : Fin 128) (d : Fin 2048) (R : Fin 8192)
    (hx : ∀ e, x (ix2 r e) = m ((c : Thread nD τ).loc main_arg1) (ix2 R e))
    (ha : ∀ k, a (ix2 r k) = m ((c : Thread nD τ).loc main_arg0) (ix2 R k))
    (hw : ∀ k e, w (ix3 0 k e) = m ((c : Thread nD τ).loc main_arg2) (ix3 0 k e))
    (hg : ∀ e, g (ix2 0 e) = m ((c : Thread nD τ).loc main_arg3) (ix2 3 e))
    (hb : ∀ e, b (ix2 0 e) = m ((c : Thread nD τ).loc main_arg4) (ix2 3 e)) :
    k0_pay1 (F := Ideal) x a w g b (ix2 r d) = entry (m ((c : Thread nD τ).loc main_arg0)) (m ((c : Thread nD τ).loc main_arg1)) (m ((c : Thread nD τ).loc main_arg2))
      (m ((c : Thread nD τ).loc main_arg3)) (m ((c : Thread nD τ).loc main_arg4)) R d := by
  rw [tile_at]
  unfold entry pre
  simp only [hx, ha, hw, hg, hb]

/-- What a grid point leaves in window 5's buffer. -/
theorem point5 (c : Dev nD) (t : Fin cfg0.N) (y : S512x2048.Idx) (R : Fin 8192) (h0 : (R : ℕ) = t.val * 512 + y 0) :
    out0_5 (F := Ideal) (iblk m c 0 t) (iblk m c 1 t) (iblk m c 2 t) (iblk m c 3 t) (iblk m c 4 t) y
    = entry (m ((c : Thread nD τ).loc main_arg0)) (m ((c : Thread nD τ).loc main_arg1)) (m ((c : Thread nD τ).loc main_arg2))
      (m ((c : Thread nD τ).loc main_arg3)) (m ((c : Thread nD τ).loc main_arg4)) R (y 1) := by
  canon_tiles z h
  all_goals
    idx_vars z
    have e : y 1 = z1 := Fin.ext h1
    rw [e]
    refine tile_entry m c t _ _ _ _ _ z0 z1 R ?_ ?_ ?_ ?_ ?_
    all_goals (intros; pointwise; blk_point [iblk, V, idx t])

/-- What a grid point leaves in window 6's buffer. -/
theorem point6 (c : Dev nD) (t : Fin cfg0.N) (y : S512x2048.Idx) (R : Fin 8192) (h0 : (R : ℕ) = t.val * 512 + y 0) :
    out0_6 (F := Ideal) (iblk m c 0 t) (iblk m c 1 t) (iblk m c 2 t) (iblk m c 3 t) (iblk m c 4 t) y
    = entry (m ((c : Thread nD τ).loc main_arg0)) (m ((c : Thread nD τ).loc main_arg1)) (m ((c : Thread nD τ).loc main_arg2))
      (m ((c : Thread nD τ).loc main_arg3)) (m ((c : Thread nD τ).loc main_arg4)) R (y 1) := by
  canon_tiles z h
  all_goals
    idx_vars z
    have e : y 1 = z1 := Fin.ext h1
    rw [e]
    refine tile_entry m c t _ _ _ _ _ z0 z1 R ?_ ?_ ?_ ?_ ?_
    all_goals (intros; pointwise; blk_point [iblk, V, idx t])

end Cert.OutProjProof

end
-- ==== Proof.OutProjClaim.lean ====
module

public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Defs
public import proofs.«01_k».proof.Proof.OutProjValue
public import Idealize.ShloMosaic.Lib.Pipeline.ValueKit
public import Idealize.ShloMosaic.Lib.Claim

/-! The output projection: the two result arrays after the run, and the claim that they are the
reference's. -/

@[expose] public section

set_option maxRecDepth 16384

noncomputable section

namespace Cert.OutProjProof

open Cert.OutProjIdeal Cert.OutProjIdeal.Gen
open Idealize.ShloMosaic Idealize.ShloMosaic.TcCoe Idealize.SL.Sem
open Idealize.ShloMosaic.Pipeline (Dat)

variable (m : (ℓ : Loc nD τ sig) → Buf (Elt Ideal) ℓ)

theorem final5 (c : Dev nD) : (dats m 0 c).arrAt 5 (cfgs 0).N
    = result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  have hy0 : (((cfg0.win 5).blk t).view.emb y 0 : ℕ) = t.val * 512 + y 0 := by blk_simp [idx t]
  have hy1 : ((cfg0.win 5).blk t).view.emb y 1 = y 1 := Fin.ext (by blk_simp [idx t])
  refine (point5 m c t y _ hy0).trans ?_
  refine Eq.trans ?_ (result_eq _ _ _ _ _ _).symm
  rw [hy1]

theorem final6 (c : Dev nD) : (dats m 0 c).arrAt 6 (cfgs 0).N
    = result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]
  have hy0 : (((cfg0.win 6).blk t).view.emb y 0 : ℕ) = t.val * 512 + y 0 := by blk_simp [idx t]
  have hy1 : ((cfg0.win 6).blk t).view.emb y 1 = y 1 := Fin.ext (by blk_simp [idx t])
  refine (point6 m c t y _ hy0).trans ?_
  refine Eq.trans ?_ (result_eq _ _ _ _ _ _).symm
  rw [hy1]

/-- The output projection's call computes both of the reference's results. -/
theorem algebraic : Cert.algebraic_OutProjIdeal_OutProjRefIdeal := by
  pair_intro
  · run_from Cert.OutProjIdeal.Gen.run_main m g
  · run_from Cert.OutProjRefIdeal.Value.run m' g'
    · refine Eq.trans ?_ (final5 m c).symm
      obtain ⟨h0, h1, h2, h3, h4⟩ := hagree c
      rw [← h0, ← h1, ← h2, ← h3, ← h4]
      rfl
    · refine Eq.trans ?_ (final6 m c).symm
      obtain ⟨h0, h1, h2, h3, h4⟩ := hagree c
      rw [← h0, ← h1, ← h2, ← h3, ← h4]
      rfl

end Cert.OutProjProof

end
-- ==== Proof.Reads.lean ====
module

public import Idealize.ShloMosaic.Lib.WordCmp
public import Idealize.ShloMosaic.Lib.Pipeline.ValueKit

/-! What the projections share: an array read at a position known by its coordinates, and the factor
of a tile of columns. -/

@[expose] public section

noncomputable section

namespace Cert.Reads

open Idealize.ShloMosaic Idealize.ShloMosaic.TcCoe

theorem read2 {a b : ℕ} (f : (⟨2, ![a, b]⟩ : Shape).Idx → EReal) (y : (⟨2, ![a, b]⟩ : Shape).Idx) (r : Fin a) (c : Fin b) (h0 : (y 0 : ℕ) = r) (h1 : (y 1 : ℕ) = c) :
    f y = f (ix2 r c) := by
  refine congrArg f (funext fun i => ?_)
  match i with
  | 0 => exact Fin.ext h0
  | 1 => exact Fin.ext h1

theorem read3 {a b c : ℕ} (f : (⟨3, ![a, b, c]⟩ : Shape).Idx → EReal) (y : (⟨3, ![a, b, c]⟩ : Shape).Idx) (p : Fin a) (r : Fin b) (s : Fin c)
    (h0 : (y 0 : ℕ) = p) (h1 : (y 1 : ℕ) = r) (h2 : (y 2 : ℕ) = s) : f y = f (ix3 p r s) := by
  refine congrArg f (funext fun i => ?_)
  match i with
  | 0 => exact Fin.ext h0
  | 1 => exact Fin.ext h1
  | 2 => exact Fin.ext h2

/-- The factor of tile `n`: `s` in the first `l` tiles, one after them. -/
theorem pick (s : EReal) (n l : ℕ) (hn : n < 100) (hl : l < 100) :
    Scalar.select (Scalar.cmpi .slt (BitVec.ofNat 32 n) (BitVec.ofNat 32 l)) s 1 = if n < l then s else 1 := by
  have e : Scalar.cmpi .slt (BitVec.ofNat 32 n) (BitVec.ofNat 32 l) = BitVec.ofBool (decide (n < l)) := WordCmp.cmpi_slt_ofNat (by omega) (by omega)
  rw [e]
  by_cases h : n < l <;> simp [Scalar.select, h]

end Cert.Reads

end
-- ==== Proof.MobaProjValue.lean ====
module

public import proofs.«01_k».proof.Proof.Gen.MobaProjIdeal.Frame
public import proofs.«01_k».proof.Proof.Gen.MobaProjIdeal.Value
public import proofs.«01_k».proof.Proof.Gen.MobaProjRefIdeal
public import proofs.«01_k».proof.Proof.Gen.MobaProjRefIdeal.Run
public import proofs.«01_k».proof.Defs
public import proofs.«01_k».proof.Proof.Reads
public import Idealize.ShloMosaic.Lib.Pipeline.ValueKit
public import Idealize.ShloMosaic.Lib.Claim

/-! The block-sparse mixer's queries, keys and values: every grid point stores its block of the product,
the queries' columns scaled. -/

@[expose] public section

set_option maxRecDepth 16384

noncomputable section

namespace Cert.MobaProjRef

open Cert.MobaProjRefIdeal Cert.MobaProjRefIdeal.Gen
open Idealize.ShloMosaic Idealize.ShloMosaic.TcCoe Idealize.SL.Sem

/-- Row `r`'s product with column `d`, the queries' columns scaled. -/
def entry (x : FVec Ideal S8192x2048 .f32) (w : FVec Ideal S1x2048x6144 .f32) (r : Fin 8192) (d : Fin 6144) : EReal :=
  (∑ k : Fin 2048, (x (ix2 r k) : EReal) * w (ix3 0 k d)) * if (d : ℕ) < 2048 then Ideal.ofBits .f32 0x3DB504F3#32 else 1

def result (x : FVec Ideal S8192x2048 .f32) (w : FVec Ideal S1x2048x6144 .f32) : FVec Ideal S8192x6144 .bf16 := fun y => entry x w (y 0) (y 1)

/-- The reference's result. -/
def ref (x : FVec Ideal S8192x2048 .f32) (w : FVec Ideal S1x2048x6144 .f32) : FVec Ideal S8192x6144 .bf16 :=
  truncf .bf16 ((concatenate S8192x6144 1 [⟨S8192x2048, ((mulf (extractStridedSlice S8192x2048 ![0, 0] (Host.dotGeneral dot_S8192x2048_S2048x6144_S8192x6144_1_0_0_1_n_n none x (shapeCast _ w shapeCasts_S1x2048x6144_S2048x6144)) slices_S8192x6144_S8192x2048_0_0) (broadcastInDim S8192x2048 ![] bcast_S_S8192x2048 (constant S_ .f32 0x3DB504F3#32))) : (⟨S8192x2048, .f32⟩ : BufTy).Contents (Elt Ideal))⟩, ⟨S8192x2048, ((extractStridedSlice S8192x2048 ![0, 2048] (Host.dotGeneral dot_S8192x2048_S2048x6144_S8192x6144_1_0_0_1_n_n none x (shapeCast _ w shapeCasts_S1x2048x6144_S2048x6144)) slices_S8192x6144_S8192x2048_0_2048) : (⟨S8192x2048, .f32⟩ : BufTy).Contents (Elt Ideal))⟩, ⟨S8192x2048, ((extractStridedSlice S8192x2048 ![0, 4096] (Host.dotGeneral dot_S8192x2048_S2048x6144_S8192x6144_1_0_0_1_n_n none x (shapeCast _ w shapeCasts_S1x2048x6144_S2048x6144)) slices_S8192x6144_S8192x2048_0_4096) : (⟨S8192x2048, .f32⟩ : BufTy).Contents (Elt Ideal))⟩] concatenates_S8192x2048_S8192x2048_S8192x2048_S8192x6144_d1 : (⟨S8192x6144, .f32⟩ : BufTy).Contents (Elt Ideal))) bitsLt_bf16_f32

theorem ref_at (x : FVec Ideal S8192x2048 .f32) (w : FVec Ideal S1x2048x6144 .f32) (r : Fin 8192) (d : Fin 6144) : ref x w (ix2 r d) = entry x w r d := by
  pointwise [ref, entry]
  by_cases h : (d : ℕ) < 2048
  · rw [dif_pos h, if_pos h]
  · rw [dif_neg h, if_neg h, mul_one]
    split_ifs <;> exact Finset.sum_congr rfl fun k _ => congrArg (fun e => (x (ix2 r k) : EReal) * w (ix3 0 k e)) (Fin.ext (by dsimp only; omega))

end Cert.MobaProjRef

namespace Cert.MobaProjProof

open Cert.MobaProjIdeal Cert.MobaProjIdeal.Gen
open Idealize.ShloMosaic Idealize.ShloMosaic.TcCoe Idealize.SL.Sem
open Idealize.ShloMosaic.Pipeline (Dat)
open Cert.Reads (read2 read3 pick)
open Cert.MobaProjRef (entry result ref ref_at)

variable (m : (ℓ : Loc nD τ sig) → Buf (Elt Ideal) ℓ)

theorem idx : ∀ t : Fin cfg0.N, win0_0.index t = ![t.val / 12, 0] ∧ win0_1.index t = ![0, 0, t.val % 12]
    ∧ win0_2.index t = ![t.val / 12, t.val % 12] :=
  (by decide +kernel : ∀ t : Fin grid0.N, _)

theorem coord : ∀ t : Fin cfg0.N, (grid0.coords t 1).val = t.val % 12 := (by decide +kernel : ∀ t : Fin grid0.N, _)

theorem pay_at (i : grid0.Coords) (a : FVec Ideal S1024x2048 .bf16) (b : FVec Ideal S1x2048x512 .f32) (r : Fin 1024) (d : Fin 512) :
    k0_pay1 i a b (ix2 r d) = (∑ k : Fin 2048, (a (ix2 r k) : EReal) * b (ix3 0 k d)) * if (i 1).val < 4 then Ideal.ofBits .f32 0x3DB504F3#32 else 1 := by
  pointwise [k0_pay1]
  exact congrArg _ (pick _ _ 4 (lt_trans (i 1).isLt (by decide)) (by decide))

theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]; frame_out
  have hy0 : (((View.whole main_v1).slice (win0_2.rect t)).emb y 0 : ℕ) = t.val / 12 * 1024 + y 0 := by blk_simp [idx t]
  have hy1 : (((View.whole main_v1).slice (win0_2.rect t)).emb y 1 : ℕ) = t.val % 12 * 512 + y 1 := by blk_simp [idx t]
  have b1 : (y 1 : ℕ) < 512 := (y 1).isLt
  refine (congrArg (k0_pay1 _ _ _) (eq_ix2 y)).trans ((pay_at _ _ _ _ _).trans ?_)
  refine congrArg₂ (· * ·) (Finset.sum_congr rfl fun k _ => congrArg₂ (· * ·) ?_ ?_) (if_congr ?_ rfl rfl)
  · blk_simp [iblk]
    rw [show V m c main_v0 = (truncf .bf16 (m ((c : Thread nD τ).loc main_arg0) : FVec Ideal S8192x2048 .f32) bitsLt_bf16_f32 : FVec Ideal S8192x2048 .bf16) from by entry_read; rfl]
    refine read2 (m ((c : Thread nD τ).loc main_arg0)) _ _ k ?_ ?_
    · rw [hy0]; blk_simp [idx t]
    · blk_simp [idx t]
  · blk_simp [iblk]
    rw [V_main_arg1]
    refine read3 (m ((c : Thread nD τ).loc main_arg1)) _ 0 k _ ?_ ?_ ?_
    · blk_simp [idx t]
    · blk_simp [idx t]
    · rw [hy1]; blk_simp [idx t]
  · rw [coord, hy1]
    omega

/-- The call computes the reference's result. -/
theorem algebraic : Cert.algebraic_MobaProjIdeal_MobaProjRefIdeal := by
  pair_intro
  · run_from Cert.MobaProjIdeal.Gen.run_main m g
  · run_from Cert.MobaProjRefIdeal.Value.run m' g'
    refine Eq.trans ?_ (final m c).symm
    obtain ⟨h0, h1⟩ := hagree c
    rw [← h0, ← h1]
    refine Eq.trans (b := ref (m' ((c.tc : Thread _ _).loc Cert.MobaProjRefIdeal.main_arg0)) (m' ((c.tc : Thread _ _).loc Cert.MobaProjRefIdeal.main_arg1))) rfl ?_
    funext y
    exact (congrArg (ref _ _) (eq_ix2 y)).trans (ref_at _ _ _ _)

end Cert.MobaProjProof

end
-- ==== Proof.SwaProjValue.lean ====
module

public import proofs.«01_k».proof.Proof.Gen.SwaProjIdeal.Frame
public import proofs.«01_k».proof.Proof.Gen.SwaProjIdeal.Value
public import proofs.«01_k».proof.Proof.Gen.SwaProjRefIdeal
public import proofs.«01_k».proof.Proof.Gen.SwaProjRefIdeal.Run
public import proofs.«01_k».proof.Defs
public import proofs.«01_k».proof.Proof.Reads
public import Idealize.ShloMosaic.Lib.Pipeline.ValueKit
public import Idealize.ShloMosaic.Lib.Claim

/-! The sliding-window mixer's queries, keys and values: every grid point stores its block of the
product, the queries' columns scaled. -/

@[expose] public section

set_option maxRecDepth 16384

noncomputable section

namespace Cert.SwaProjRef

open Cert.SwaProjRefIdeal Cert.SwaProjRefIdeal.Gen
open Idealize.ShloMosaic Idealize.ShloMosaic.TcCoe Idealize.SL.Sem

/-- Row `r`'s product with column `d`, the queries' columns scaled. -/
def entry (x : FVec Ideal S8192x2048 .f32) (w : FVec Ideal S1x2048x2560 .f32) (r : Fin 8192) (d : Fin 2560) : EReal :=
  (∑ k : Fin 2048, (x (ix2 r k) : EReal) * w (ix3 0 k d)) * if (d : ℕ) < 2048 then Ideal.ofBits .f32 0x3DB504F3#32 else 1

def result (x : FVec Ideal S8192x2048 .f32) (w : FVec Ideal S1x2048x2560 .f32) : FVec Ideal S8192x2560 .bf16 := fun y => entry x w (y 0) (y 1)

/-- The reference's result. -/
def ref (x : FVec Ideal S8192x2048 .f32) (w : FVec Ideal S1x2048x2560 .f32) : FVec Ideal S8192x2560 .bf16 :=
  truncf .bf16 ((concatenate S8192x2560 1 [⟨S8192x2048, ((mulf (extractStridedSlice S8192x2048 ![0, 0] (Host.dotGeneral dot_S8192x2048_S2048x2560_S8192x2560_1_0_0_1_n_n none x (shapeCast _ w shapeCasts_S1x2048x2560_S2048x2560)) slices_S8192x2560_S8192x2048_0_0) (broadcastInDim S8192x2048 ![] bcast_S_S8192x2048 (constant S_ .f32 0x3DB504F3#32))) : (⟨S8192x2048, .f32⟩ : BufTy).Contents (Elt Ideal))⟩, ⟨S8192x256, ((extractStridedSlice S8192x256 ![0, 2048] (Host.dotGeneral dot_S8192x2048_S2048x2560_S8192x2560_1_0_0_1_n_n none x (shapeCast _ w shapeCasts_S1x2048x2560_S2048x2560)) slices_S8192x2560_S8192x256_0_2048) : (⟨S8192x256, .f32⟩ : BufTy).Contents (Elt Ideal))⟩, ⟨S8192x256, ((extractStridedSlice S8192x256 ![0, 2304] (Host.dotGeneral dot_S8192x2048_S2048x2560_S8192x2560_1_0_0_1_n_n none x (shapeCast _ w shapeCasts_S1x2048x2560_S2048x2560)) slices_S8192x2560_S8192x256_0_2304) : (⟨S8192x256, .f32⟩ : BufTy).Contents (Elt Ideal))⟩] concatenates_S8192x2048_S8192x256_S8192x256_S8192x2560_d1 : (⟨S8192x2560, .f32⟩ : BufTy).Contents (Elt Ideal))) bitsLt_bf16_f32

theorem ref_at (x : FVec Ideal S8192x2048 .f32) (w : FVec Ideal S1x2048x2560 .f32) (r : Fin 8192) (d : Fin 2560) : ref x w (ix2 r d) = entry x w r d := by
  pointwise [ref, entry]
  by_cases h : (d : ℕ) < 2048
  · rw [dif_pos h, if_pos h]
  · rw [dif_neg h, if_neg h, mul_one]
    split_ifs <;> exact Finset.sum_congr rfl fun k _ => congrArg (fun e => (x (ix2 r k) : EReal) * w (ix3 0 k e)) (Fin.ext (by dsimp only; omega))

end Cert.SwaProjRef

namespace Cert.SwaProjProof

open Cert.SwaProjIdeal Cert.SwaProjIdeal.Gen
open Idealize.ShloMosaic Idealize.ShloMosaic.TcCoe Idealize.SL.Sem
open Idealize.ShloMosaic.Pipeline (Dat)
open Cert.Reads (read2 read3 pick)
open Cert.SwaProjRef (entry result ref ref_at)

variable (m : (ℓ : Loc nD τ sig) → Buf (Elt Ideal) ℓ)

theorem idx : ∀ t : Fin cfg0.N, win0_0.index t = ![t.val / 5, 0] ∧ win0_1.index t = ![0, 0, t.val % 5]
    ∧ win0_2.index t = ![t.val / 5, t.val % 5] :=
  (by decide +kernel : ∀ t : Fin grid0.N, _)

theorem coord : ∀ t : Fin cfg0.N, (grid0.coords t 1).val = t.val % 5 := (by decide +kernel : ∀ t : Fin grid0.N, _)

theorem pay_at (i : grid0.Coords) (a : FVec Ideal S1024x2048 .bf16) (b : FVec Ideal S1x2048x512 .f32) (r : Fin 1024) (d : Fin 512) :
    k0_pay1 i a b (ix2 r d) = (∑ k : Fin 2048, (a (ix2 r k) : EReal) * b (ix3 0 k d)) * if (i 1).val < 4 then Ideal.ofBits .f32 0x3DB504F3#32 else 1 := by
  pointwise [k0_pay1]
  exact congrArg _ (pick _ _ 4 (lt_trans (i 1).isLt (by decide)) (by decide))

theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]; frame_out
  have hy0 : (((View.whole main_v1).slice (win0_2.rect t)).emb y 0 : ℕ) = t.val / 5 * 1024 + y 0 := by blk_simp [idx t]
  have hy1 : (((View.whole main_v1).slice (win0_2.rect t)).emb y 1 : ℕ) = t.val % 5 * 512 + y 1 := by blk_simp [idx t]
  have b1 : (y 1 : ℕ) < 512 := (y 1).isLt
  refine (congrArg (k0_pay1 _ _ _) (eq_ix2 y)).trans ((pay_at _ _ _ _ _).trans ?_)
  refine congrArg₂ (· * ·) (Finset.sum_congr rfl fun k _ => congrArg₂ (· * ·) ?_ ?_) (if_congr ?_ rfl rfl)
  · blk_simp [iblk]
    rw [show V m c main_v0 = (truncf .bf16 (m ((c : Thread nD τ).loc main_arg0) : FVec Ideal S8192x2048 .f32) bitsLt_bf16_f32 : FVec Ideal S8192x2048 .bf16) from by entry_read; rfl]
    refine read2 (m ((c : Thread nD τ).loc main_arg0)) _ _ k ?_ ?_
    · rw [hy0]; blk_simp [idx t]
    · blk_simp [idx t]
  · blk_simp [iblk]
    rw [V_main_arg1]
    refine read3 (m ((c : Thread nD τ).loc main_arg1)) _ 0 k _ ?_ ?_ ?_
    · blk_simp [idx t]
    · blk_simp [idx t]
    · rw [hy1]; blk_simp [idx t]
  · rw [coord, hy1]
    omega

/-- The call computes the reference's result. -/
theorem algebraic : Cert.algebraic_SwaProjIdeal_SwaProjRefIdeal := by
  pair_intro
  · run_from Cert.SwaProjIdeal.Gen.run_main m g
  · run_from Cert.SwaProjRefIdeal.Value.run m' g'
    refine Eq.trans ?_ (final m c).symm
    obtain ⟨h0, h1⟩ := hagree c
    rw [← h0, ← h1]
    refine Eq.trans (b := ref (m' ((c.tc : Thread _ _).loc Cert.SwaProjRefIdeal.main_arg0)) (m' ((c.tc : Thread _ _).loc Cert.SwaProjRefIdeal.main_arg1))) rfl ?_
    funext y
    exact (congrArg (ref _ _) (eq_ix2 y)).trans (ref_at _ _ _ _)

end Cert.SwaProjProof

end
-- ==== Proof.NsaProjValue.lean ====
module

public import proofs.«01_k».proof.Proof.Gen.NsaProjIdeal.Frame
public import proofs.«01_k».proof.Proof.Gen.NsaProjIdeal.Value
public import proofs.«01_k».proof.Proof.Gen.NsaProjRefIdeal
public import proofs.«01_k».proof.Proof.Gen.NsaProjRefIdeal.Run
public import proofs.«01_k».proof.Defs
public import proofs.«01_k».proof.Proof.Reads
public import Idealize.ShloMosaic.Lib.Pipeline.ValueKit
public import Idealize.ShloMosaic.Lib.Claim

/-! The compressed/selected mixer's queries and its three pairs of keys and values: every grid point
stores its block of the product, the queries' columns scaled. -/

@[expose] public section

set_option maxRecDepth 16384

noncomputable section

namespace Cert.NsaProjRef

open Cert.NsaProjRefIdeal Cert.NsaProjRefIdeal.Gen
open Idealize.ShloMosaic Idealize.ShloMosaic.TcCoe Idealize.SL.Sem

/-- Row `r`'s product with column `d`, the queries' columns scaled. -/
def entry (x : FVec Ideal S8192x2048 .f32) (w : FVec Ideal S1x2048x5168 .f32) (r : Fin 8192) (d : Fin 5120) : EReal :=
  (∑ k : Fin 2048, (x (ix2 r k) : EReal) * w (ix3 0 k ⟨d, by omega⟩)) * if (d : ℕ) < 2048 then Ideal.ofBits .f32 0x3DB504F3#32 else 1

def result (x : FVec Ideal S8192x2048 .f32) (w : FVec Ideal S1x2048x5168 .f32) : FVec Ideal S8192x5120 .bf16 := fun y => entry x w (y 0) (y 1)

/-- The reference's result. -/
def ref (x : FVec Ideal S8192x2048 .f32) (w : FVec Ideal S1x2048x5168 .f32) : FVec Ideal S8192x5120 .bf16 :=
  truncf .bf16 (concatenate S8192x5120 1 [⟨S8192x2048, (mulf (extractStridedSlice S8192x2048 ![0, 0] (Host.dotGeneral dot_S8192x2048_S2048x5168_S8192x5168_1_0_0_1_n_n none x (shapeCast _ w shapeCasts_S1x2048x5168_S2048x5168)) slices_S8192x5168_S8192x2048_0_0) (broadcastInDim S8192x2048 ![] bcast_S_S8192x2048 (constant S_ .f32 0x3DB504F3#32)))⟩, ⟨S8192x3072, (extractStridedSlice S8192x3072 ![0, 2048] (Host.dotGeneral dot_S8192x2048_S2048x5168_S8192x5168_1_0_0_1_n_n none x (shapeCast _ w shapeCasts_S1x2048x5168_S2048x5168)) slices_S8192x5168_S8192x3072_0_2048)⟩] concatenates_S8192x2048_S8192x3072_S8192x5120_d1) bitsLt_bf16_f32

theorem ref_at (x : FVec Ideal S8192x2048 .f32) (w : FVec Ideal S1x2048x5168 .f32) (r : Fin 8192) (d : Fin 5120) : ref x w (ix2 r d) = entry x w r d := by
  pointwise [ref, entry]
  by_cases h : (d : ℕ) < 2048
  · rw [dif_pos h, if_pos h]
  · rw [dif_neg h, if_neg h, mul_one]
    split_ifs <;> exact Finset.sum_congr rfl fun k _ => congrArg (fun e => (x (ix2 r k) : EReal) * w (ix3 0 k e)) (Fin.ext (by dsimp only; omega))

end Cert.NsaProjRef

namespace Cert.NsaProjProof

open Cert.NsaProjIdeal Cert.NsaProjIdeal.Gen
open Idealize.ShloMosaic Idealize.ShloMosaic.TcCoe Idealize.SL.Sem
open Idealize.ShloMosaic.Pipeline (Dat)
open Cert.Reads (read2 read3 pick)
open Cert.NsaProjRef (entry result ref ref_at)

variable (m : (ℓ : Loc nD τ sig) → Buf (Elt Ideal) ℓ)

theorem idx : ∀ t : Fin cfg0.N, win0_0.index t = ![t.val / 10, 0] ∧ win0_1.index t = ![0, 0, t.val % 10]
    ∧ win0_2.index t = ![t.val / 10, t.val % 10] :=
  (by decide +kernel : ∀ t : Fin grid0.N, _)

theorem coord : ∀ t : Fin cfg0.N, (grid0.coords t 1).val = t.val % 10 := (by decide +kernel : ∀ t : Fin grid0.N, _)

theorem pay_at (i : grid0.Coords) (a : FVec Ideal S1024x2048 .bf16) (b : FVec Ideal S1x2048x512 .f32) (r : Fin 1024) (d : Fin 512) :
    k0_pay1 i a b (ix2 r d) = (∑ k : Fin 2048, (a (ix2 r k) : EReal) * b (ix3 0 k d)) * if (i 1).val < 4 then Ideal.ofBits .f32 0x3DB504F3#32 else 1 := by
  pointwise [k0_pay1]
  exact congrArg _ (pick _ _ 4 (lt_trans (i 1).isLt (by decide)) (by decide))

/-- The block of the weights at a point of the grid, read entry by entry. -/
theorem weight (c : Dev nD) (t : Fin cfg0.N) (k : Fin 2048) (d : Fin 512) (e : Fin 5168) (he : e.val = t.val % 10 * 512 + d) :
    X0_1 m c t (ix3 0 k d) = m ((c : Thread nD τ).loc main_arg1) (ix3 0 k e) := by
  refine (dif_pos (moved0_1 t (ix3 0 k d))).trans ?_
  blk_simp [iblk]
  rw [V_main_arg1]
  refine read3 (m ((c : Thread nD τ).loc main_arg1)) _ 0 k e ?_ ?_ ?_
  · blk_simp [idx t]
  · blk_simp [idx t]
  · rw [he]; blk_simp [idx t]

theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  have hy0 : (((View.whole main_v1).slice (win0_2.rect t)).emb y 0 : ℕ) = t.val / 10 * 1024 + y 0 := by blk_simp [idx t]
  have hy1 : (((View.whole main_v1).slice (win0_2.rect t)).emb y 1 : ℕ) = t.val % 10 * 512 + y 1 := by blk_simp [idx t]
  have b1 : (y 1 : ℕ) < 512 := (y 1).isLt
  refine (congrArg (k0_pay1 (grid0.coords t) (iblk m c 0 t) (X0_1 m c t)) (eq_ix2 y)).trans
    ((pay_at (grid0.coords t) (iblk m c 0 t) (X0_1 m c t) _ _).trans ?_)
  refine congrArg₂ (· * ·) (Finset.sum_congr rfl fun k _ => congrArg₂ (· * ·) ?_ ?_) (if_congr ?_ rfl rfl)
  · blk_simp [iblk]
    rw [show V m c main_v0 = (truncf .bf16 (m ((c : Thread nD τ).loc main_arg0) : FVec Ideal S8192x2048 .f32) bitsLt_bf16_f32 : FVec Ideal S8192x2048 .bf16) from by entry_read; rfl]
    refine read2 (m ((c : Thread nD τ).loc main_arg0)) _ _ k ?_ ?_
    · rw [hy0]; blk_simp [idx t]
    · blk_simp [idx t]
  · exact weight m c t k _ _ hy1
  · rw [coord, hy1]
    omega

/-- The call computes the reference's result. -/
theorem algebraic : Cert.algebraic_NsaProjIdeal_NsaProjRefIdeal := by
  pair_intro
  · run_from Cert.NsaProjIdeal.Gen.run_main m g
  · run_from Cert.NsaProjRefIdeal.Value.run m' g'
    refine Eq.trans ?_ (final m c).symm
    obtain ⟨h0, h1⟩ := hagree c
    rw [← h0, ← h1]
    refine Eq.trans (b := ref (m' ((c.tc : Thread _ _).loc Cert.NsaProjRefIdeal.main_arg0)) (m' ((c.tc : Thread _ _).loc Cert.NsaProjRefIdeal.main_arg1))) rfl ?_
    funext y
    exact (congrArg (ref _ _) (eq_ix2 y)).trans (ref_at _ _ _ _)

end Cert.NsaProjProof

end
-- ==== Proof.MlaDownValue.lean ====
module

public import proofs.«01_k».proof.Proof.Gen.MlaDownIdeal.Frame
public import proofs.«01_k».proof.Proof.Gen.MlaDownIdeal.Value
public import proofs.«01_k».proof.Proof.Gen.MlaDownRefIdeal
public import proofs.«01_k».proof.Proof.Gen.MlaDownRefIdeal.Run
public import proofs.«01_k».proof.Defs
public import proofs.«01_k».proof.Proof.Reads
public import Idealize.ShloMosaic.Lib.Pipeline.ValueKit
public import Idealize.ShloMosaic.Lib.Claim

/-! The latent mixer's projection to the latents and the shared key: every grid point stores its block
of the product, the key's halves once more in the other order. -/

@[expose] public section

set_option maxRecDepth 16384

noncomputable section

namespace Cert.MlaDownRef

open Cert.MlaDownRefIdeal Cert.MlaDownRefIdeal.Gen
open Idealize.ShloMosaic Idealize.ShloMosaic.TcCoe Idealize.SL.Sem

/-- The weights' column behind result column `d`. -/
def src (d : Fin 1152) : Fin 1088 := ⟨if (d : ℕ) < 1088 then d else if (d : ℕ) < 1120 then d - 1088 + 1056 else d - 1120 + 1024, by split_ifs <;> omega⟩

/-- Row `r`'s product with the column behind `d`. -/
def entry (x : FVec Ideal S8192x2048 .f32) (w : FVec Ideal S1x2048x1088 .f32) (r : Fin 8192) (d : Fin 1152) : EReal :=
  (∑ k : Fin 2048, (x (ix2 r k) : EReal) * w (ix3 0 k (src d)))

def result (x : FVec Ideal S8192x2048 .f32) (w : FVec Ideal S1x2048x1088 .f32) : FVec Ideal S8192x1152 .f32 := fun y => entry x w (y 0) (y 1)

/-- The reference's result. -/
def ref (x : FVec Ideal S8192x2048 .f32) (w : FVec Ideal S1x2048x1088 .f32) : FVec Ideal S8192x1152 .f32 :=
  (concatenate S8192x1152 1 [⟨S8192x512, ((extractStridedSlice S8192x512 ![0, 0] (Host.dotGeneral dot_S8192x2048_S2048x1088_S8192x1088_1_0_0_1_n_n none x (shapeCast _ w shapeCasts_S1x2048x1088_S2048x1088)) slices_S8192x1088_S8192x512_0_0) : (⟨S8192x512, .f32⟩ : BufTy).Contents (Elt Ideal))⟩, ⟨S8192x512, ((extractStridedSlice S8192x512 ![0, 512] (Host.dotGeneral dot_S8192x2048_S2048x1088_S8192x1088_1_0_0_1_n_n none x (shapeCast _ w shapeCasts_S1x2048x1088_S2048x1088)) slices_S8192x1088_S8192x512_0_512) : (⟨S8192x512, .f32⟩ : BufTy).Contents (Elt Ideal))⟩, ⟨S8192x32, ((extractStridedSlice S8192x32 ![0, 0] (extractStridedSlice S8192x64 ![0, 1024] (Host.dotGeneral dot_S8192x2048_S2048x1088_S8192x1088_1_0_0_1_n_n none x (shapeCast _ w shapeCasts_S1x2048x1088_S2048x1088)) slices_S8192x1088_S8192x64_0_1024) slices_S8192x64_S8192x32_0_0) : (⟨S8192x32, .f32⟩ : BufTy).Contents (Elt Ideal))⟩, ⟨S8192x32, ((extractStridedSlice S8192x32 ![0, 32] (extractStridedSlice S8192x64 ![0, 1024] (Host.dotGeneral dot_S8192x2048_S2048x1088_S8192x1088_1_0_0_1_n_n none x (shapeCast _ w shapeCasts_S1x2048x1088_S2048x1088)) slices_S8192x1088_S8192x64_0_1024) slices_S8192x64_S8192x32_0_32) : (⟨S8192x32, .f32⟩ : BufTy).Contents (Elt Ideal))⟩, ⟨S8192x32, ((extractStridedSlice S8192x32 ![0, 32] (extractStridedSlice S8192x64 ![0, 1024] (Host.dotGeneral dot_S8192x2048_S2048x1088_S8192x1088_1_0_0_1_n_n none x (shapeCast _ w shapeCasts_S1x2048x1088_S2048x1088)) slices_S8192x1088_S8192x64_0_1024) slices_S8192x64_S8192x32_0_32) : (⟨S8192x32, .f32⟩ : BufTy).Contents (Elt Ideal))⟩, ⟨S8192x32, ((extractStridedSlice S8192x32 ![0, 0] (extractStridedSlice S8192x64 ![0, 1024] (Host.dotGeneral dot_S8192x2048_S2048x1088_S8192x1088_1_0_0_1_n_n none x (shapeCast _ w shapeCasts_S1x2048x1088_S2048x1088)) slices_S8192x1088_S8192x64_0_1024) slices_S8192x64_S8192x32_0_0) : (⟨S8192x32, .f32⟩ : BufTy).Contents (Elt Ideal))⟩] concatenates_S8192x512_S8192x512_S8192x32_S8192x32_S8192x32_S8192x32_S8192x1152_d1 : (⟨S8192x1152, .f32⟩ : BufTy).Contents (Elt Ideal))

theorem ref_at (x : FVec Ideal S8192x2048 .f32) (w : FVec Ideal S1x2048x1088 .f32) (r : Fin 8192) (d : Fin 1152) : ref x w (ix2 r d) = entry x w r d := by
  pointwise [ref, entry, src]
  split_ifs <;> exact Finset.sum_congr rfl fun k _ => congrArg (fun e => (x (ix2 r k) : EReal) * w (ix3 0 k e)) (Fin.ext (by first | rfl | omega | (split_ifs <;> omega) | (dsimp only; first | omega | (split_ifs <;> omega))))

end Cert.MlaDownRef

namespace Cert.MlaDownProof

open Cert.MlaDownIdeal Cert.MlaDownIdeal.Gen
open Idealize.ShloMosaic Idealize.ShloMosaic.TcCoe Idealize.SL.Sem
open Idealize.ShloMosaic.Pipeline (Dat)
open Cert.Reads (read2 read3 pick)
open Cert.MlaDownRef (src entry result ref ref_at)

variable (m : (ℓ : Loc nD τ sig) → Buf (Elt Ideal) ℓ)

/-- The weights as the host packs them for the call. -/
def packed (w : FVec Ideal S1x2048x1088 .f32) : FVec Ideal S2048x1152 .bf16 :=
  truncf .bf16 (concatenate S2048x1152 1 [⟨S2048x1088, shapeCast S2048x1088 w shapeCasts_S1x2048x1088_S2048x1088⟩,
    ⟨S2048x64, concatenate S2048x64 1 [⟨S2048x32, extractStridedSlice S2048x32 ![0, 32] (extractStridedSlice S2048x64 ![0, 1024] (shapeCast S2048x1088 w shapeCasts_S1x2048x1088_S2048x1088) slices_S2048x1088_S2048x64_0_1024) slices_S2048x64_S2048x32_0_32⟩,
      ⟨S2048x32, extractStridedSlice S2048x32 ![0, 0] (extractStridedSlice S2048x64 ![0, 1024] (shapeCast S2048x1088 w shapeCasts_S1x2048x1088_S2048x1088) slices_S2048x1088_S2048x64_0_1024) slices_S2048x64_S2048x32_0_0⟩] concatenates_S2048x32_S2048x32_S2048x64_d1⟩] concatenates_S2048x1088_S2048x64_S2048x1152_d1) bitsLt_bf16_f32

theorem packed_at (w : FVec Ideal S1x2048x1088 .f32) (k : Fin 2048) (d : Fin 1152) : packed w (ix2 k d) = w (ix3 0 k (src d)) := by
  pointwise [packed, src]
  split_ifs <;> exact congrArg (fun e => w (ix3 0 k e)) (Fin.ext (by first | rfl | omega | (split_ifs <;> omega) | (dsimp only; first | omega | (split_ifs <;> omega))))

theorem packed_of (c : Dev nD) : V m c main_v6 = packed (m ((c : Thread nD τ).loc main_arg1)) := by entry_read; rfl

theorem idx : ∀ t : Fin cfg0.N, win0_0.index t = ![t.val, 0] ∧ win0_1.index t = ![0, 0]
    ∧ win0_2.index t = ![t.val, 0] :=
  (by decide +kernel : ∀ t : Fin grid0.N, _)

theorem pay_at (a : FVec Ideal S1024x2048 .bf16) (b : FVec Ideal S2048x1152 .bf16) (r : Fin 1024) (d : Fin 1152) :
    (k0_pay1 (F := Ideal) a b (ix2 r d) : EReal) = ∑ k : Fin 2048, (a (ix2 r k) : EReal) * b (ix2 k d) := by
  pointwise [k0_pay1]

theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]; frame_out
  have hy0 : (((View.whole main_v8).slice (win0_2.rect t)).emb y 0 : ℕ) = t.val  * 1024 + y 0 := by blk_simp [idx t]
  have hy1 : (((View.whole main_v8).slice (win0_2.rect t)).emb y 1 : ℕ) = y 1 := by blk_simp [idx t]
  have b1 : (y 1 : ℕ) < 1152 := (y 1).isLt
  refine (congrArg (k0_pay1 _ _) (eq_ix2 y)).trans ((pay_at _ _ _ _).trans ?_)
  show _ = entry (m ((c : Thread nD τ).loc main_arg0)) (m ((c : Thread nD τ).loc main_arg1)) (((View.whole main_v8).slice (win0_2.rect t)).emb y 0) (((View.whole main_v8).slice (win0_2.rect t)).emb y 1)
  unfold entry
  refine Finset.sum_congr rfl fun k _ => congrArg₂ (fun a b : EReal => a * b) ?_ ?_
  · blk_simp [iblk]
    rw [show V m c main_v7 = (truncf .bf16 (m ((c : Thread nD τ).loc main_arg0) : FVec Ideal S8192x2048 .f32) bitsLt_bf16_f32 : FVec Ideal S8192x2048 .bf16) from by entry_read; rfl]
    refine read2 (m ((c : Thread nD τ).loc main_arg0)) _ _ k ?_ ?_
    · rw [hy0]; blk_simp [idx t]
    · blk_simp [idx t]
  · refine Eq.trans ?_ (packed_at (m ((c : Thread nD τ).loc main_arg1)) k _)
    blk_simp [iblk]
    rw [packed_of]
    refine read2 (packed (m ((c : Thread nD τ).loc main_arg1))) _ k _ ?_ ?_
    · blk_simp [idx t]
    · rw [hy1]; blk_simp [idx t]

/-- The call computes the reference's result. -/
theorem algebraic : Cert.algebraic_MlaDownIdeal_MlaDownRefIdeal := by
  pair_intro
  · run_from Cert.MlaDownIdeal.Gen.run_main m g
  · run_from Cert.MlaDownRefIdeal.Value.run m' g'
    refine Eq.trans ?_ (final m c).symm
    obtain ⟨h0, h1⟩ := hagree c
    rw [← h0, ← h1]
    refine Eq.trans (b := ref (m' ((c.tc : Thread _ _).loc Cert.MlaDownRefIdeal.main_arg0)) (m' ((c.tc : Thread _ _).loc Cert.MlaDownRefIdeal.main_arg1))) rfl ?_
    funext y
    exact (congrArg (ref _ _) (eq_ix2 y)).trans (ref_at _ _ _ _)

end Cert.MlaDownProof

end
-- ==== Proof.MlaQueryValue.lean ====
module

public import proofs.«01_k».proof.Proof.Gen.MlaQueryIdeal.Frame
public import proofs.«01_k».proof.Proof.Gen.MlaQueryIdeal.Value
public import proofs.«01_k».proof.Proof.Gen.MlaQueryRefIdeal
public import proofs.«01_k».proof.Proof.Gen.MlaQueryRefIdeal.Run
public import proofs.«01_k».proof.Defs
public import proofs.«01_k».proof.Proof.Reads
public import Idealize.ShloMosaic.Lib.Pipeline.ValueKit
public import Idealize.ShloMosaic.Lib.Claim

/-! The latent mixer's queries from their latent, scaled: every grid point stores its block of the
product, the plain columns first, then the rotary ones, then those with their halves exchanged. -/

@[expose] public section

set_option maxRecDepth 16384

noncomputable section

namespace Cert.MlaQueryRef

open Cert.MlaQueryRefIdeal Cert.MlaQueryRefIdeal.Gen
open Idealize.ShloMosaic Idealize.ShloMosaic.TcCoe Idealize.SL.Sem

/-- The weights' column behind result column `d`. -/
def src (d : Fin 4096) : Fin 3072 := ⟨if (d : ℕ) < 2048 then d / 128 * 192 + d % 128 else if (d : ℕ) < 3072 then (d - 2048) / 64 * 192 + (128 + (d - 2048) % 64)
  else ((d : ℕ) - 3072) / 64 * 192 + (128 + if ((d : ℕ) - 3072) % 64 < 32 then ((d : ℕ) - 3072) % 64 + 32 else ((d : ℕ) - 3072) % 64 - 32), by split_ifs <;> omega⟩

/-- Row `r`'s product with the column behind `d`, scaled. -/
def entry (x : FVec Ideal S8192x512 .bf16) (w : FVec Ideal S1x512x3072 .f32) (r : Fin 8192) (d : Fin 4096) : EReal :=
  (∑ k : Fin 512, (x (ix2 r k) : EReal) * w (ix3 0 k (src d))) * Ideal.ofBits .f32 0x3D93CD3A#32

def result (x : FVec Ideal S8192x512 .bf16) (w : FVec Ideal S1x512x3072 .f32) : FVec Ideal S8192x4096 .bf16 := fun y => entry x w (y 0) (y 1)

/-- The reference's result. -/
def ref (x : FVec Ideal S8192x512 .bf16) (w : FVec Ideal S1x512x3072 .f32) : FVec Ideal S8192x4096 .bf16 :=
  truncf .bf16 ((concatenate S8192x4096 1 [⟨S8192x2048, ((shapeCast _ (extractStridedSlice S8192x16x128 ![0, 0, 0] (mulf (shapeCast _ (Host.dotGeneral dot_S8192x512_S512x3072_S8192x3072_1_0_0_1_n_n none (extf .f32 x bitsLt_bf16_f32) (shapeCast _ w shapeCasts_S1x512x3072_S512x3072)) shapeCasts_S8192x3072_S8192x16x192) (broadcastInDim S8192x16x192 ![] bcast_S_S8192x16x192 (constant S_ .f32 0x3D93CD3A#32))) slices_S8192x16x192_S8192x16x128_0_0_0) shapeCasts_S8192x16x128_S8192x2048) : (⟨S8192x2048, .f32⟩ : BufTy).Contents (Elt Ideal))⟩, ⟨S8192x1024, ((shapeCast _ (extractStridedSlice S8192x16x64 ![0, 0, 128] (mulf (shapeCast _ (Host.dotGeneral dot_S8192x512_S512x3072_S8192x3072_1_0_0_1_n_n none (extf .f32 x bitsLt_bf16_f32) (shapeCast _ w shapeCasts_S1x512x3072_S512x3072)) shapeCasts_S8192x3072_S8192x16x192) (broadcastInDim S8192x16x192 ![] bcast_S_S8192x16x192 (constant S_ .f32 0x3D93CD3A#32))) slices_S8192x16x192_S8192x16x64_0_0_128) shapeCasts_S8192x16x64_S8192x1024) : (⟨S8192x1024, .f32⟩ : BufTy).Contents (Elt Ideal))⟩, ⟨S8192x1024, ((shapeCast _ (concatenate S8192x16x64 2 [⟨S8192x16x32, (extractStridedSlice S8192x16x32 ![0, 0, 32] (extractStridedSlice S8192x16x64 ![0, 0, 128] (mulf (shapeCast _ (Host.dotGeneral dot_S8192x512_S512x3072_S8192x3072_1_0_0_1_n_n none (extf .f32 x bitsLt_bf16_f32) (shapeCast _ w shapeCasts_S1x512x3072_S512x3072)) shapeCasts_S8192x3072_S8192x16x192) (broadcastInDim S8192x16x192 ![] bcast_S_S8192x16x192 (constant S_ .f32 0x3D93CD3A#32))) slices_S8192x16x192_S8192x16x64_0_0_128) slices_S8192x16x64_S8192x16x32_0_0_32)⟩, ⟨S8192x16x32, (extractStridedSlice S8192x16x32 ![0, 0, 0] (extractStridedSlice S8192x16x64 ![0, 0, 128] (mulf (shapeCast _ (Host.dotGeneral dot_S8192x512_S512x3072_S8192x3072_1_0_0_1_n_n none (extf .f32 x bitsLt_bf16_f32) (shapeCast _ w shapeCasts_S1x512x3072_S512x3072)) shapeCasts_S8192x3072_S8192x16x192) (broadcastInDim S8192x16x192 ![] bcast_S_S8192x16x192 (constant S_ .f32 0x3D93CD3A#32))) slices_S8192x16x192_S8192x16x64_0_0_128) slices_S8192x16x64_S8192x16x32_0_0_0)⟩] concatenates_S8192x16x32_S8192x16x32_S8192x16x64_d2) shapeCasts_S8192x16x64_S8192x1024) : (⟨S8192x1024, .f32⟩ : BufTy).Contents (Elt Ideal))⟩] concatenates_S8192x2048_S8192x1024_S8192x1024_S8192x4096_d1 : (⟨S8192x4096, .f32⟩ : BufTy).Contents (Elt Ideal))) bitsLt_bf16_f32

theorem ref_at (x : FVec Ideal S8192x512 .bf16) (w : FVec Ideal S1x512x3072 .f32) (r : Fin 8192) (d : Fin 4096) : ref x w (ix2 r d) = entry x w r d := by
  pointwise [ref, entry, src]
  split_ifs <;> exact congrArg (fun a : EReal => a * Ideal.ofBits .f32 0x3D93CD3A#32)
    (Finset.sum_congr rfl fun k _ => congrArg (fun e => (x (ix2 r k) : EReal) * w (ix3 0 k e)) (Fin.ext (by first | rfl | omega | (split_ifs <;> omega) | (dsimp only; first | omega | (split_ifs <;> omega)))))

end Cert.MlaQueryRef

namespace Cert.MlaQueryProof

open Cert.MlaQueryIdeal Cert.MlaQueryIdeal.Gen
open Idealize.ShloMosaic Idealize.ShloMosaic.TcCoe Idealize.SL.Sem
open Idealize.ShloMosaic.Pipeline (Dat)
open Cert.Reads (read2 read3 pick)
open Cert.MlaQueryRef (src entry result ref ref_at)

variable (m : (ℓ : Loc nD τ sig) → Buf (Elt Ideal) ℓ)

/-- The weights as the host packs them for the call. -/
def packed (w : FVec Ideal S1x512x3072 .f32) : FVec Ideal S512x4096 .bf16 :=
  truncf .bf16 (concatenate S512x4096 1 [⟨S512x2048, shapeCast S512x2048 (extractStridedSlice S512x16x128 ![0, 0, 0] (shapeCast S512x16x192 (shapeCast S512x3072 w shapeCasts_S1x512x3072_S512x3072) shapeCasts_S512x3072_S512x16x192) slices_S512x16x192_S512x16x128_0_0_0) shapeCasts_S512x16x128_S512x2048⟩,
    ⟨S512x1024, shapeCast S512x1024 (extractStridedSlice S512x16x64 ![0, 0, 128] (shapeCast S512x16x192 (shapeCast S512x3072 w shapeCasts_S1x512x3072_S512x3072) shapeCasts_S512x3072_S512x16x192) slices_S512x16x192_S512x16x64_0_0_128) shapeCasts_S512x16x64_S512x1024⟩,
    ⟨S512x1024, shapeCast S512x1024 (concatenate S512x16x64 2 [⟨S512x16x32, extractStridedSlice S512x16x32 ![0, 0, 32] (extractStridedSlice S512x16x64 ![0, 0, 128] (shapeCast S512x16x192 (shapeCast S512x3072 w shapeCasts_S1x512x3072_S512x3072) shapeCasts_S512x3072_S512x16x192) slices_S512x16x192_S512x16x64_0_0_128) slices_S512x16x64_S512x16x32_0_0_32⟩,
      ⟨S512x16x32, extractStridedSlice S512x16x32 ![0, 0, 0] (extractStridedSlice S512x16x64 ![0, 0, 128] (shapeCast S512x16x192 (shapeCast S512x3072 w shapeCasts_S1x512x3072_S512x3072) shapeCasts_S512x3072_S512x16x192) slices_S512x16x192_S512x16x64_0_0_128) slices_S512x16x64_S512x16x32_0_0_0⟩] concatenates_S512x16x32_S512x16x32_S512x16x64_d2) shapeCasts_S512x16x64_S512x1024⟩]
    concatenates_S512x2048_S512x1024_S512x1024_S512x4096_d1) bitsLt_bf16_f32

theorem packed_at (w : FVec Ideal S1x512x3072 .f32) (k : Fin 512) (d : Fin 4096) : packed w (ix2 k d) = w (ix3 0 k (src d)) := by
  pointwise [packed, src]
  split_ifs <;> exact congrArg (fun e => w (ix3 0 k e)) (Fin.ext (by first | rfl | omega | (split_ifs <;> omega) | (dsimp only; first | omega | (split_ifs <;> omega))))

/-- The buffers' contents after the first `n` lines of the host. -/
def upTo (c : Dev nD) (n : ℕ) : Valuation τ sig (Elt Ideal) :=
  StableHlo.after ((hostOps0 (F := Ideal)).take n) (fun b => m (c, b))

theorem after_split (l k : List (HloOp τ sig (Elt Ideal))) (σ : Valuation τ sig (Elt Ideal)) :
    StableHlo.after (l ++ k) σ = StableHlo.after k (StableHlo.after l σ) := by
  induction l generalizing σ with
  | nil => rfl
  | cons op l ih => exact ih _

theorem keep (c : Dev nD) (n : ℕ) (b : Ref sig .tc) (h : ∀ op ∈ (hostOps0 (F := Ideal)).drop n, Proc.devRef .tc b ∉ op.writes) :
    V m c b = upTo m c n b := by
  refine Eq.trans ?_ (StableHlo.after_of_forall_not_mem (b := Proc.devRef .tc b) _ _ h)
  unfold upTo
  rw [← after_split, List.take_append_drop]

theorem step (c : Dev nD) (n : ℕ) (op : HloOp τ sig (Elt Ideal)) (h : (hostOps0 (F := Ideal))[n]? = some op) :
    upTo m c (n + 1) = StableHlo.after [op] (upTo m c n) := by
  unfold upTo
  rw [← after_split, List.take_add_one, h]
  rfl

theorem kept_v4 (c : Dev nD) : V m c main_v4 = upTo m c 10 main_v4 :=
  keep m c 10 main_v4 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem kept_v5 (c : Dev nD) : V m c main_v5 = upTo m c 10 main_v5 :=
  keep m c 10 main_v5 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem kept_v9 (c : Dev nD) : V m c main_v9 = upTo m c 10 main_v9 :=
  keep m c 10 main_v9 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem kept_v10 (c : Dev nD) : V m c main_v10 = upTo m c 11 main_v10 :=
  keep m c 11 main_v10 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem kept_v11 (c : Dev nD) : V m c main_v11 = upTo m c 12 main_v11 :=
  keep m c 12 main_v11 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem packed_of (c : Dev nD) : V m c main_v11 = packed (m ((c : Thread nD τ).loc main_arg1)) := by
  have e4 : V m c main_v4 = shapeCast S512x2048 (extractStridedSlice S512x16x128 ![0, 0, 0] (shapeCast S512x16x192 (shapeCast S512x3072 (m ((c : Thread nD τ).loc main_arg1)) shapeCasts_S1x512x3072_S512x3072) shapeCasts_S512x3072_S512x16x192) slices_S512x16x192_S512x16x128_0_0_0) shapeCasts_S512x16x128_S512x2048 := by
    entry_read; rfl
  have e5 : V m c main_v5 = shapeCast S512x1024 (extractStridedSlice S512x16x64 ![0, 0, 128] (shapeCast S512x16x192 (shapeCast S512x3072 (m ((c : Thread nD τ).loc main_arg1)) shapeCasts_S1x512x3072_S512x3072) shapeCasts_S512x3072_S512x16x192) slices_S512x16x192_S512x16x64_0_0_128) shapeCasts_S512x16x64_S512x1024 := by
    entry_read; rfl
  have e9 : V m c main_v9 = shapeCast S512x1024 (concatenate S512x16x64 2 [⟨S512x16x32, extractStridedSlice S512x16x32 ![0, 0, 32] (extractStridedSlice S512x16x64 ![0, 0, 128] (shapeCast S512x16x192 (shapeCast S512x3072 (m ((c : Thread nD τ).loc main_arg1)) shapeCasts_S1x512x3072_S512x3072) shapeCasts_S512x3072_S512x16x192) slices_S512x16x192_S512x16x64_0_0_128) slices_S512x16x64_S512x16x32_0_0_32⟩,
      ⟨S512x16x32, extractStridedSlice S512x16x32 ![0, 0, 0] (extractStridedSlice S512x16x64 ![0, 0, 128] (shapeCast S512x16x192 (shapeCast S512x3072 (m ((c : Thread nD τ).loc main_arg1)) shapeCasts_S1x512x3072_S512x3072) shapeCasts_S512x3072_S512x16x192) slices_S512x16x192_S512x16x64_0_0_128) slices_S512x16x64_S512x16x32_0_0_0⟩] concatenates_S512x16x32_S512x16x32_S512x16x64_d2) shapeCasts_S512x16x64_S512x1024 := by
    entry_read; rfl
  have e10 : V m c main_v10 = concatenate S512x4096 1 [⟨S512x2048, (V m c main_v4 : (⟨S512x2048, .f32⟩ : BufTy).Contents (Elt Ideal))⟩,
      ⟨S512x1024, (V m c main_v5 : (⟨S512x1024, .f32⟩ : BufTy).Contents (Elt Ideal))⟩, ⟨S512x1024, (V m c main_v9 : (⟨S512x1024, .f32⟩ : BufTy).Contents (Elt Ideal))⟩]
      concatenates_S512x2048_S512x1024_S512x1024_S512x4096_d1 := by
    rw [kept_v4, kept_v5, kept_v9, kept_v10, step m c 10 _ rfl]
    generalize upTo m c 10 = σ
    rfl
  have e11 : V m c main_v11 = (truncf .bf16 (V m c main_v10 : FVec Ideal S512x4096 .f32) bitsLt_bf16_f32 : FVec Ideal S512x4096 .bf16) := by
    rw [kept_v10, kept_v11, step m c 11 _ rfl]
    generalize upTo m c 11 = σ
    rfl
  rw [e11, e10, e4, e5, e9]
  rfl

theorem idx : ∀ t : Fin cfg0.N, win0_0.index t = ![t.val / 8, 0] ∧ win0_1.index t = ![0, t.val % 8]
    ∧ win0_2.index t = ![t.val / 8, t.val % 8] :=
  (by decide +kernel : ∀ t : Fin grid0.N, _)

theorem pay_at (i : grid0.Coords) (a : FVec Ideal S1024x512 .bf16) (b : FVec Ideal S512x512 .bf16) (r : Fin 1024) (d : Fin 512) :
    k0_pay1 i a b (ix2 r d) = (∑ k : Fin 512, (a (ix2 r k) : EReal) * b (ix2 k d)) * Ideal.ofBits .f32 0x3D93CD3A#32 := by
  pointwise [k0_pay1]
  refine congrArg _ ((pick _ _ 8 (lt_trans (i 1).isLt (by decide)) (by decide)).trans (if_pos ?_))
  exact (i 1).isLt

theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]; frame_out
  have hy0 : (((View.whole main_v12).slice (win0_2.rect t)).emb y 0 : ℕ) = t.val / 8 * 1024 + y 0 := by blk_simp [idx t]
  have hy1 : (((View.whole main_v12).slice (win0_2.rect t)).emb y 1 : ℕ) = t.val % 8 * 512 + y 1 := by blk_simp [idx t]
  have b1 : (y 1 : ℕ) < 512 := (y 1).isLt
  refine (congrArg (k0_pay1 _ _ _) (eq_ix2 y)).trans ((pay_at _ _ _ _ _).trans ?_)
  show _ = entry (m ((c : Thread nD τ).loc main_arg0)) (m ((c : Thread nD τ).loc main_arg1)) (((View.whole main_v12).slice (win0_2.rect t)).emb y 0) (((View.whole main_v12).slice (win0_2.rect t)).emb y 1)
  unfold entry
  refine congrArg (fun a : EReal => a * Ideal.ofBits .f32 0x3D93CD3A#32) (Finset.sum_congr rfl fun k _ => congrArg₂ (fun a b : EReal => a * b) ?_ ?_)
  · blk_simp [iblk]
    rw [V_main_arg0]
    refine read2 (m ((c : Thread nD τ).loc main_arg0)) _ _ k ?_ ?_
    · rw [hy0]; blk_simp [idx t]
    · blk_simp [idx t]
  · refine Eq.trans ?_ (packed_at (m ((c : Thread nD τ).loc main_arg1)) k _)
    blk_simp [iblk]
    rw [packed_of]
    refine read2 (packed (m ((c : Thread nD τ).loc main_arg1))) _ k _ ?_ ?_
    · blk_simp [idx t]
    · rw [hy1]; blk_simp [idx t]

/-- The call computes the reference's result. -/
theorem algebraic : Cert.algebraic_MlaQueryIdeal_MlaQueryRefIdeal := by
  pair_intro
  · run_from Cert.MlaQueryIdeal.Gen.run_main m g
  · run_from Cert.MlaQueryRefIdeal.Value.run m' g'
    refine Eq.trans ?_ (final m c).symm
    obtain ⟨h0, h1⟩ := hagree c
    rw [← h0, ← h1]
    refine Eq.trans (b := ref (m' ((c.tc : Thread _ _).loc Cert.MlaQueryRefIdeal.main_arg0)) (m' ((c.tc : Thread _ _).loc Cert.MlaQueryRefIdeal.main_arg1))) rfl ?_
    funext y
    exact (congrArg (ref _ _) (eq_ix2 y)).trans (ref_at _ _ _ _)

end Cert.MlaQueryProof

end
-- ==== Proof.MlaPairsValue.lean ====
module

public import proofs.«01_k».proof.Proof.Gen.MlaPairsIdeal.Frame
public import proofs.«01_k».proof.Proof.Gen.MlaPairsIdeal.Value
public import proofs.«01_k».proof.Proof.Gen.MlaPairsRefIdeal
public import proofs.«01_k».proof.Proof.Gen.MlaPairsRefIdeal.Run
public import proofs.«01_k».proof.Defs
public import proofs.«01_k».proof.Proof.Reads
public import Idealize.ShloMosaic.Lib.Pipeline.ValueKit
public import Idealize.ShloMosaic.Lib.Claim

/-! The latent mixer's keys and values from their latent: every grid point stores its block of the
product with the weights, the plain keys' columns first, then the values'. -/

@[expose] public section

set_option maxRecDepth 16384

noncomputable section

namespace Cert.MlaPairsRef

open Cert.MlaPairsRefIdeal Cert.MlaPairsRefIdeal.Gen
open Idealize.ShloMosaic Idealize.ShloMosaic.TcCoe Idealize.SL.Sem

/-- The weights' column behind result column `d`. -/
def src (d : Fin 4096) : Fin 4096 := ⟨if (d : ℕ) < 2048 then d / 128 * 256 + d % 128 else (d - 2048) / 128 * 256 + (128 + (d - 2048) % 128), by split <;> omega⟩

/-- Row `r`'s product with the column behind `d`. -/
def entry (x : FVec Ideal S8192x512 .bf16) (w : FVec Ideal S1x512x4096 .f32) (r : Fin 8192) (d : Fin 4096) : EReal :=
  (∑ k : Fin 512, (x (ix2 r k) : EReal) * w (ix3 0 k (src d)))

def result (x : FVec Ideal S8192x512 .bf16) (w : FVec Ideal S1x512x4096 .f32) : FVec Ideal S8192x4096 .bf16 := fun y => entry x w (y 0) (y 1)

/-- The reference's result. -/
def ref (x : FVec Ideal S8192x512 .bf16) (w : FVec Ideal S1x512x4096 .f32) : FVec Ideal S8192x4096 .bf16 :=
  truncf .bf16 (concatenate S8192x4096 1 [⟨S8192x2048, (shapeCast _ (extractStridedSlice S8192x16x128 ![0, 0, 0] (shapeCast _ (Host.dotGeneral dot_S8192x512_S512x4096_S8192x4096_1_0_0_1_n_n none (extf .f32 x bitsLt_bf16_f32) (shapeCast _ w shapeCasts_S1x512x4096_S512x4096)) shapeCasts_S8192x4096_S8192x16x256) slices_S8192x16x256_S8192x16x128_0_0_0) shapeCasts_S8192x16x128_S8192x2048)⟩, ⟨S8192x2048, (shapeCast _ (extractStridedSlice S8192x16x128 ![0, 0, 128] (shapeCast _ (Host.dotGeneral dot_S8192x512_S512x4096_S8192x4096_1_0_0_1_n_n none (extf .f32 x bitsLt_bf16_f32) (shapeCast _ w shapeCasts_S1x512x4096_S512x4096)) shapeCasts_S8192x4096_S8192x16x256) slices_S8192x16x256_S8192x16x128_0_0_128) shapeCasts_S8192x16x128_S8192x2048)⟩] concatenates_S8192x2048_S8192x2048_S8192x4096_d1) bitsLt_bf16_f32

theorem ref_at (x : FVec Ideal S8192x512 .bf16) (w : FVec Ideal S1x512x4096 .f32) (r : Fin 8192) (d : Fin 4096) : ref x w (ix2 r d) = entry x w r d := by
  pointwise [ref, entry, src]
  split_ifs <;> exact Finset.sum_congr rfl fun k _ => congrArg (fun e => (x (ix2 r k) : EReal) * w (ix3 0 k e)) (Fin.ext (by first | rfl | omega | (split_ifs <;> omega) | (dsimp only; first | omega | (split_ifs <;> omega))))

end Cert.MlaPairsRef

namespace Cert.MlaPairsProof

open Cert.MlaPairsIdeal Cert.MlaPairsIdeal.Gen
open Idealize.ShloMosaic Idealize.ShloMosaic.TcCoe Idealize.SL.Sem
open Idealize.ShloMosaic.Pipeline (Dat)
open Cert.Reads (read2 read3 pick)
open Cert.MlaPairsRef (src entry result ref ref_at)

variable (m : (ℓ : Loc nD τ sig) → Buf (Elt Ideal) ℓ)

/-- The weights as the host packs them for the call. -/
def packed (w : FVec Ideal S1x512x4096 .f32) : FVec Ideal S512x4096 .bf16 :=
  truncf .bf16 (concatenate S512x4096 1 [⟨S512x2048, shapeCast S512x2048 (extractStridedSlice S512x16x128 ![0, 0, 0] (shapeCast S512x16x256 (shapeCast S512x4096 w shapeCasts_S1x512x4096_S512x4096) shapeCasts_S512x4096_S512x16x256) slices_S512x16x256_S512x16x128_0_0_0) shapeCasts_S512x16x128_S512x2048⟩,
    ⟨S512x2048, shapeCast S512x2048 (extractStridedSlice S512x16x128 ![0, 0, 128] (shapeCast S512x16x256 (shapeCast S512x4096 w shapeCasts_S1x512x4096_S512x4096) shapeCasts_S512x4096_S512x16x256) slices_S512x16x256_S512x16x128_0_0_128) shapeCasts_S512x16x128_S512x2048⟩] concatenates_S512x2048_S512x2048_S512x4096_d1) bitsLt_bf16_f32

theorem packed_at (w : FVec Ideal S1x512x4096 .f32) (k : Fin 512) (d : Fin 4096) : packed w (ix2 k d) = w (ix3 0 k (src d)) := by
  pointwise [packed, src]
  split_ifs <;> exact congrArg (fun e => w (ix3 0 k e)) (Fin.ext (by first | rfl | omega | (split_ifs <;> omega) | (dsimp only; first | omega | (split_ifs <;> omega))))

theorem packed_of (c : Dev nD) : V m c main_v7 = packed (m ((c : Thread nD τ).loc main_arg1)) := by entry_read; rfl

theorem idx : ∀ t : Fin cfg0.N, win0_0.index t = ![t.val / 8, 0] ∧ win0_1.index t = ![0, t.val % 8]
    ∧ win0_2.index t = ![t.val / 8, t.val % 8] :=
  (by decide +kernel : ∀ t : Fin grid0.N, _)

theorem pay_at (a : FVec Ideal S1024x512 .bf16) (b : FVec Ideal S512x512 .bf16) (r : Fin 1024) (d : Fin 512) :
    (k0_pay1 (F := Ideal) a b (ix2 r d) : EReal) = ∑ k : Fin 512, (a (ix2 r k) : EReal) * b (ix2 k d) := by
  pointwise [k0_pay1]

theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]; frame_out
  have hy0 : (((View.whole main_v8).slice (win0_2.rect t)).emb y 0 : ℕ) = t.val / 8 * 1024 + y 0 := by blk_simp [idx t]
  have hy1 : (((View.whole main_v8).slice (win0_2.rect t)).emb y 1 : ℕ) = t.val % 8 * 512 + y 1 := by blk_simp [idx t]
  have b1 : (y 1 : ℕ) < 512 := (y 1).isLt
  refine (congrArg (k0_pay1 _ _) (eq_ix2 y)).trans ((pay_at _ _ _ _).trans ?_)
  show _ = entry (m ((c : Thread nD τ).loc main_arg0)) (m ((c : Thread nD τ).loc main_arg1)) (((View.whole main_v8).slice (win0_2.rect t)).emb y 0) (((View.whole main_v8).slice (win0_2.rect t)).emb y 1)
  unfold entry
  refine Finset.sum_congr rfl fun k _ => congrArg₂ (fun a b : EReal => a * b) ?_ ?_
  · blk_simp [iblk]
    rw [V_main_arg0]
    refine read2 (m ((c : Thread nD τ).loc main_arg0)) _ _ k ?_ ?_
    · rw [hy0]; blk_simp [idx t]
    · blk_simp [idx t]
  · refine Eq.trans ?_ (packed_at (m ((c : Thread nD τ).loc main_arg1)) k _)
    blk_simp [iblk]
    rw [packed_of]
    refine read2 (packed (m ((c : Thread nD τ).loc main_arg1))) _ k _ ?_ ?_
    · blk_simp [idx t]
    · rw [hy1]; blk_simp [idx t]

/-- The call computes the reference's result. -/
theorem algebraic : Cert.algebraic_MlaPairsIdeal_MlaPairsRefIdeal := by
  pair_intro
  · run_from Cert.MlaPairsIdeal.Gen.run_main m g
  · run_from Cert.MlaPairsRefIdeal.Value.run m' g'
    refine Eq.trans ?_ (final m c).symm
    obtain ⟨h0, h1⟩ := hagree c
    rw [← h0, ← h1]
    refine Eq.trans (b := ref (m' ((c.tc : Thread _ _).loc Cert.MlaPairsRefIdeal.main_arg0)) (m' ((c.tc : Thread _ _).loc Cert.MlaPairsRefIdeal.main_arg1))) rfl ?_
    funext y
    exact (congrArg (ref _ _) (eq_ix2 y)).trans (ref_at _ _ _ _)

end Cert.MlaPairsProof

end
-- ==== Proof.MlaPrepRef.lean ====
module

public import proofs.«01_k».proof.Proof.Gen.MlaPrepRefIdeal
public import Idealize.ShloMosaic.Lib.Pipeline.ValueKit

/-! The latents' root-mean-square norms and the rotation of the shared key, entry by entry, and the
reference read as them. -/

@[expose] public section

set_option maxRecDepth 16384

noncomputable section

namespace Cert.MlaPrepRef

open Cert.MlaPrepRefIdeal Cert.MlaPrepRefIdeal.Gen
open Idealize.ShloMosaic Idealize.ShloMosaic.TcCoe Idealize.SL.Sem

/-- Entry `d` of a row of 512 numbers over its root mean square, scaled by `g`. -/
def rms (x g : Fin 512 → EReal) (d : Fin 512) : EReal :=
  x d * Ideal.rsqrt (Ideal.div (∑ e, x e * x e) (Ideal.ofBits .f32 0x44000000#32) + Ideal.ofBits .f32 0x358637BD#32) * g d

/-- The rotation angles: position times inverse frequency. -/
def angs : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- Entry `u` of a key of 64 numbers at position `p`, its two halves rotated into each other. -/
def turn (A : FVec Ideal S2048x32 .f32) (k : Fin 64 → EReal) (p : Fin 2048) (u : Fin 64) : EReal :=
  if h : (u : ℕ) < 32 then k u * Ideal.cos (A (ix2 p ⟨u, h⟩)) - k ⟨u + 32, by omega⟩ * Ideal.sin (A (ix2 p ⟨u, h⟩))
  else k ⟨u - 32, by omega⟩ * Ideal.sin (A (ix2 p ⟨u - 32, by omega⟩)) + k u * Ideal.cos (A (ix2 p ⟨u - 32, by omega⟩))

/-- The key's columns of a row. -/
def key (c : FVec Ideal S8192x1088 .f32) (r : Fin 8192) (u : Fin 64) : EReal := c (ix2 r ⟨1024 + u, by omega⟩)

/-- A row's position in its sequence. -/
def pos (r : Fin 8192) : Fin 2048 := ⟨r % 2048, by omega⟩

/-- Lane `l` of the shared key beside zeros: in the lower lanes at `s = 0`, in the upper ones at `s = 1`. -/
def lane (c : FVec Ideal S8192x1088 .f32) (s : Fin 2) (r : Fin 8192) (l : Fin 128) : EReal :=
  if (s : ℕ) * 64 ≤ l ∧ (l : ℕ) < s * 64 + 64 then turn angs (key c r) (pos r) ⟨l % 64, by omega⟩ else 0

def queries (c : FVec Ideal S8192x1088 .f32) (g : FVec Ideal S1x512 .f32) : FVec Ideal S8192x512 .bf16 :=
  fun y => rms (fun e => c (ix2 (y 0 : Fin 8192) ⟨e, by omega⟩)) (fun e => g (ix2 0 e)) (y 1)

def pairs (c : FVec Ideal S8192x1088 .f32) (g : FVec Ideal S1x512 .f32) : FVec Ideal S8192x512 .bf16 :=
  fun y => rms (fun e => c (ix2 (y 0 : Fin 8192) ⟨512 + e, by omega⟩)) (fun e => g (ix2 0 e)) (y 1)

def keys (c : FVec Ideal S8192x1088 .f32) : FVec Ideal S2x8192x128 .bf16 := fun y => lane c (y 0) (y 1) (y 2)

/-- The reference's three results. -/
def refQueries (c : FVec Ideal S8192x1088 .f32) (g : FVec Ideal S1x512 .f32) : FVec Ideal S8192x512 .bf16 :=
  truncf .bf16 (mulf (mulf (extractStridedSlice S8192x512 ![0, 0] c slices_S8192x1088_S8192x512_0_0) (broadcastInDim S8192x512 ![0, 1] bcast_S8192x1_S8192x512_0_1 (Host.rsqrt (addf (Host.divf (broadcastInDim S8192x1 ![0] bcast_S8192_S8192x1_0 (Host.reduceAdd (mulf (extractStridedSlice S8192x512 ![0, 0] c slices_S8192x1088_S8192x512_0_0) (extractStridedSlice S8192x512 ![0, 0] c slices_S8192x1088_S8192x512_0_0)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 (shapeCast _ g shapeCasts_S1x512_S512)))) bitsLt_bf16_f32

def refPairs (c : FVec Ideal S8192x1088 .f32) (g : FVec Ideal S1x512 .f32) : FVec Ideal S8192x512 .bf16 :=
  truncf .bf16 (mulf (mulf (extractStridedSlice S8192x512 ![0, 512] c slices_S8192x1088_S8192x512_0_512) (broadcastInDim S8192x512 ![0, 1] bcast_S8192x1_S8192x512_0_1 (Host.rsqrt (addf (Host.divf (broadcastInDim S8192x1 ![0] bcast_S8192_S8192x1_0 (Host.reduceAdd (mulf (extractStridedSlice S8192x512 ![0, 512] c slices_S8192x1088_S8192x512_0_512) (extractStridedSlice S8192x512 ![0, 512] c slices_S8192x1088_S8192x512_0_512)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 (shapeCast _ g shapeCasts_S1x512_S512)))) bitsLt_bf16_f32

/-- The reference's rotated key. -/
def turned (A : FVec Ideal S2048x32 .f32) (c : FVec Ideal S8192x1088 .f32) : FVec Ideal S8192x64 .f32 :=
  shapeCast _ (concatenate S4x2048x64 2 [⟨S4x2048x32, (subf (mulf (extractStridedSlice S4x2048x32 ![0, 0, 0] (shapeCast _ (extractStridedSlice S8192x64 ![0, 1024] c slices_S8192x1088_S8192x64_0_1024) shapeCasts_S8192x64_S4x2048x64) slices_S4x2048x64_S4x2048x32_0_0_0) (broadcastInDim S4x2048x32 ![0, 1, 2] bcast_S1x2048x32_S4x2048x32_0_1_2 (broadcastInDim S1x2048x32 ![1, 2] bcast_S2048x32_S1x2048x32_1_2 (Host.cos A)))) (mulf (extractStridedSlice S4x2048x32 ![0, 0, 32] (shapeCast _ (extractStridedSlice S8192x64 ![0, 1024] c slices_S8192x1088_S8192x64_0_1024) shapeCasts_S8192x64_S4x2048x64) slices_S4x2048x64_S4x2048x32_0_0_32) (broadcastInDim S4x2048x32 ![0, 1, 2] bcast_S1x2048x32_S4x2048x32_0_1_2 (broadcastInDim S1x2048x32 ![1, 2] bcast_S2048x32_S1x2048x32_1_2 (Host.sin A)))))⟩, ⟨S4x2048x32, (addf (mulf (extractStridedSlice S4x2048x32 ![0, 0, 0] (shapeCast _ (extractStridedSlice S8192x64 ![0, 1024] c slices_S8192x1088_S8192x64_0_1024) shapeCasts_S8192x64_S4x2048x64) slices_S4x2048x64_S4x2048x32_0_0_0) (broadcastInDim S4x2048x32 ![0, 1, 2] bcast_S1x2048x32_S4x2048x32_0_1_2 (broadcastInDim S1x2048x32 ![1, 2] bcast_S2048x32_S1x2048x32_1_2 (Host.sin A)))) (mulf (extractStridedSlice S4x2048x32 ![0, 0, 32] (shapeCast _ (extractStridedSlice S8192x64 ![0, 1024] c slices_S8192x1088_S8192x64_0_1024) shapeCasts_S8192x64_S4x2048x64) slices_S4x2048x64_S4x2048x32_0_0_32) (broadcastInDim S4x2048x32 ![0, 1, 2] bcast_S1x2048x32_S4x2048x32_0_1_2 (broadcastInDim S1x2048x32 ![1, 2] bcast_S2048x32_S1x2048x32_1_2 (Host.cos A)))))⟩] concatenates_S4x2048x32_S4x2048x32_S4x2048x64_d2) shapeCasts_S4x2048x64_S8192x64

def refKeys (c : FVec Ideal S8192x1088 .f32) : FVec Ideal S2x8192x128 .bf16 :=
  truncf .bf16 (concatenate S2x8192x128 0 [⟨S1x8192x128, (broadcastInDim S1x8192x128 ![1, 2] bcast_S8192x128_S1x8192x128_1_2 (concatenate S8192x128 1 [⟨S8192x64, (turned angs c)⟩, ⟨S8192x64, (broadcastInDim S8192x64 ![] bcast_S_S8192x64 (constant S_ .f32 0x00000000#32))⟩] concatenates_S8192x64_S8192x64_S8192x128_d1))⟩, ⟨S1x8192x128, (broadcastInDim S1x8192x128 ![1, 2] bcast_S8192x128_S1x8192x128_1_2 (concatenate S8192x128 1 [⟨S8192x64, (broadcastInDim S8192x64 ![] bcast_S_S8192x64 (constant S_ .f32 0x00000000#32))⟩, ⟨S8192x64, (turned angs c)⟩] concatenates_S8192x64_S8192x64_S8192x128_d1))⟩] concatenates_S1x8192x128_S1x8192x128_S2x8192x128_d0) bitsLt_bf16_f32

theorem queries_at (c : FVec Ideal S8192x1088 .f32) (g : FVec Ideal S1x512 .f32) (r : Fin 8192) (d : Fin 512) :
    refQueries c g (ix2 r d) = queries c g (ix2 r d) := by
  pointwise [refQueries, queries, rms]

theorem pairs_at (c : FVec Ideal S8192x1088 .f32) (g : FVec Ideal S1x512 .f32) (r : Fin 8192) (d : Fin 512) :
    refPairs c g (ix2 r d) = pairs c g (ix2 r d) := by
  pointwise [refPairs, pairs, rms]

theorem turned_at (A : FVec Ideal S2048x32 .f32) (c : FVec Ideal S8192x1088 .f32) (r : Fin 8192) (u : Fin 64) : turned A c (ix2 r u) = turn A (key c r) (pos r) u := by
  pointwise [turned, turn, key]
  unfold pos
  by_cases h : (u : ℕ) < 32
  · refine (dif_pos h).trans (Eq.trans ?_ (dif_pos h).symm)
    exact congrArg (fun j : Fin 1088 => c (ix2 r ⟨1024 + u, by omega⟩) * Ideal.cos (A (ix2 ⟨(r : ℕ) % 2048, by omega⟩ ⟨u, h⟩)) - c (ix2 r j) * Ideal.sin (A (ix2 ⟨(r : ℕ) % 2048, by omega⟩ ⟨u, h⟩)))
      (Fin.ext (by dsimp only; omega))
  · refine (dif_neg h).trans (Eq.trans ?_ (dif_neg h).symm)
    exact congrArg (fun j : Fin 1088 => c (ix2 r ⟨1024 + (u - 32), by omega⟩) * Ideal.sin (A (ix2 ⟨(r : ℕ) % 2048, by omega⟩ ⟨u - 32, by omega⟩)) + c (ix2 r j) * Ideal.cos (A (ix2 ⟨(r : ℕ) % 2048, by omega⟩ ⟨u - 32, by omega⟩)))
      (Fin.ext (by dsimp only; omega))

theorem keys_at (c : FVec Ideal S8192x1088 .f32) (s : Fin 2) (r : Fin 8192) (l : Fin 128) : refKeys c (ix3 s r l) = keys c (ix3 s r l) := by
  pointwise [refKeys, keys, lane]
  by_cases hs : (s : ℕ) < 1
  · have s0 : (s : ℕ) = 0 := by omega
    by_cases hl : (l : ℕ) < 64
    · exact (dif_pos hs).trans ((dif_pos hl).trans ((turned_at angs c r ⟨l, hl⟩).trans ((congrArg (turn angs (key c r) (pos r)) (Fin.ext (by dsimp only; omega))).trans (if_pos (by omega)).symm)))
    · exact (dif_pos hs).trans ((dif_neg hl).trans (if_neg (by omega)).symm)
  · have s1 : (s : ℕ) = 1 := by omega
    by_cases hl : (l : ℕ) < 64
    · exact (dif_neg hs).trans ((dif_pos hl).trans (if_neg (by omega)).symm)
    · exact (dif_neg hs).trans ((dif_neg hl).trans ((turned_at angs c r ⟨l - 64, by omega⟩).trans ((congrArg (turn angs (key c r) (pos r)) (Fin.ext (by dsimp only; omega))).trans (if_pos (by omega)).symm)))

end Cert.MlaPrepRef

end
-- ==== Proof.MlaPrepValue.lean ====
module

public import proofs.«01_k».proof.Proof.Gen.MlaPrepIdeal.Frame
public import proofs.«01_k».proof.Proof.Gen.MlaPrepIdeal.Value
public import proofs.«01_k».proof.Proof.Gen.MlaPrepRefIdeal.Run
public import proofs.«01_k».proof.Proof.MlaPrepRef
public import proofs.«01_k».proof.Defs
public import proofs.«01_k».proof.Proof.Reads
public import Idealize.ShloMosaic.Lib.Pipeline.ValueKit
public import Idealize.ShloMosaic.Lib.Claim

/-! The latents' norms and the shared key's rotation by the kernel: every grid point stores its block of
512 rows of the three results, the rotated key once in the lower and once in the upper lanes. -/

@[expose] public section

set_option maxRecDepth 16384

noncomputable section

namespace Cert.MlaPrepProof

open Cert.MlaPrepIdeal Cert.MlaPrepIdeal.Gen
open Idealize.ShloMosaic Idealize.ShloMosaic.TcCoe Idealize.SL.Sem
open Idealize.ShloMosaic.Pipeline (Dat)
open Cert.Reads (read2 read3 pick)
open Cert.MlaPrepRef (rms angs turn key pos lane queries pairs keys refQueries refPairs refKeys queries_at pairs_at keys_at)

variable (m : (ℓ : Loc nD τ sig) → Buf (Elt Ideal) ℓ)

/-- The array with the key's columns appended, their halves exchanged. -/
def wide (c : FVec Ideal S8192x1088 .f32) : FVec Ideal S8192x1152 .f32 :=
  concatenate S8192x1152 1 [⟨S8192x1088, c⟩, ⟨S8192x64, concatenate S8192x64 1 [⟨S8192x32, extractStridedSlice S8192x32 ![0, 32] (extractStridedSlice S8192x64 ![0, 1024] c slices_S8192x1088_S8192x64_0_1024) slices_S8192x64_S8192x32_0_32⟩,
    ⟨S8192x32, extractStridedSlice S8192x32 ![0, 0] (extractStridedSlice S8192x64 ![0, 1024] c slices_S8192x1088_S8192x64_0_1024) slices_S8192x64_S8192x32_0_0⟩] concatenates_S8192x32_S8192x32_S8192x64_d1⟩] concatenates_S8192x1088_S8192x64_S8192x1152_d1

/-- The table of the angles' cosines, twice, and their sines, negated first. -/
def table (A : FVec Ideal S2048x32 .f32) : FVec Ideal S2048x128 .f32 :=
  concatenate S2048x128 1 [⟨S2048x32, (Host.cos A : (⟨S2048x32, .f32⟩ : BufTy).Contents (Elt Ideal))⟩, ⟨S2048x32, (Host.cos A : (⟨S2048x32, .f32⟩ : BufTy).Contents (Elt Ideal))⟩,
    ⟨S2048x32, (Host.negf (Host.sin A : FVec Ideal S2048x32 .f32) : (⟨S2048x32, .f32⟩ : BufTy).Contents (Elt Ideal))⟩, ⟨S2048x32, (Host.sin A : (⟨S2048x32, .f32⟩ : BufTy).Contents (Elt Ideal))⟩]
    concatenates_S2048x32_S2048x32_S2048x32_S2048x32_S2048x128_d1

theorem wide_lo (c : FVec Ideal S8192x1088 .f32) (r : Fin 8192) (d : Fin 1088) : wide c (ix2 r ⟨d, by omega⟩) = c (ix2 r d) := by
  pointwise [wide]

theorem wide_hi (c : FVec Ideal S8192x1088 .f32) (r : Fin 8192) (u : Fin 64) :
    wide c (ix2 r ⟨1088 + u, by omega⟩) = key c r ⟨if (u : ℕ) < 32 then u + 32 else u - 32, by split_ifs <;> omega⟩ := by
  pointwise [wide, key]
  by_cases h : (u : ℕ) < 32
  · refine (dif_pos h).trans (congrArg (fun j : Fin 1088 => c (ix2 r j)) (Fin.ext ?_))
    dsimp only; rw [if_pos h]; omega
  · refine (dif_neg h).trans (congrArg (fun j : Fin 1088 => c (ix2 r j)) (Fin.ext ?_))
    dsimp only; rw [if_neg h]

theorem table_at (A : FVec Ideal S2048x32 .f32) (p : Fin 2048) (l : Fin 128) :
    table A (ix2 p l) = if (l : ℕ) < 64 then Ideal.cos (A (ix2 p ⟨(l : ℕ) % 32, by omega⟩)) else if (l : ℕ) < 96 then - Ideal.sin (A (ix2 p ⟨(l : ℕ) % 32, by omega⟩)) else Ideal.sin (A (ix2 p ⟨(l : ℕ) % 32, by omega⟩)) := by
  pointwise [table]
  split_ifs
  all_goals first
    | omega
    | (simp only [show (l : ℕ) % 32 = l by omega]; exact (if_pos (by omega)).symm)
    | (simp only [show (l : ℕ) % 32 = l - 32 by omega]; exact (if_pos (by omega)).symm)
    | (simp only [Nat.sub_sub, show (l : ℕ) % 32 = l - (32 + 32) by omega]; exact ((if_neg (by omega)).trans (if_pos (by omega))).symm)
    | (simp only [Nat.sub_sub, show (l : ℕ) % 32 = l - (32 + 32 + 32) by omega]; exact ((if_neg (by omega)).trans (if_neg (by omega))).symm)

theorem core (c : FVec Ideal S8192x1088 .f32) (A : FVec Ideal S2048x32 .f32) (r : Fin 8192) (p : Fin 2048) (u : Fin 64) :
    wide c (ix2 r ⟨1024 + u, by omega⟩) * table A (ix2 p ⟨u, by omega⟩) + wide c (ix2 r ⟨1088 + u, by omega⟩) * table A (ix2 p ⟨64 + u, by omega⟩)
      = turn A (key c r) p u := by
  have e : wide c (ix2 r ⟨1024 + u, by omega⟩) = key c r u := wide_lo c r ⟨1024 + u, by omega⟩
  have eu : (64 + (u : ℕ)) % 32 = u % 32 := by omega
  rw [e, wide_hi, table_at, table_at, if_pos (show ((⟨u, by omega⟩ : Fin 128) : ℕ) < 64 from u.isLt), if_neg (show ¬ ((⟨64 + u, by omega⟩ : Fin 128) : ℕ) < 64 by dsimp only; omega)]
  unfold turn
  by_cases h : (u : ℕ) < 32
  · have e1 : (⟨(u : ℕ) % 32, by omega⟩ : Fin 32) = ⟨u, h⟩ := Fin.ext (by dsimp only; omega)
    have e2 : (⟨(64 + (u : ℕ)) % 32, by omega⟩ : Fin 32) = ⟨u, h⟩ := Fin.ext (by dsimp only; omega)
    have e3 : (⟨if (u : ℕ) < 32 then u + 32 else u - 32, by split_ifs <;> omega⟩ : Fin 64) = ⟨u + 32, by omega⟩ := Fin.ext (if_pos h)
    rw [if_pos (show ((⟨64 + u, by omega⟩ : Fin 128) : ℕ) < 96 by dsimp only; omega), dif_pos h]
    dsimp only
    rw [e1, e2, e3, mul_neg, sub_eq_add_neg]
  · have e1 : (⟨(u : ℕ) % 32, by omega⟩ : Fin 32) = ⟨u - 32, by omega⟩ := Fin.ext (by dsimp only; omega)
    have e2 : (⟨(64 + (u : ℕ)) % 32, by omega⟩ : Fin 32) = ⟨u - 32, by omega⟩ := Fin.ext (by dsimp only; omega)
    have e3 : (⟨if (u : ℕ) < 32 then u + 32 else u - 32, by split_ifs <;> omega⟩ : Fin 64) = ⟨u - 32, by omega⟩ := Fin.ext (if_neg h)
    rw [if_neg (show ¬ ((⟨64 + u, by omega⟩ : Fin 128) : ℕ) < 96 by dsimp only; omega), dif_neg h]
    dsimp only
    rw [e1, e2, e3, add_comm]

theorem idx : ∀ t : Fin cfg0.N, win0_0.index t = ![t.val, 0] ∧ win0_1.index t = ![0, 0] ∧ win0_2.index t = ![0, 0]
    ∧ win0_3.index t = ![t.val % 4, 0] ∧ win0_4.index t = ![t.val, 0] ∧ win0_5.index t = ![t.val, 0] ∧ win0_6.index t = ![0, t.val, 0] :=
  (by decide +kernel : ∀ t : Fin grid0.N, _)

theorem pay5_at (a : Vec Ideal S512x1152 .f32) (b : Vec Ideal S1x512 .f32) (r d : Fin 512) :
    (k0_pay5 (F := Ideal) a b (ix2 r d) : EReal) = rms (fun e => a (ix2 r ⟨e, by omega⟩)) (fun e => b (ix2 0 e)) d := by
  pointwise [k0_pay5, k0_pay4, rms]

theorem pay6_at (a : Vec Ideal S512x1152 .f32) (b : Vec Ideal S1x512 .f32) (r d : Fin 512) :
    (k0_pay6 (F := Ideal) a b (ix2 r d) : EReal) = rms (fun e => a (ix2 r ⟨512 + e, by omega⟩)) (fun e => b (ix2 0 e)) d := by
  pointwise [k0_pay6, k0_pay4, rms]

theorem low (s : EReal) (n : ℕ) (hn : n < 128) :
    Scalar.select (IntOp.cmpi CmpIPredicate.slt (BitVec.ofNat 32 n) 64#32) s 0 = if n < 64 then s else 0 := by
  have e : IntOp.cmpi CmpIPredicate.slt (BitVec.ofNat 32 n) 64#32 = BitVec.ofBool (decide (n < 64)) := WordCmp.cmpi_slt_ofNat (by omega) (by omega)
  rw [e]
  by_cases h : n < 64 <;> simp [Scalar.select, h]

theorem high (s : EReal) (n : ℕ) (hn : n < 128) :
    Scalar.select (IntOp.cmpi CmpIPredicate.sge (BitVec.ofNat 32 n) 64#32) s 0 = if 64 ≤ n then s else 0 := by
  have e : IntOp.cmpi CmpIPredicate.sge (BitVec.ofNat 32 n) 64#32 = BitVec.ofBool (decide (64 ≤ n)) := WordCmp.cmpi_sge_ofNat (by omega) (by omega)
  rw [e]
  by_cases h : 64 ≤ n <;> simp [Scalar.select, h]

theorem pay2_at (a : Vec Ideal S512x1152 .f32) (b : Vec Ideal S512x128 .f32) (r : Fin 512) (l : Fin 128) :
    (k0_pay2 (F := Ideal) (k0_pay7 a) (k0_pay8 b) (ix3 0 r l) : EReal) = if (l : ℕ) < 64 then
      a (ix2 r ⟨1024 + l, by omega⟩) * b (ix2 r l) + a (ix2 r ⟨1024 + (l + 128 - 64) % 128, by omega⟩) * b (ix2 r ⟨(l + 128 - 64) % 128, by omega⟩) else 0 := by
  pointwise [k0_pay2, k0_pay1, k0_pay7, k0_pay8, k0_pay4]
  exact low _ l l.isLt

theorem pay3_at (a : Vec Ideal S512x1152 .f32) (b : Vec Ideal S512x128 .f32) (r : Fin 512) (l : Fin 128) :
    (k0_pay3 (F := Ideal) (k0_pay7 a) (k0_pay8 b) (ix3 0 r l) : EReal) = if 64 ≤ (l : ℕ) then
      a (ix2 r ⟨1024 + l, by omega⟩) * b (ix2 r l) + a (ix2 r ⟨1024 + (l + 128 - 64) % 128, by omega⟩) * b (ix2 r ⟨(l + 128 - 64) % 128, by omega⟩) else 0 := by
  pointwise [k0_pay3, k0_pay1, k0_pay7, k0_pay8, k0_pay4]
  exact high _ l l.isLt

/-- The buffers' contents after the first `n` lines of the host. -/
def upTo (c : Dev nD) (n : ℕ) : Valuation τ sig (Elt Ideal) :=
  StableHlo.after ((hostOps0 (F := Ideal)).take n) (fun b => m (c, b))

theorem after_split (l k : List (HloOp τ sig (Elt Ideal))) (σ : Valuation τ sig (Elt Ideal)) :
    StableHlo.after (l ++ k) σ = StableHlo.after k (StableHlo.after l σ) := by
  induction l generalizing σ with
  | nil => rfl
  | cons op l ih => exact ih _

theorem keep (c : Dev nD) (n : ℕ) (b : Ref sig .tc) (h : ∀ op ∈ (hostOps0 (F := Ideal)).drop n, Proc.devRef .tc b ∉ op.writes) :
    V m c b = upTo m c n b := by
  refine Eq.trans ?_ (StableHlo.after_of_forall_not_mem (b := Proc.devRef .tc b) _ _ h)
  unfold upTo
  rw [← after_split, List.take_append_drop]

theorem step (c : Dev nD) (n : ℕ) (op : HloOp τ sig (Elt Ideal)) (h : (hostOps0 (F := Ideal))[n]? = some op) :
    upTo m c (n + 1) = StableHlo.after [op] (upTo m c n) := by
  unfold upTo
  rw [← after_split, List.take_add_one, h]
  rfl

theorem kept_v21 (c : Dev nD) : V m c main_v21 = upTo m c 28 main_v21 :=
  keep m c 28 main_v21 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem kept_v22 (c : Dev nD) : V m c main_v22 = upTo m c 28 main_v22 :=
  keep m c 28 main_v22 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem kept_v23 (c : Dev nD) : V m c main_v23 = upTo m c 28 main_v23 :=
  keep m c 28 main_v23 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem kept_v24 (c : Dev nD) : V m c main_v24 = upTo m c 29 main_v24 :=
  keep m c 29 main_v24 (List.forall_iff_forall_mem.mp (by
    simp only [hostOps0, List.drop_succ_cons, List.drop_zero, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem table_of (c : Dev nD) : V m c main_v24 = table angs := by
  have e21 : V m c main_v21 = Host.cos angs := by entry_read; rfl
  have e22 : V m c main_v22 = Host.sin angs := by entry_read; rfl
  have e23 : V m c main_v23 = Host.negf (Host.sin angs : FVec Ideal S2048x32 .f32) := by entry_read; rfl
  have e24 : V m c main_v24 = concatenate S2048x128 1 [⟨S2048x32, (V m c main_v21 : (⟨S2048x32, .f32⟩ : BufTy).Contents (Elt Ideal))⟩, ⟨S2048x32, (V m c main_v21 : (⟨S2048x32, .f32⟩ : BufTy).Contents (Elt Ideal))⟩,
      ⟨S2048x32, (V m c main_v23 : (⟨S2048x32, .f32⟩ : BufTy).Contents (Elt Ideal))⟩, ⟨S2048x32, (V m c main_v22 : (⟨S2048x32, .f32⟩ : BufTy).Contents (Elt Ideal))⟩]
      concatenates_S2048x32_S2048x32_S2048x32_S2048x32_S2048x128_d1 := by
    rw [kept_v21, kept_v22, kept_v23, kept_v24, step m c 28 _ rfl]
    generalize upTo m c 28 = σ
    rfl
  rw [e24, e21, e22, e23]
  rfl

theorem wide_of (c : Dev nD) : V m c main_v4 = wide (m ((c : Thread nD τ).loc main_arg0)) := by
  entry_read; rfl

theorem scale_v27 (c : Dev nD) : V m c main_v27 = m ((c : Thread nD τ).loc main_arg1) := by
  have e : V m c main_v27 = shapeCast S1x512 (shapeCast S512 (m ((c : Thread nD τ).loc main_arg1)) shapeCasts_S1x512_S512) shapeCasts_S512_S1x512 := by entry_read; rfl
  rw [e]
  exact funext fun y => (congrArg _ (eq_ix2 y)).trans (by pointwise)

theorem scale_v28 (c : Dev nD) : V m c main_v28 = m ((c : Thread nD τ).loc main_arg2) := by
  have e : V m c main_v28 = shapeCast S1x512 (shapeCast S512 (m ((c : Thread nD τ).loc main_arg2)) shapeCasts_S1x512_S512) shapeCasts_S512_S1x512 := by entry_read; rfl
  rw [e]
  exact funext fun y => (congrArg _ (eq_ix2 y)).trans (by pointwise)

theorem final4 (c : Dev nD) : (dats m 0 c).arrAt 4 (cfgs 0).N
    = queries (m ((c : Thread nD τ).loc main_arg0)) (m ((c : Thread nD τ).loc main_arg1)) := by
  refine (dats m 0 c).arrAt_eq_of_covers 4 _ (by decide +kernel) fun t _ y => ?_
  blk_simp
  rw [after0_4]; frame_out
  have hy0 : (((View.whole main_v29_0).slice (win0_4.rect t)).emb y 0 : ℕ) = t.val * 512 + y 0 := by blk_simp [idx t]
  have hy1 : ((View.whole main_v29_0).slice (win0_4.rect t)).emb y 1 = y 1 := Fin.ext (by blk_simp [idx t])
  refine (congrArg (k0_pay5 _ _) (eq_ix2 y)).trans ((pay5_at _ _ _ _).trans ?_)
  show _ = rms _ _ (((View.whole main_v29_0).slice (win0_4.rect t)).emb y 1)
  rw [hy1]
  refine congrArg₂ (fun a b => rms a b (y 1)) (funext fun e => ?_) (funext fun e => ?_)
  · refine Eq.trans ?_ (wide_lo (m ((c : Thread nD τ).loc main_arg0)) (((View.whole main_v29_0).slice (win0_4.rect t)).emb y 0) ⟨e, by omega⟩)
    blk_simp [iblk]
    rw [wide_of]
    refine read2 (wide (m ((c : Thread nD τ).loc main_arg0))) _ _ ⟨e, by omega⟩ ?_ ?_
    · rw [hy0]; blk_simp [idx t]
    · blk_simp [idx t]
  · blk_simp [iblk]
    rw [scale_v27]
    refine read2 (m ((c : Thread nD τ).loc main_arg1)) _ 0 e ?_ ?_
    · blk_simp [idx t]
    · blk_simp [idx t]

theorem final5 (c : Dev nD) : (dats m 0 c).arrAt 5 (cfgs 0).N
    = pairs (m ((c : Thread nD τ).loc main_arg0)) (m ((c : Thread nD τ).loc main_arg2)) := by
  refine (dats m 0 c).arrAt_eq_of_covers 5 _ (by decide +kernel) fun t _ y => ?_
  blk_simp
  rw [after0_5]; frame_out
  have hy0 : (((View.whole main_v29_1).slice (win0_5.rect t)).emb y 0 : ℕ) = t.val * 512 + y 0 := by blk_simp [idx t]
  have hy1 : ((View.whole main_v29_1).slice (win0_5.rect t)).emb y 1 = y 1 := Fin.ext (by blk_simp [idx t])
  refine (congrArg (k0_pay6 _ _) (eq_ix2 y)).trans ((pay6_at _ _ _ _).trans ?_)
  show _ = rms _ _ (((View.whole main_v29_1).slice (win0_5.rect t)).emb y 1)
  rw [hy1]
  refine congrArg₂ (fun a b => rms a b (y 1)) (funext fun e => ?_) (funext fun e => ?_)
  · refine Eq.trans ?_ (wide_lo (m ((c : Thread nD τ).loc main_arg0)) (((View.whole main_v29_1).slice (win0_5.rect t)).emb y 0) ⟨512 + e, by omega⟩)
    blk_simp [iblk]
    rw [wide_of]
    refine read2 (wide (m ((c : Thread nD τ).loc main_arg0))) _ _ ⟨512 + e, by omega⟩ ?_ ?_
    · rw [hy0]; blk_simp [idx t]
    · blk_simp [idx t]
  · blk_simp [iblk]
    rw [scale_v28]
    refine read2 (m ((c : Thread nD τ).loc main_arg2)) _ 0 e ?_ ?_
    · blk_simp [idx t]
    · blk_simp [idx t]

/-- A row of a point's block is a row of the whole array. -/
theorem rows (c : Dev nD) (t : Fin cfg0.N) (r : Fin 512) (d d' : Fin 1152) (R : Fin 8192) (hR : (R : ℕ) = t.val * 512 + r) (hd : (d : ℕ) = d') :
    (View.ld (iblk m c 0 t) r0_0 (ix2 r d) : EReal) = wide (m ((c : Thread nD τ).loc main_arg0)) (ix2 R d') := by
  pointwise
  blk_simp [iblk]
  rw [wide_of]
  refine read2 (wide (m ((c : Thread nD τ).loc main_arg0))) _ R d' ?_ ?_
  · rw [hR]; blk_simp [idx t]
  · rw [← hd]; blk_simp [idx t]

/-- A row of a point's part of the table is the table's at the row's position. -/
theorem angles (c : Dev nD) (t : Fin cfg0.N) (r : Fin 512) (d d' : Fin 128) (p : Fin 2048) (hp : (p : ℕ) = t.val % 4 * 512 + r) (hd : (d : ℕ) = d') :
    (View.ld (iblk m c 3 t) r0_3 (ix2 r d) : EReal) = table angs (ix2 p d') := by
  pointwise
  blk_simp [iblk]
  rw [table_of]
  refine read2 (table angs) _ p d' ?_ ?_
  · rw [hp]; blk_simp [idx t]
  · rw [← hd]; blk_simp [idx t]

theorem final6 (c : Dev nD) : (dats m 0 c).arrAt 6 (cfgs 0).N
    = keys (m ((c : Thread nD τ).loc main_arg0)) := by
  refine (dats m 0 c).arrAt_eq_of_covers 6 _ (by decide +kernel) fun t _ y => ?_
  blk_simp
  rw [after0_6]
  unfold_out out0_6
  have hy0 : (((View.whole main_v29_2).slice (win0_6.rect t)).emb y 0 : ℕ) = y 0 := by blk_simp [idx t]
  have hy1 : (((View.whole main_v29_2).slice (win0_6.rect t)).emb y 1 : ℕ) = t.val * 512 + y 1 := by blk_simp [idx t]
  have hy2 : (((View.whole main_v29_2).slice (win0_6.rect t)).emb y 2 : ℕ) = y 2 := by blk_simp [idx t]
  canon_tiles z h
  · idx_vars z
    have ez : z0 = 0 := Subsingleton.elim _ _
    subst ez
    refine (pay3_at _ _ z1 z2).trans ?_
    have e0 : ((View.whole main_v29_2).slice (win0_6.rect t)).emb y 0 = (1 : Fin 2) := Fin.ext (hy0.trans h0)
    have e2 : ((View.whole main_v29_2).slice (win0_6.rect t)).emb y 2 = z2 := Fin.ext (hy2.trans h2)
    show _ = lane _ (((View.whole main_v29_2).slice (win0_6.rect t)).emb y 0) (((View.whole main_v29_2).slice (win0_6.rect t)).emb y 1) (((View.whole main_v29_2).slice (win0_6.rect t)).emb y 2)
    rw [e0, e2]
    unfold lane
    by_cases hl : 64 ≤ (z2 : ℕ)
    · rw [if_pos hl, if_pos (show ((1 : Fin 2) : ℕ) * 64 ≤ z2 ∧ (z2 : ℕ) < ((1 : Fin 2) : ℕ) * 64 + 64 by simp only [Fin.val_one]; omega)]
      refine Eq.trans ?_ (core (m ((c : Thread nD τ).loc main_arg0)) angs _ _ _)
      rw [add_comm]
      refine congrArg₂ (fun a b : EReal => a + b) (congrArg₂ (fun a b : EReal => a * b) (rows m c t z1 _ _ _ ?_ ?_) (angles m c t z1 _ _ _ ?_ ?_)) (congrArg₂ (fun a b : EReal => a * b) (rows m c t z1 _ _ _ ?_ ?_) (angles m c t z1 _ _ _ ?_ ?_))
      all_goals first | (rw [hy1, h1]) | (unfold pos; dsimp only; rw [hy1, h1]; have := t.isLt; omega) | (dsimp only; omega)
    · rw [if_neg hl, if_neg (show ¬ (((1 : Fin 2) : ℕ) * 64 ≤ z2 ∧ (z2 : ℕ) < ((1 : Fin 2) : ℕ) * 64 + 64) by simp only [Fin.val_one]; omega)]
  · idx_vars z
    have ez : z0 = 0 := Subsingleton.elim _ _
    subst ez
    refine (pay2_at _ _ z1 z2).trans ?_
    have e0 : ((View.whole main_v29_2).slice (win0_6.rect t)).emb y 0 = (0 : Fin 2) := Fin.ext (hy0.trans h0)
    have e2 : ((View.whole main_v29_2).slice (win0_6.rect t)).emb y 2 = z2 := Fin.ext (hy2.trans h2)
    show _ = lane _ (((View.whole main_v29_2).slice (win0_6.rect t)).emb y 0) (((View.whole main_v29_2).slice (win0_6.rect t)).emb y 1) (((View.whole main_v29_2).slice (win0_6.rect t)).emb y 2)
    rw [e0, e2]
    unfold lane
    by_cases hl : (z2 : ℕ) < 64
    · rw [if_pos hl, if_pos (show ((0 : Fin 2) : ℕ) * 64 ≤ z2 ∧ (z2 : ℕ) < ((0 : Fin 2) : ℕ) * 64 + 64 by simp only [Fin.val_zero]; omega)]
      refine Eq.trans ?_ (core (m ((c : Thread nD τ).loc main_arg0)) angs _ _ _)
      refine congrArg₂ (fun a b : EReal => a + b) (congrArg₂ (fun a b : EReal => a * b) (rows m c t z1 _ _ _ ?_ ?_) (angles m c t z1 _ _ _ ?_ ?_)) (congrArg₂ (fun a b : EReal => a * b) (rows m c t z1 _ _ _ ?_ ?_) (angles m c t z1 _ _ _ ?_ ?_))
      all_goals first | (rw [hy1, h1]) | (unfold pos; dsimp only; rw [hy1, h1]; have := t.isLt; omega) | (dsimp only; omega)
    · rw [if_neg hl, if_neg (show ¬ (((0 : Fin 2) : ℕ) * 64 ≤ z2 ∧ (z2 : ℕ) < ((0 : Fin 2) : ℕ) * 64 + 64) by simp only [Fin.val_zero]; omega)]

/-- The call computes the reference's three results. -/
theorem algebraic : Cert.algebraic_MlaPrepIdeal_MlaPrepRefIdeal := by
  pair_intro
  · run_from Cert.MlaPrepIdeal.Gen.run_main m g
  · run_from Cert.MlaPrepRefIdeal.Value.run m' g'
    · refine Eq.trans ?_ (final4 m c).symm
      obtain ⟨h0, h1, h2⟩ := hagree c
      rw [← h0, ← h1]
      refine Eq.trans (b := refQueries (m' ((c.tc : Thread _ _).loc Cert.MlaPrepRefIdeal.main_arg0)) (m' ((c.tc : Thread _ _).loc Cert.MlaPrepRefIdeal.main_arg1))) rfl ?_
      funext y
      exact (congrArg (refQueries _ _) (eq_ix2 y)).trans ((queries_at _ _ _ _).trans (congrArg (queries _ _) (eq_ix2 y).symm))
    · refine Eq.trans ?_ (final5 m c).symm
      obtain ⟨h0, h1, h2⟩ := hagree c
      rw [← h0, ← h2]
      refine Eq.trans (b := refPairs (m' ((c.tc : Thread _ _).loc Cert.MlaPrepRefIdeal.main_arg0)) (m' ((c.tc : Thread _ _).loc Cert.MlaPrepRefIdeal.main_arg2))) rfl ?_
      funext y
      exact (congrArg (refPairs _ _) (eq_ix2 y)).trans ((pairs_at _ _ _ _).trans (congrArg (pairs _ _) (eq_ix2 y).symm))
    · refine Eq.trans ?_ (final6 m c).symm
      obtain ⟨h0, h1, h2⟩ := hagree c
      rw [← h0]
      refine Eq.trans (b := refKeys (m' ((c.tc : Thread _ _).loc Cert.MlaPrepRefIdeal.main_arg0))) rfl ?_
      funext y
      exact (congrArg (refKeys _) (eq_ix3 y)).trans ((keys_at _ _ _ _).trans (congrArg (keys _) (eq_ix3 y).symm))

end Cert.MlaPrepProof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.MobaProj.Frame
public import proofs.«01_k».proof.Proof.Gen.MobaProjIdeal.Frame
public import proofs.«01_k».proof.Proof.Gen.MobaProjIdeal.Value
public import proofs.«01_k».proof.Proof.Gen.MobaProjRefIdeal
public import proofs.«01_k».proof.Proof.Gen.MobaProjRefIdeal.Run
public import proofs.«01_k».proof.Proof.Gen.SwaProj.Frame
public import proofs.«01_k».proof.Proof.Gen.SwaProjIdeal.Frame
public import proofs.«01_k».proof.Proof.Gen.SwaProjIdeal.Value
public import proofs.«01_k».proof.Proof.Gen.SwaProjRefIdeal
public import proofs.«01_k».proof.Proof.Gen.SwaProjRefIdeal.Run
public import proofs.«01_k».proof.Proof.Gen.NsaProj.Frame
public import proofs.«01_k».proof.Proof.Gen.NsaProjIdeal.Frame
public import proofs.«01_k».proof.Proof.Gen.NsaProjIdeal.Value
public import proofs.«01_k».proof.Proof.Gen.NsaProjRefIdeal
public import proofs.«01_k».proof.Proof.Gen.NsaProjRefIdeal.Run
public import proofs.«01_k».proof.Proof.Gen.MlaDown.Frame
public import proofs.«01_k».proof.Proof.Gen.MlaDownIdeal.Frame
public import proofs.«01_k».proof.Proof.Gen.MlaDownIdeal.Value
public import proofs.«01_k».proof.Proof.Gen.MlaDownRefIdeal
public import proofs.«01_k».proof.Proof.Gen.MlaDownRefIdeal.Run
public import proofs.«01_k».proof.Proof.Gen.MlaQuery.Frame
public import proofs.«01_k».proof.Proof.Gen.MlaQueryIdeal.Frame
public import proofs.«01_k».proof.Proof.Gen.MlaQueryIdeal.Value
public import proofs.«01_k».proof.Proof.Gen.MlaQueryRefIdeal
public import proofs.«01_k».proof.Proof.Gen.MlaQueryRefIdeal.Run
public import proofs.«01_k».proof.Proof.Gen.MlaPairs.Frame
public import proofs.«01_k».proof.Proof.Gen.MlaPairsIdeal.Frame
public import proofs.«01_k».proof.Proof.Gen.MlaPairsIdeal.Value
public import proofs.«01_k».proof.Proof.Gen.MlaPairsRefIdeal
public import proofs.«01_k».proof.Proof.Gen.MlaPairsRefIdeal.Run
public import proofs.«01_k».proof.Proof.Gen.MlaPrep.Frame
public import proofs.«01_k».proof.Proof.Gen.MlaPrepIdeal.Frame
public import proofs.«01_k».proof.Proof.Gen.MlaPrepIdeal.Value
public import proofs.«01_k».proof.Proof.Gen.MlaPrepRefIdeal
public import proofs.«01_k».proof.Proof.Gen.MlaPrepRefIdeal.Run
public import proofs.«01_k».proof.Proof.Gen.Pre_finite
public import proofs.«01_k».proof.Proof.AttnClaim
public import proofs.«01_k».proof.Proof.FfnUpValue
public import proofs.«01_k».proof.Proof.FfnDownClaim
public import proofs.«01_k».proof.Proof.OutProjClaim
public import proofs.«01_k».proof.Proof.MobaProjValue
public import proofs.«01_k».proof.Proof.SwaProjValue
public import proofs.«01_k».proof.Proof.NsaProjValue
public import proofs.«01_k».proof.Proof.MlaDownValue
public import proofs.«01_k».proof.Proof.MlaQueryValue
public import proofs.«01_k».proof.Proof.MlaPairsValue
public import proofs.«01_k».proof.Proof.MlaPrepValue
public import Idealize.ShloMosaic.Lib.Claim

/-! The certificate's claim, assembled: per program its frame, the named constants of the attention's
idealised kernel, and one value equation per call, each proved in a module of its own. -/

@[expose] public section

noncomputable section

namespace Cert.Proof

open Idealize.ShloMosaic Idealize.SL.Sem

/-- The reference `ReferenceIdeal` runs and leaves its arguments as they were: its generated run, read at them. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference `ReferenceIdeal` runs and leaves its arguments as they were: its generated run, read at them. -/
theorem frame_ReferenceIdeal_pre_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference `FfnUpRefIdeal` runs and leaves its arguments as they were: its generated run, read at them. -/
theorem frame_FfnUpRefIdeal : Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run (F := Ideal) m ρ)

/-- The reference `FfnDownRefIdeal` runs and leaves its arguments as they were: its generated run, read at them. -/
theorem frame_FfnDownRefIdeal : Cert.quiescent_FfnDownRefIdeal := fun m ρ _ =>
  (θ_run Cert.FfnDownRefIdeal.defs _ _).mono (fun r h => ⟨fun c => (h c).2.2, sem_eq_zero_of_no_sems (by decide) r.2⟩)
    (Cert.FfnDownRefIdeal.Value.run (F := Ideal) m ρ)

/-- The reference `OutProjRefIdeal` runs and leaves its arguments as they were: its generated run, read at them. -/
theorem frame_OutProjRefIdeal : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

/-- The reference `MobaProjRefIdeal` runs and leaves its arguments as they were: its generated run, read at them. -/
theorem frame_MobaProjRefIdeal : Cert.quiescent_MobaProjRefIdeal := fun m ρ _ =>
  (θ_run Cert.MobaProjRefIdeal.defs _ _).mono (fun r h => ⟨fun c => (h c).2, sem_eq_zero_of_no_sems (by decide) r.2⟩)
    (Cert.MobaProjRefIdeal.Value.run (F := Ideal) m ρ)

/-- The reference `SwaProjRefIdeal` runs and leaves its arguments as they were: its generated run, read at them. -/
theorem frame_SwaProjRefIdeal : Cert.quiescent_SwaProjRefIdeal := fun m ρ _ =>
  (θ_run Cert.SwaProjRefIdeal.defs _ _).mono (fun r h => ⟨fun c => (h c).2, sem_eq_zero_of_no_sems (by decide) r.2⟩)
    (Cert.SwaProjRefIdeal.Value.run (F := Ideal) m ρ)

/-- The reference `NsaProjRefIdeal` runs and leaves its arguments as they were: its generated run, read at them. -/
theorem frame_NsaProjRefIdeal : Cert.quiescent_NsaProjRefIdeal := fun m ρ _ =>
  (θ_run Cert.NsaProjRefIdeal.defs _ _).mono (fun r h => ⟨fun c => (h c).2, sem_eq_zero_of_no_sems (by decide) r.2⟩)
    (Cert.NsaProjRefIdeal.Value.run (F := Ideal) m ρ)

/-- The reference `MlaDownRefIdeal` runs and leaves its arguments as they were: its generated run, read at them. -/
theorem frame_MlaDownRefIdeal : Cert.quiescent_MlaDownRefIdeal := fun m ρ _ =>
  (θ_run Cert.MlaDownRefIdeal.defs _ _).mono (fun r h => ⟨fun c => (h c).2, sem_eq_zero_of_no_sems (by decide) r.2⟩)
    (Cert.MlaDownRefIdeal.Value.run (F := Ideal) m ρ)

/-- The reference `MlaQueryRefIdeal` runs and leaves its arguments as they were: its generated run, read at them. -/
theorem frame_MlaQueryRefIdeal : Cert.quiescent_MlaQueryRefIdeal := fun m ρ _ =>
  (θ_run Cert.MlaQueryRefIdeal.defs _ _).mono (fun r h => ⟨fun c => (h c).2, sem_eq_zero_of_no_sems (by decide) r.2⟩)
    (Cert.MlaQueryRefIdeal.Value.run (F := Ideal) m ρ)

/-- The reference `MlaPairsRefIdeal` runs and leaves its arguments as they were: its generated run, read at them. -/
theorem frame_MlaPairsRefIdeal : Cert.quiescent_MlaPairsRefIdeal := fun m ρ _ =>
  (θ_run Cert.MlaPairsRefIdeal.defs _ _).mono (fun r h => ⟨fun c => (h c).2, sem_eq_zero_of_no_sems (by decide) r.2⟩)
    (Cert.MlaPairsRefIdeal.Value.run (F := Ideal) m ρ)

/-- The reference `MlaPrepRefIdeal` runs and leaves its arguments as they were: its generated run, read at them. -/
theorem frame_MlaPrepRefIdeal : Cert.quiescent_MlaPrepRefIdeal := fun m ρ _ =>
  (θ_run Cert.MlaPrepRefIdeal.defs _ _).mono (fun r h => ⟨fun c => (h c).2.2.2, sem_eq_zero_of_no_sems (by decide) r.2⟩)
    (Cert.MlaPrepRefIdeal.Value.run (F := Ideal) m ρ)

theorem claim : Cert.Claim :=
  ⟨Cert.Kernel.Gen.facts,
    Cert.KernelIdeal.Gen.facts,
    Cert.ReferenceIdeal.Gen.facts,
    Cert.FfnUp.Gen.facts,
    Cert.FfnUpIdeal.Gen.facts,
    Cert.FfnUpRefIdeal.Gen.facts,
    Cert.FfnDown.Gen.facts,
    Cert.FfnDownIdeal.Gen.facts,
    Cert.FfnDownRefIdeal.Gen.facts,
    Cert.OutProj.Gen.facts,
    Cert.OutProjIdeal.Gen.facts,
    Cert.OutProjRefIdeal.Gen.facts,
    Cert.MobaProj.Gen.facts,
    Cert.MobaProjIdeal.Gen.facts,
    Cert.MobaProjRefIdeal.Gen.facts,
    Cert.SwaProj.Gen.facts,
    Cert.SwaProjIdeal.Gen.facts,
    Cert.SwaProjRefIdeal.Gen.facts,
    Cert.NsaProj.Gen.facts,
    Cert.NsaProjIdeal.Gen.facts,
    Cert.NsaProjRefIdeal.Gen.facts,
    Cert.MlaDown.Gen.facts,
    Cert.MlaDownIdeal.Gen.facts,
    Cert.MlaDownRefIdeal.Gen.facts,
    Cert.MlaQuery.Gen.facts,
    Cert.MlaQueryIdeal.Gen.facts,
    Cert.MlaQueryRefIdeal.Gen.facts,
    Cert.MlaPairs.Gen.facts,
    Cert.MlaPairsIdeal.Gen.facts,
    Cert.MlaPairsRefIdeal.Gen.facts,
    Cert.MlaPrep.Gen.facts,
    Cert.MlaPrepIdeal.Gen.facts,
    Cert.MlaPrepRefIdeal.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    frame_ReferenceIdeal,
    frame_ReferenceIdeal_pre_finite,
    fun m ρ _ => Cert.FfnUp.Gen.frame m ρ,
    fun m ρ _ => Cert.FfnUpIdeal.Gen.frame m ρ,
    frame_FfnUpRefIdeal,
    fun m ρ _ => Cert.FfnDown.Gen.frame m ρ,
    fun m ρ _ => Cert.FfnDownIdeal.Gen.frame m ρ,
    frame_FfnDownRefIdeal,
    fun m ρ _ => Cert.OutProj.Gen.frame m ρ,
    fun m ρ _ => Cert.OutProjIdeal.Gen.frame m ρ,
    frame_OutProjRefIdeal,
    fun m ρ _ => Cert.MobaProj.Gen.frame m ρ,
    fun m ρ _ => Cert.MobaProjIdeal.Gen.frame m ρ,
    frame_MobaProjRefIdeal,
    fun m ρ _ => Cert.SwaProj.Gen.frame m ρ,
    fun m ρ _ => Cert.SwaProjIdeal.Gen.frame m ρ,
    frame_SwaProjRefIdeal,
    fun m ρ _ => Cert.NsaProj.Gen.frame m ρ,
    fun m ρ _ => Cert.NsaProjIdeal.Gen.frame m ρ,
    frame_NsaProjRefIdeal,
    fun m ρ _ => Cert.MlaDown.Gen.frame m ρ,
    fun m ρ _ => Cert.MlaDownIdeal.Gen.frame m ρ,
    frame_MlaDownRefIdeal,
    fun m ρ _ => Cert.MlaQuery.Gen.frame m ρ,
    fun m ρ _ => Cert.MlaQueryIdeal.Gen.frame m ρ,
    frame_MlaQueryRefIdeal,
    fun m ρ _ => Cert.MlaPairs.Gen.frame m ρ,
    fun m ρ _ => Cert.MlaPairsIdeal.Gen.frame m ρ,
    frame_MlaPairsRefIdeal,
    fun m ρ _ => Cert.MlaPrep.Gen.frame m ρ,
    fun m ρ _ => Cert.MlaPrepIdeal.Gen.frame m ρ,
    frame_MlaPrepRefIdeal,
    IdealRules.named_const.statement Cert.KernelIdeal.κ "mask" .f32 0xF149F2CA#32 ⊥ rfl,
    AttnProof.algebraic,
    trivial,
    FfnUpProof.algebraic,
    trivial,
    FfnDownProof.algebraic,
    trivial,
    OutProjProof.algebraic,
    trivial,
    MobaProjProof.algebraic,
    trivial,
    SwaProjProof.algebraic,
    trivial,
    NsaProjProof.algebraic,
    trivial,
    MlaDownProof.algebraic,
    trivial,
    MlaQueryProof.algebraic,
    trivial,
    MlaPairsProof.algebraic,
    trivial,
    MlaPrepProof.algebraic⟩

end Cert.Proof

end
